-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "score_scale" .f32 0x3E16C740#32 (((Real.sqrt 96)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)) (v3 : (c : Dev Cert.Kernel4Ideal.nD) → Buf (Elt Ideal) ((c.tc : Thread Cert.Kernel4Ideal.nD Cert.Kernel4Ideal.τ).loc Cert.Kernel4Ideal.main_v14_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_v14_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_v48) = v1 c
          ∧ r.2.mem ((c.tc : Thread Cert.Reference4Ideal.nD Cert.Reference4Ideal.τ).loc Cert.Reference4Ideal.main_v49) = v2 c
          ∧ r.2.mem ((c.tc : Thread Cert.Reference4Ideal.nD Cert.Reference4Ideal.τ).loc Cert.Reference4Ideal.main_v50) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
-- ==== Pre_finite.lean ====
abbrev S32x2048x384 : Shape := ⟨3, ![32, 2048, 384]⟩
abbrev S32x2048x256 : Shape := ⟨3, ![32, 2048, 256]⟩
abbrev S32x2048x32 : Shape := ⟨3, ![32, 2048, 32]⟩
abbrev S32x2048 : Shape := ⟨2, ![32, 2048]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S_ : Shape := ⟨0, ![]⟩

class Facts : Prop where
  bcast_S_S32x2048x32 : S_.BroadcastsInDim S32x2048x32 (![] : Fin 0 → Fin S32x2048x32.rank)
  bcast_S_S384 : S_.BroadcastsInDim S384 (![] : Fin 0 → Fin S384.rank)
  bcast_S_S256 : S_.BroadcastsInDim S256 (![] : Fin 0 → Fin S256.rank)
  bcast_S_S384x768 : S_.BroadcastsInDim S384x768 (![] : Fin 0 → Fin S384x768.rank)
  bcast_S_S256x1024 : S_.BroadcastsInDim S256x1024 (![] : Fin 0 → Fin S256x1024.rank)

variable [Facts]

def fn {F : FTy → Type} [FloatOps F] (main_arg0 : FVec F S32x2048x384 .f32) (main_arg1 : FVec F S32x2048x256 .f32) (main_arg2 : FVec F S32x2048x32 .f32) (main_arg3 : IVec S32x2048 32) (main_arg4 : FVec F S384 .f32) (main_arg5 : FVec F S256 .f32) (main_arg6 : FVec F S384x768 .f32) (main_arg7 : FVec F S256x1024 .f32) : IVec S32x2048x32 1 × IVec S384 1 × IVec S256 1 × IVec S384x768 1 × IVec S256x1024 1 :=
  let main_v0 : FVec F S32x2048x32 .f32 := Host.absf main_arg2
  let main_cst : FVec F S_ .f32 := constant S_ .f32 0x7F800000#32
  let main_v1 : FVec F S32x2048x32 .f32 := broadcastInDim S32x2048x32 ![] bcast_S_S32x2048x32 main_cst
  let main_v2 : IVec S32x2048x32 1 := cmpf .olt main_v0 main_v1
  let main_v3 : FVec F S384 .f32 := Host.absf main_arg4
  let main_cst_0 : FVec F S_ .f32 := constant S_ .f32 0x7F800000#32
  let main_v4 : FVec F S384 .f32 := broadcastInDim S384 ![] bcast_S_S384 main_cst_0
  let main_v5 : IVec S384 1 := cmpf .olt main_v3 main_v4
  let main_v6 : FVec F S256 .f32 := Host.absf main_arg5
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S384x768 .f32 := Host.absf main_arg6
  let main_cst_2 : FVec F S_ .f32 := constant S_ .f32 0x7F800000#32
  let main_v10 : FVec F S384x768 .f32 := broadcastInDim S384x768 ![] bcast_S_S384x768 main_cst_2
  let main_v11 : IVec S384x768 1 := cmpf .olt main_v9 main_v10
  let main_v12 : FVec F S256x1024 .f32 := Host.absf main_arg7
  let main_cst_3 : FVec F S_ .f32 := constant S_ .f32 0x7F800000#32
  let main_v13 : FVec F S256x1024 .f32 := broadcastInDim S256x1024 ![] bcast_S_S256x1024 main_cst_3
  let main_v14 : IVec S256x1024 1 := cmpf .olt main_v12 main_v13
  (main_v2, main_v5, main_v8, main_v11, main_v14)
-- ==== Pre_finite4.lean ====
abbrev S32x2048x1024 : Shape := ⟨3, ![32, 2048, 1024]⟩
abbrev S32x6144 : Shape := ⟨2, ![32, 6144]⟩
abbrev S1024x4640 : Shape := ⟨2, ![1024, 4640]⟩
abbrev S3x1920 : Shape := ⟨2, ![3, 1920]⟩
abbrev S_ : Shape := ⟨0, ![]⟩
abbrev S32x2048 : Shape := ⟨2, ![32, 2048]⟩
abbrev S1024x16 : Shape := ⟨2, ![1024, 16]⟩

class Facts : Prop where
  bcast_S_S32x2048x1024 : S_.BroadcastsInDim S32x2048x1024 (![] : Fin 0 → Fin S32x2048x1024.rank)
  slices_S32x6144_S32x2048_0_0 : S32x6144.Slices ![0, 0] S32x2048
  bcast_S_S32x2048 : S_.BroadcastsInDim S32x2048 (![] : Fin 0 → Fin S32x2048.rank)
  slices_S1024x4640_S1024x16_0_2576 : S1024x4640.Slices ![0, 2576] S1024x16
  bcast_S_S1024x16 : S_.BroadcastsInDim S1024x16 (![] : Fin 0 → Fin S1024x16.rank)

variable [Facts]

def fn {F : FTy → Type} [FloatOps F] (main_arg0 : FVec F S32x2048x1024 .f32) (main_arg1 : FVec F S32x6144 .f32) (main_arg2 : FVec F S1024x4640 .f32) (main_arg3 : FVec F S3x1920 .f32) : IVec S32x2048x1024 1 × IVec S32x2048 1 × IVec S1024x16 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_v3 : FVec F S32x2048 .f32 := (extractStridedSlice S32x2048 ![0, 0] · slices_S32x6144_S32x2048_0_0) main_arg1
  let main_v4 : FVec F S32x2048 .f32 := Host.absf main_v3
  let main_cst_0 : FVec F S_ .f32 := constant S_ .f32 0x7F800000#32
  let main_v5 : FVec F S32x2048 .f32 := broadcastInDim S32x2048 ![] bcast_S_S32x2048 main_cst_0
  let main_v6 : IVec S32x2048 1 := cmpf .olt main_v4 main_v5
  let main_v7 : FVec F S1024x16 .f32 := (extractStridedSlice S1024x16 ![0, 2576] · slices_S1024x4640_S1024x16_0_2576) main_arg2
  let main_v8 : FVec F S1024x16 .f32 := Host.absf main_v7
  let main_cst_1 : FVec F S_ .f32 := constant S_ .f32 0x7F800000#32
  let main_v9 : FVec F S1024x16 .f32 := broadcastInDim S1024x16 ![] bcast_S_S1024x16 main_cst_1
  let main_v10 : IVec S1024x16 1 := cmpf .olt main_v8 main_v9
  (main_v2, main_v6, main_v10)
-- ==== Kernel.lean ====
abbrev S32x2048x384 : Shape := ⟨3, ![32, 2048, 384]⟩
abbrev S32x2048x256 : Shape := ⟨3, ![32, 2048, 256]⟩
abbrev S32x2048x32 : Shape := ⟨3, ![32, 2048, 32]⟩
abbrev S32x2048 : Shape := ⟨2, ![32, 2048]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S16 : Shape := ⟨1, ![16]⟩
abbrev S_ : Shape := ⟨0, ![]⟩
abbrev S32x2048x1 : Shape := ⟨3, ![32, 2048, 1]⟩
abbrev S1x1x16 : Shape := ⟨3, ![1, 1, 16]⟩
abbrev S32x2048x16 : Shape := ⟨3, ![32, 2048, 16]⟩
abbrev S32x2048x64 : Shape := ⟨3, ![32, 2048, 64]⟩
abbrev S32x2048x128 : Shape := ⟨3, ![32, 2048, 128]⟩
abbrev S384x8x96 : Shape := ⟨3, ![384, 8, 96]⟩
abbrev S384x8x64 : Shape := ⟨3, ![384, 8, 64]⟩
abbrev S384x8x16 : Shape := ⟨3, ![384, 8, 16]⟩
abbrev S384x8x32 : Shape := ⟨3, ![384, 8, 32]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S512x256 : Shape := ⟨2, ![512, 256]⟩
abbrev S32x2048x512 : Shape := ⟨3, ![32, 2048, 512]⟩
abbrev S1x384 : Shape := ⟨2, ![1, 384]⟩
abbrev S1x256 : Shape := ⟨2, ![1, 256]⟩
abbrev S1x2048x512 : Shape := ⟨3, ![1, 2048, 512]⟩
abbrev S1x1024x384 : Shape := ⟨3, ![1, 1024, 384]⟩
abbrev S1x2048x128 : Shape := ⟨3, ![1, 2048, 128]⟩
abbrev S1x1024x512 : Shape := ⟨3, ![1, 1024, 512]⟩
abbrev S2048x1024 : Shape := ⟨2, ![2048, 1024]⟩
abbrev S640x2048 : Shape := ⟨2, ![640, 2048]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S512x1024 : Shape := ⟨2, ![512, 1024]⟩
abbrev S1x512x128 : Shape := ⟨3, ![1, 512, 128]⟩
abbrev S512x128 : Shape := ⟨2, ![512, 128]⟩
abbrev S16x512 : Shape := ⟨2, ![16, 512]⟩
abbrev S64x512 : Shape := ⟨2, ![64, 512]⟩
abbrev S80x512 : Shape := ⟨2, ![80, 512]⟩
abbrev S1024x384 : Shape := ⟨2, ![1024, 384]⟩
abbrev S1024 : Shape := ⟨1, ![1024]⟩
abbrev S1024x1 : Shape := ⟨2, ![1024, 1]⟩
abbrev S1024x1024 : Shape := ⟨2, ![1024, 1024]⟩
abbrev S1x1024x128 : Shape := ⟨3, ![1, 1024, 128]⟩
abbrev S1024x128 : Shape := ⟨2, ![1024, 128]⟩
abbrev S1x1024 : Shape := ⟨2, ![1, 1024]⟩
abbrev S80x1024 : Shape := ⟨2, ![80, 1024]⟩
abbrev S64x1024 : Shape := ⟨2, ![64, 1024]⟩
abbrev S1024x512 : Shape := ⟨2, ![1024, 512]⟩

abbrev nBuf : Space → Nat
  | .hbm => 66
  | .vmem => 17
  | .smem => 0
  | _ => 0

abbrev bufTy : (tb : Table) → Fin (tcTables nBuf tb) → BufTy
  | .hbm, ⟨0, _⟩ => ⟨S32x2048x384, .f32⟩
  | .hbm, ⟨1, _⟩ => ⟨S32x2048x256, .f32⟩
  | .hbm, ⟨2, _⟩ => ⟨S32x2048x32, .f32⟩
  | .hbm, ⟨3, _⟩ => ⟨S32x2048, .i32⟩
  | .hbm, ⟨4, _⟩ => ⟨S384, .f32⟩
  | .hbm, ⟨5, _⟩ => ⟨S256, .f32⟩
  | .hbm, ⟨6, _⟩ => ⟨S384x768, .f32⟩
  | .hbm, ⟨7, _⟩ => ⟨S256x1024, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S32x2048, .f32⟩
  | .hbm, ⟨17, _⟩ => ⟨S32x2048x1, .f32⟩
  | .hbm, ⟨18, _⟩ => ⟨S1x1x16, .f32⟩
  | .hbm, ⟨19, _⟩ => ⟨S32x2048x16, .f32⟩
  | .hbm, ⟨20, _⟩ => ⟨S32x2048x16, .f32⟩
  | .hbm, ⟨21, _⟩ => ⟨S32x2048x16, .f32⟩
  | .hbm, ⟨22, _⟩ => ⟨S32x2048x16, .f32⟩
  | .hbm, ⟨23, _⟩ => ⟨S32x2048x16, .f32⟩
  | .hbm, ⟨24, _⟩ => ⟨S_, .f32⟩
  | .hbm, ⟨25, _⟩ => ⟨S32x2048x64, .f32⟩
  | .hbm, ⟨26, _⟩ => ⟨S_, .f32⟩
  | .hbm, ⟨27, _⟩ => ⟨S32x2048x64, .f32⟩
  | .hbm, ⟨28, _⟩ => ⟨S_, .f32⟩
  | .hbm, ⟨29, _⟩ => ⟨S32x2048x32, .f32⟩
  | .hbm, ⟨30, _⟩ => ⟨S32x2048x128, .f32⟩
  | .hbm, ⟨31, _⟩ => ⟨S32x2048x128, .f32⟩
  | .hbm, ⟨32, _⟩ => ⟨S384x8x96, .f32⟩
  | .hbm, ⟨33, _⟩ => ⟨S384x8x64, .f32⟩
  | .hbm, ⟨34, _⟩ => ⟨S384x8x16, .f32⟩
  | .hbm, ⟨35, _⟩ => ⟨S384x8x16, .f32⟩
  | .hbm, ⟨36, _⟩ => ⟨S_, .f32⟩
  | .hbm, ⟨37, _⟩ => ⟨S384x8x32, .f32⟩
  | .hbm, ⟨38, _⟩ => ⟨S384x8x128, .f32⟩
  | .hbm, ⟨39, _⟩ => ⟨S384x1024, .f32⟩
  | .hbm, ⟨40, _⟩ => ⟨S256x8x128, .f32⟩
  | .hbm, ⟨41, _⟩ => ⟨S_, .f32⟩
  | .hbm, ⟨42, _⟩ => ⟨S256x8x64, .f32⟩
  | .hbm, ⟨43, _⟩ => ⟨S256x8x64, .f32⟩
  | .hbm, ⟨44, _⟩ => ⟨S256x8x128, .f32⟩
  | .hbm, ⟨45, _⟩ => ⟨S256x1024, .f32⟩
  | .hbm, ⟨46, _⟩ => ⟨S256x8x64, .f32⟩
  | .hbm, ⟨47, _⟩ => ⟨S256x512, .f32⟩
  | .hbm, ⟨48, _⟩ => ⟨S512x256, .f32⟩
  | .hbm, ⟨49, _⟩ => ⟨S384x1024, .bf16⟩
  | .hbm, ⟨50, _⟩ => ⟨S256x1024, .bf16⟩
  | .hbm, ⟨51, _⟩ => ⟨S512x256, .bf16⟩
  | .hbm, ⟨52, _⟩ => ⟨S_, .f32⟩
  | .hbm, ⟨53, _⟩ => ⟨S32x2048x64, .f32⟩
  | .hbm, ⟨54, _⟩ => ⟨S_, .f32⟩
  | .hbm, ⟨55, _⟩ => ⟨S32x2048x32, .f32⟩
  | .hbm, ⟨56, _⟩ => ⟨S32x2048x16, .f32⟩
  | .hbm, ⟨57, _⟩ => ⟨S32x2048x16, .f32⟩
  | .hbm, ⟨58, _⟩ => ⟨S32x2048x16, .f32⟩
  | .hbm, ⟨59, _⟩ => ⟨S32x2048x32, .f32⟩
  | .hbm, ⟨60, _⟩ => ⟨S32x2048x512, .f32⟩
  | .hbm, ⟨61, _⟩ => ⟨S32x2048x512, .bf16⟩
  | .hbm, ⟨62, _⟩ => ⟨S32x2048x384, .bf16⟩
  | .hbm, ⟨63, _⟩ => ⟨S1x384, .f32⟩
  | .hbm, ⟨64, _⟩ => ⟨S1x256, .f32⟩
  | .hbm, ⟨65, _⟩ => ⟨S32x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x1024x384, .bf16⟩
  | .local _ .vmem, ⟨3, _⟩ => ⟨S1x1024x384, .bf16⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x384, .f32⟩
  | .local _ .vmem, ⟨9, _⟩ => ⟨S1x256, .f32⟩
  | .local _ .vmem, ⟨10, _⟩ => ⟨S384x1024, .bf16⟩
  | .local _ .vmem, ⟨11, _⟩ => ⟨S256x1024, .bf16⟩
  | .local _ .vmem, ⟨12, _⟩ => ⟨S512x256, .bf16⟩
  | .local _ .vmem, ⟨13, _⟩ => ⟨S1x1024x512, .bf16⟩
  | .local _ .vmem, ⟨14, _⟩ => ⟨S1x1024x512, .bf16⟩
  | .local _ .vmem, ⟨15, _⟩ => ⟨S2048x1024, .bf16⟩
  | .local _ .vmem, ⟨16, _⟩ => ⟨S640x2048, .bf16⟩
  | _, _ => ⟨S32x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_248 : BitVec 32 := 0#32
  let c4_i32 : BitVec 32 := 4#32
  let v552 : BitVec 32 := Scalar.addi c0_i32_248 c4_i32
  let c1_i32_249 : BitVec 32 := 1#32
  ⟨c0_i32_248, v552, c1_i32_249⟩
def k0_mult1 (k0_t1 : Fin k0_t1_loop.trips) : BitVec 32 :=
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  v553
def k0_off1 (k0_t1 : Fin k0_t1_loop.trips) : Fin 3 → Nat :=
  let c0_251 : Index := 0#32
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  let v554 : BitVec 32 := v553
  let v555 : Index := Scalar.indexCast v554
  let c0_252 : Index := 0#32
  ![0, v555.toNat, 0]
def k0_off2 (k0_t1 : Fin k0_t1_loop.trips) : Fin 3 → Nat :=
  let c0_261 : Index := 0#32
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  let v554 : BitVec 32 := v553
  let v578 : Index := Scalar.indexCast v554
  let c0_262 : Index := 0#32
  ![0, v578.toNat, 0]
def k0_off3 (k0_t1 : Fin k0_t1_loop.trips) : Fin 2 → Nat :=
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  let v554 : BitVec 32 := v553
  let v592 : Index := Scalar.indexCast v554
  let c0_265 : Index := 0#32
  ![v592.toNat, 0]
def k0_off4 (k0_t1 : Fin k0_t1_loop.trips) : Fin 2 → Nat :=
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  let v554 : BitVec 32 := v553
  let v599 : Index := Scalar.indexCast v554
  let c128_266 : Index := 128#32
  ![v599.toNat, 128]
def k0_off5 (k0_t1 : Fin k0_t1_loop.trips) : Fin 2 → Nat :=
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  let v554 : BitVec 32 := v553
  let v606 : Index := Scalar.indexCast v554
  let c256_267 : Index := 256#32
  ![v606.toNat, 256]
def k0_off6 (k0_t1 : Fin k0_t1_loop.trips) : Fin 2 → Nat :=
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  let v554 : BitVec 32 := v553
  let v613 : Index := Scalar.indexCast v554
  let c384_268 : Index := 384#32
  ![v613.toNat, 384]
def k0_off7 (k0_t1 : Fin k0_t1_loop.trips) : Fin 2 → Nat :=
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  let v554 : BitVec 32 := v553
  let v620 : Index := Scalar.indexCast v554
  let c512_269 : Index := 512#32
  ![v620.toNat, 512]
def k0_off8 (k0_t1 : Fin k0_t1_loop.trips) : Fin 2 → Nat :=
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  let v554 : BitVec 32 := v553
  let v627 : Index := Scalar.indexCast v554
  let c640_270 : Index := 640#32
  ![v627.toNat, 640]
def k0_off9 (k0_t1 : Fin k0_t1_loop.trips) : Fin 2 → Nat :=
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  let v554 : BitVec 32 := v553
  let v634 : Index := Scalar.indexCast v554
  let c768_271 : Index := 768#32
  ![v634.toNat, 768]
def k0_off10 (k0_t1 : Fin k0_t1_loop.trips) : Fin 2 → Nat :=
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  let v554 : BitVec 32 := v553
  let v641 : Index := Scalar.indexCast v554
  let c896_272 : Index := 896#32
  ![v641.toNat, 896]
def k0_off11 (k0_t1 : Fin k0_t1_loop.trips) : Fin 2 → Nat :=
  let c0_277 : Index := 0#32
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  let v554 : BitVec 32 := v553
  let v652 : Index := Scalar.indexCast v554
  ![0, v652.toNat]
def k0_off12 (k0_t1 : Fin k0_t1_loop.trips) : Fin 2 → Nat :=
  let c80_278 : Index := 80#32
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  let v554 : BitVec 32 := v553
  let v658 : Index := Scalar.indexCast v554
  ![80, v658.toNat]
def k0_off13 (k0_t1 : Fin k0_t1_loop.trips) : Fin 2 → Nat :=
  let c160_279 : Index := 160#32
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  let v554 : BitVec 32 := v553
  let v664 : Index := Scalar.indexCast v554
  ![160, v664.toNat]
def k0_off14 (k0_t1 : Fin k0_t1_loop.trips) : Fin 2 → Nat :=
  let c240_280 : Index := 240#32
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  let v554 : BitVec 32 := v553
  let v670 : Index := Scalar.indexCast v554
  ![240, v670.toNat]
def k0_off15 (k0_t1 : Fin k0_t1_loop.trips) : Fin 2 → Nat :=
  let c320_281 : Index := 320#32
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  let v554 : BitVec 32 := v553
  let v676 : Index := Scalar.indexCast v554
  ![320, v676.toNat]
def k0_off16 (k0_t1 : Fin k0_t1_loop.trips) : Fin 2 → Nat :=
  let c400_282 : Index := 400#32
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  let v554 : BitVec 32 := v553
  let v682 : Index := Scalar.indexCast v554
  ![400, v682.toNat]
def k0_off17 (k0_t1 : Fin k0_t1_loop.trips) : Fin 2 → Nat :=
  let c480_283 : Index := 480#32
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  let v554 : BitVec 32 := v553
  let v688 : Index := Scalar.indexCast v554
  ![480, v688.toNat]
def k0_off18 (k0_t1 : Fin k0_t1_loop.trips) : Fin 2 → Nat :=
  let c560_284 : Index := 560#32
  let c0_i32_248 : BitVec 32 := 0#32
  let c1_i32_249 : BitVec 32 := 1#32
  let arg14 : BitVec 32 := Scf.iv c0_i32_248 c1_i32_249 k0_t1
  let c512_i32 : BitVec 32 := 512#32
  let v553 : BitVec 32 := Scalar.muli arg14 c512_i32
  let v554 : BitVec 32 := v553
  let v694 : Index := Scalar.indexCast v554
  ![560, v694.toNat]
def k0_mult2 (i : grid0.Coords) : BitVec 32 :=
  let arg1 : BitVec 32 := BitVec.ofNat 32 (i 1).val
  let c1024_i32 : BitVec 32 := 1024#32
  let v3 : BitVec 32 := Scalar.muli arg1 c1024_i32
  v3
def k0_off19 (i : grid0.Coords) : Fin 3 → Nat :=
  let c0_17 : Index := 0#32
  let arg1 : BitVec 32 := BitVec.ofNat 32 (i 1).val
  let c1024_i32 : BitVec 32 := 1024#32
  let v3 : BitVec 32 := Scalar.muli arg1 c1024_i32
  let v4 : BitVec 32 := v3
  let v60 : Index := Scalar.indexCast v4
  let c0_18 : Index := 0#32
  ![0, v60.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "score_scale" => some (((Real.sqrt 96)⁻¹ * (Real.log 2)⁻¹ : ℝ) : EReal)
  | _ => none
-- ==== ReferenceIdeal.lean ====
abbrev S32x2048x384 : Shape := ⟨3, ![32, 2048, 384]⟩
abbrev S32x2048x256 : Shape := ⟨3, ![32, 2048, 256]⟩
abbrev S32x2048x32 : Shape := ⟨3, ![32, 2048, 32]⟩
abbrev S32x2048 : Shape := ⟨2, ![32, 2048]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S_ : Shape := ⟨0, ![]⟩
abbrev S32x2048x1 : Shape := ⟨3, ![32, 2048, 1]⟩
abbrev S1x1x384 : Shape := ⟨3, ![1, 1, 384]⟩
abbrev S32x2048x768 : Shape := ⟨3, ![32, 2048, 768]⟩
abbrev S32x2048x8x96 : Shape := ⟨4, ![32, 2048, 8, 96]⟩
abbrev S32x2048x8x64 : Shape := ⟨4, ![32, 2048, 8, 64]⟩
abbrev S32x2048x8x32 : Shape := ⟨4, ![32, 2048, 8, 32]⟩
abbrev S16 : Shape := ⟨1, ![16]⟩
abbrev S1x1x16 : Shape := ⟨3, ![1, 1, 16]⟩
abbrev S32x2048x16 : Shape := ⟨3, ![32, 2048, 16]⟩
abbrev S32x2048x1x16 : Shape := ⟨4, ![32, 2048, 1, 16]⟩
abbrev S32x2048x8x16 : Shape := ⟨4, ![32, 2048, 8, 16]⟩
abbrev S1x1x256 : Shape := ⟨3, ![1, 1, 256]⟩
abbrev S32x2048x1024 : Shape := ⟨3, ![32, 2048, 1024]⟩
abbrev S32x2048x8x128 : Shape := ⟨4, ![32, 2048, 8, 128]⟩
abbrev S32x2048x1x32 : Shape := ⟨4, ![32, 2048, 1, 32]⟩
abbrev S32x8x2048x2048 : Shape := ⟨4, ![32, 8, 2048, 2048]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩
abbrev S32x2048x512 : Shape := ⟨3, ![32, 2048, 512]⟩

abbrev nBuf : Space → Nat
  | .hbm => 130
  | .vmem => 0
  | .smem => 0
  | _ => 0

abbrev hbmTy0_0 (i : Nat) : BufTy := match i % 128 with
  | 0 => ⟨S32x2048x384, .f32⟩
  | 1 => ⟨S32x2048x256, .f32⟩
  | 2 => ⟨S32x2048x32, .f32⟩
  | 3 => ⟨S32x2048, .i32⟩
  | 4 => ⟨S384, .f32⟩
  | 5 => ⟨S256, .f32⟩
  | 6 => ⟨S384x768, .f32⟩
  | 7 => ⟨S256x1024, .f32⟩
  | 8 => ⟨S32x2048x384, .f32⟩
  | 9 => ⟨S_, .f32⟩
  | 10 => ⟨S32x2048, .f32⟩
  | 11 => ⟨S32x2048x1, .f32⟩
  | 12 => ⟨S_, .f32⟩
  | 13 => ⟨S32x2048x1, .f32⟩
  | 14 => ⟨S32x2048x1, .f32⟩
  | 15 => ⟨S_, .f32⟩
  | 16 => ⟨S32x2048x1, .f32⟩
  | 17 => ⟨S32x2048x1, .f32⟩
  | 18 => ⟨S32x2048x1, .f32⟩
  | 19 => ⟨S32x2048x384, .f32⟩
  | 20 => ⟨S32x2048x384, .f32⟩
  | 21 => ⟨S1x1x384, .f32⟩
  | 22 => ⟨S32x2048x384, .f32⟩
  | 23 => ⟨S32x2048x384, .f32⟩
  | 24 => ⟨S32x2048x768, .f32⟩
  | 25 => ⟨S32x2048x8x96, .f32⟩
  | 26 => ⟨S32x2048x8x64, .f32⟩
  | 27 => ⟨S32x2048x8x32, .f32⟩
  | 28 => ⟨S16, .f32⟩
  | 29 => ⟨S16, .f32⟩
  | 30 => ⟨S_, .f32⟩
  | 31 => ⟨S16, .f32⟩
  | 32 => ⟨S16, .f32⟩
  | 33 => ⟨S_, .f32⟩
  | 34 => ⟨S16, .f32⟩
  | 35 => ⟨S16, .f32⟩
  | 36 => ⟨S32x2048, .f32⟩
  | 37 => ⟨S32x2048x1, .f32⟩
  | 38 => ⟨S1x1x16, .f32⟩
  | 39 => ⟨S32x2048x16, .f32⟩
  | 40 => ⟨S32x2048x16, .f32⟩
  | 41 => ⟨S32x2048x16, .f32⟩
  | 42 => ⟨S32x2048x1x16, .f32⟩
  | 43 => ⟨S32x2048x1x16, .f32⟩
  | 44 => ⟨S32x2048x1x16, .f32⟩
  | 45 => ⟨S32x2048x8x16, .f32⟩
  | 46 => ⟨S32x2048x8x16, .f32⟩
  | 47 => ⟨S32x2048x8x16, .f32⟩
  | 48 => ⟨S32x2048x8x16, .f32⟩
  | 49 => ⟨S32x2048x8x16, .f32⟩
  | 50 => ⟨S32x2048x8x16, .f32⟩
  | 51 => ⟨S32x2048x8x16, .f32⟩
  | 52 => ⟨S32x2048x8x16, .f32⟩
  | 53 => ⟨S32x2048x8x16, .f32⟩
  | 54 => ⟨S32x2048x8x16, .f32⟩
  | 55 => ⟨S32x2048x8x16, .f32⟩
  | 56 => ⟨S32x2048x8x16, .f32⟩
  | 57 => ⟨S32x2048x8x32, .f32⟩
  | 58 => ⟨S32x2048x8x96, .f32⟩
  | 59 => ⟨S32x2048x256, .f32⟩
  | 60 => ⟨S_, .f32⟩
  | 61 => ⟨S32x2048, .f32⟩
  | 62 => ⟨S32x2048x1, .f32⟩
  | 63 => ⟨S_, .f32⟩
  | 64 => ⟨S32x2048x1, .f32⟩
  | 65 => ⟨S32x2048x1, .f32⟩
  | 66 => ⟨S_, .f32⟩
  | 67 => ⟨S32x2048x1, .f32⟩
  | 68 => ⟨S32x2048x1, .f32⟩
  | 69 => ⟨S32x2048x1, .f32⟩
  | 70 => ⟨S32x2048x256, .f32⟩
  | 71 => ⟨S32x2048x256, .f32⟩
  | 72 => ⟨S1x1x256, .f32⟩
  | 73 => ⟨S32x2048x256, .f32⟩
  | 74 => ⟨S32x2048x256, .f32⟩
  | 75 => ⟨S32x2048x1024, .f32⟩
  | 76 => ⟨S32x2048x8x128, .f32⟩
  | 77 => ⟨S16, .f32⟩
  | 78 => ⟨S16, .f32⟩
  | 79 => ⟨S_, .f32⟩
  | 80 => ⟨S16, .f32⟩
  | 81 => ⟨S16, .f32⟩
  | 82 => ⟨S_, .f32⟩
  | 83 => ⟨S16, .f32⟩
  | 84 => ⟨S16, .f32⟩
  | 85 => ⟨S32x2048, .f32⟩
  | 86 => ⟨S32x2048x1, .f32⟩
  | 87 => ⟨S1x1x16, .f32⟩
  | 88 => ⟨S32x2048x16, .f32⟩
  | 89 => ⟨S32x2048x16, .f32⟩
  | 90 => ⟨S32x2048x16, .f32⟩
  | 91 => ⟨S32x2048x16, .f32⟩
  | 92 => ⟨S32x2048x16, .f32⟩
  | 93 => ⟨S32x2048x16, .f32⟩
  | 94 => ⟨S32x2048x16, .f32⟩
  | 95 => ⟨S32x2048x16, .f32⟩
  | 96 => ⟨S32x2048x16, .f32⟩
  | 97 => ⟨S32x2048x16, .f32⟩
  | 98 => ⟨S32x2048x16, .f32⟩
  | 99 => ⟨S32x2048x16, .f32⟩
  | 100 => ⟨S32x2048x16, .f32⟩
  | 101 => ⟨S32x2048x32, .f32⟩
  | 102 => ⟨S32x2048x8x64, .f32⟩
  | 103 => ⟨S32x2048x1x32, .f32⟩
  | 104 => ⟨S32x2048x8x32, .f32⟩
  | 105 => ⟨S32x2048x8x96, .f32⟩
  | 106 => ⟨S32x2048x8x64, .f32⟩
  | 107 => ⟨S32x8x2048x2048, .f32⟩
  | 108 => ⟨S_, .f32⟩
  | 109 => ⟨S_, .f32⟩
  | 110 => ⟨S32x8x2048x2048, .f32⟩
  | 111 => ⟨S32x8x2048x2048, .f32⟩
  | 112 => ⟨S_, .f32⟩
  | 113 => ⟨S32x8x2048, .f32⟩
  | 114 => ⟨S_, .f32⟩
  | 115 => ⟨S32x8x2048, .f32⟩
  | 116 => ⟨S32x8x2048, .f32⟩
  | 117 => ⟨S32x8x2048x1, .f32⟩
  | 118 => ⟨S32x8x2048x2048, .f32⟩
  | 119 => ⟨S32x8x2048x2048, .f32⟩
  | 120 => ⟨S32x8x2048x2048, .f32⟩
  | 121 => ⟨S_, .f32⟩
  | 122 => ⟨S32x8x2048, .f32⟩
  | 123 => ⟨S32x8x2048x1, .f32⟩
  | 124 => ⟨S32x8x2048x2048, .f32⟩
  | 125 => ⟨S32x8x2048x2048, .f32⟩
  | 126 => ⟨S32x8x64x2048, .f32⟩
  | 127 => ⟨S32x2048x8x64, .f32⟩
  | _ => ⟨S32x2048x384, .f32⟩

abbrev hbmTy0_1 (i : Nat) : BufTy := match i % 128 with
  | 0 => ⟨S32x2048x512, .f32⟩
  | 1 => ⟨S32x2048x512, .bf16⟩
  | _ => ⟨S32x2048x384, .f32⟩

abbrev hbmTy (i : Nat) : BufTy := match i / 128 with
  | 0 => hbmTy0_0 i
  | 1 => hbmTy0_1 i
  | _ => ⟨S32x2048x384, .f32⟩

abbrev bufTy : (tb : Table) → Fin (tcTables nBuf tb) → BufTy
  | .hbm, ⟨i, _⟩ => hbmTy i
  | _, _ => ⟨S32x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_4 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_7 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_9 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_10 : Ref sig .tc := ⟨.hbm, 112, rfl⟩
abbrev main_v93 : Ref sig .tc := ⟨.hbm, 113, rfl⟩
abbrev main_cst_11 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_12 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x6144 : Shape := ⟨2, ![32, 6144]⟩
abbrev S1024x4096 : Shape := ⟨2, ![1024, 4096]⟩
abbrev S4096x1024 : Shape := ⟨2, ![4096, 1024]⟩
abbrev S1024 : Shape := ⟨1, ![1024]⟩
abbrev S32x6x1024 : Shape := ⟨3, ![32, 6, 1024]⟩
abbrev S1x1024 : Shape := ⟨2, ![1, 1024]⟩
abbrev S2x1024 : Shape := ⟨2, ![2, 1024]⟩
abbrev S1x512x1024 : Shape := ⟨3, ![1, 512, 1024]⟩
abbrev S1x6x1024 : Shape := ⟨3, ![1, 6, 1024]⟩
abbrev S1x1x1024 : Shape := ⟨3, ![1, 1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 13
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S32x6x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S1x1024, .f32⟩
  | .hbm, ⟨11, _⟩ => ⟨S2x1024, .f32⟩
  | .hbm, ⟨12, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x4096, .bf16⟩
  | .local _ .vmem, ⟨5, _⟩ => ⟨S4096x1024, .bf16⟩
  | .local _ .vmem, ⟨6, _⟩ => ⟨S2x1024, .f32⟩
  | .local _ .vmem, ⟨7, _⟩ => ⟨S1x512x1024, .f32⟩
  | .local _ .vmem, ⟨8, _⟩ => ⟨S1x512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S32x2048x1024 : Shape := ⟨3, ![32, 2048, 1024]⟩
abbrev S32x6144 : Shape := ⟨2, ![32, 6144]⟩
abbrev S1024x4096 : Shape := ⟨2, ![1024, 4096]⟩
abbrev S4096x1024 : Shape := ⟨2, ![4096, 1024]⟩
abbrev S1024 : Shape := ⟨1, ![1024]⟩
abbrev S32x1x6144 : Shape := ⟨3, ![32, 1, 6144]⟩
abbrev S32x1x1024 : Shape := ⟨3, ![32, 1, 1024]⟩
abbrev S_ : Shape := ⟨0, ![]⟩
abbrev S32x2048x4096 : Shape := ⟨3, ![32, 2048, 4096]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S32x1x6144, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S_, .f32⟩
  | .hbm, ⟨14, _⟩ => ⟨S32x1x1024, .f32⟩
  | .hbm, ⟨15, _⟩ => ⟨S32x1x1024, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S32x2048x4096, .f32⟩
  | .hbm, ⟨21, _⟩ => ⟨S_, .f32⟩
  | .hbm, ⟨22, _⟩ => ⟨S32x2048x4096, .f32⟩
  | .hbm, ⟨23, _⟩ => ⟨S32x2048x4096, .f32⟩
  | .hbm, ⟨24, _⟩ => ⟨S32x2048x4096, .f32⟩
  | .hbm, ⟨25, _⟩ => ⟨S32x2048x1024, .f32⟩
  | .hbm, ⟨26, _⟩ => ⟨S_, .f32⟩
  | .hbm, ⟨27, _⟩ => ⟨S32x2048x1024, .f32⟩
  | .hbm, ⟨28, _⟩ => ⟨S32x2048x1024, .f32⟩
  | .hbm, ⟨29, _⟩ => ⟨S_, .f32⟩
  | .hbm, ⟨30, _⟩ => ⟨S32x1x1024, .f32⟩
  | .hbm, ⟨31, _⟩ => ⟨S32x1x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S_, .f32⟩
  | .hbm, ⟨36, _⟩ => ⟨S32x2048, .f32⟩
  | .hbm, ⟨37, _⟩ => ⟨S32x2048x1, .f32⟩
  | .hbm, ⟨38, _⟩ => ⟨S_, .f32⟩
  | .hbm, ⟨39, _⟩ => ⟨S32x2048x1, .f32⟩
  | .hbm, ⟨40, _⟩ => ⟨S32x2048x1, .f32⟩
  | .hbm, ⟨41, _⟩ => ⟨S32x2048x1024, .f32⟩
  | .hbm, ⟨42, _⟩ => ⟨S32x2048x1024, .f32⟩
  | .hbm, ⟨43, _⟩ => ⟨S32x2048x1024, .f32⟩
  | .hbm, ⟨44, _⟩ => ⟨S_, .f32⟩
  | .hbm, ⟨45, _⟩ => ⟨S32x2048, .f32⟩
  | .hbm, ⟨46, _⟩ => ⟨S32x2048x1, .f32⟩
  | .hbm, ⟨47, _⟩ => ⟨S_, .f32⟩
  | .hbm, ⟨48, _⟩ => ⟨S32x2048x1, .f32⟩
  | .hbm, ⟨49, _⟩ => ⟨S32x2048x1, .f32⟩
  | .hbm, ⟨50, _⟩ => ⟨S32x2048x1024, .f32⟩
  | .hbm, ⟨51, _⟩ => ⟨S32x2048x1024, .f32⟩
  | .hbm, ⟨52, _⟩ => ⟨S_, .f32⟩
  | .hbm, ⟨53, _⟩ => ⟨S32x2048x1, .f32⟩
  | .hbm, ⟨54, _⟩ => ⟨S32x2048x1, .f32⟩
  | .hbm, ⟨55, _⟩ => ⟨S32x2048x1, .f32⟩
  | .hbm, ⟨56, _⟩ => ⟨S32x2048x1024, .f32⟩
  | .hbm, ⟨57, _⟩ => ⟨S32x2048x1024, .f32⟩
  | .hbm, ⟨58, _⟩ => ⟨S1x1x1024, .f32⟩
  | .hbm, ⟨59, _⟩ => ⟨S32x2048x1024, .f32⟩
  | .hbm, ⟨60, _⟩ => ⟨S32x2048x1024, .f32⟩
  | .hbm, ⟨61, _⟩ => ⟨S1x1x1024, .f32⟩
  | .hbm, ⟨62, _⟩ => ⟨S32x2048x1024, .f32⟩
  | .hbm, ⟨63, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Kernel3.lean ====
abbrev S32x2048x512 : Shape := ⟨3, ![32, 2048, 512]⟩
abbrev S32x2048x2048 : Shape := ⟨3, ![32, 2048, 2048]⟩
abbrev S32x2048x1024 : Shape := ⟨3, ![32, 2048, 1024]⟩
abbrev S32x6144 : Shape := ⟨2, ![32, 6144]⟩
abbrev S512x1024 : Shape := ⟨2, ![512, 1024]⟩
abbrev S1024x1024 : Shape := ⟨2, ![1024, 1024]⟩
abbrev S1024 : Shape := ⟨1, ![1024]⟩
abbrev S32x6x1024 : Shape := ⟨3, ![32, 6, 1024]⟩
abbrev S1x1024 : Shape := ⟨2, ![1, 1024]⟩
abbrev S2x1024 : Shape := ⟨2, ![2, 1024]⟩
abbrev S1x512x512 : Shape := ⟨3, ![1, 512, 512]⟩
abbrev S1x512x1024 : Shape := ⟨3, ![1, 512, 1024]⟩
abbrev S1x6x1024 : Shape := ⟨3, ![1, 6, 1024]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩

abbrev nBuf : Space → Nat
  | .hbm => 18
  | .vmem => 18
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x2048, .bf16⟩
  | .hbm, ⟨3, _⟩ => ⟨S32x2048x1024, .f32⟩
  | .hbm, ⟨4, _⟩ => ⟨S32x6144, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S32x6x1024, .f32⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S2x1024, .f32⟩
  | .hbm, ⟨17, _⟩ => ⟨S32x2048x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x6x1024, .f32⟩
  | .local _ .vmem, ⟨11, _⟩ => ⟨S1x6x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S2x1024, .f32⟩
  | .local _ .vmem, ⟨16, _⟩ => ⟨S1x512x1024, .f32⟩
  | .local _ .vmem, ⟨17, _⟩ => ⟨S1x512x1024, .f32⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S32x2048x512 : Shape := ⟨3, ![32, 2048, 512]⟩
abbrev S32x2048x2048 : Shape := ⟨3, ![32, 2048, 2048]⟩
abbrev S32x2048x1024 : Shape := ⟨3, ![32, 2048, 1024]⟩
abbrev S32x6144 : Shape := ⟨2, ![32, 6144]⟩
abbrev S512x1024 : Shape := ⟨2, ![512, 1024]⟩
abbrev S1024x1024 : Shape := ⟨2, ![1024, 1024]⟩
abbrev S1024 : Shape := ⟨1, ![1024]⟩
abbrev S32x1x6144 : Shape := ⟨3, ![32, 1, 6144]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x2048, .bf16⟩
  | .hbm, ⟨3, _⟩ => ⟨S32x2048x1024, .f32⟩
  | .hbm, ⟨4, _⟩ => ⟨S32x6144, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S32x1x6144, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S32x2048x1024, .bf16⟩
  | .hbm, ⟨18, _⟩ => ⟨S32x2048x1024, .bf16⟩
  | .hbm, ⟨19, _⟩ => ⟨S32x2048x1024, .f32⟩
  | .hbm, ⟨20, _⟩ => ⟨S32x2048x1024, .f32⟩
  | .hbm, ⟨21, _⟩ => ⟨S32x2048x1024, .f32⟩
  | .hbm, ⟨22, _⟩ => ⟨S_, .f32⟩
  | .hbm, ⟨23, _⟩ => ⟨S32x2048x1024, .f32⟩
  | .hbm, ⟨24, _⟩ => ⟨S32x2048x1024, .f32⟩
  | .hbm, ⟨25, _⟩ => ⟨S_, .f32⟩
  | .hbm, ⟨26, _⟩ => ⟨S32x2048x1024, .f32⟩
  | .hbm, ⟨27, _⟩ => ⟨S32x2048x1024, .f32⟩
  | .hbm, ⟨28, _⟩ => ⟨S32x2048x512, .f32⟩
  | .hbm, ⟨29, _⟩ => ⟨S32x2048x1024, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S_, .f32⟩
  | .hbm, ⟨35, _⟩ => ⟨S32x2048x1024, .f32⟩
  | .hbm, ⟨36, _⟩ => ⟨S32x2048x1024, .f32⟩
  | .hbm, ⟨37, _⟩ => ⟨S_, .f32⟩
  | .hbm, ⟨38, _⟩ => ⟨S32x2048x1024, .f32⟩
  | .hbm, ⟨39, _⟩ => ⟨S32x2048x1024, .f32⟩
  | .hbm, ⟨40, _⟩ => ⟨S32x2048x512, .f32⟩
  | .hbm, ⟨41, _⟩ => ⟨S32x2048x1024, .f32⟩
  | .hbm, ⟨42, _⟩ => ⟨S32x2048x1024, .f32⟩
  | .hbm, ⟨43, _⟩ => ⟨S32x2048x1024, .f32⟩
  | .hbm, ⟨44, _⟩ => ⟨S_, .f32⟩
  | .hbm, ⟨45, _⟩ => ⟨S32x2048x1024, .f32⟩
  | .hbm, ⟨46, _⟩ => ⟨S32x2048x1024, .f32⟩
  | .hbm, ⟨47, _⟩ => ⟨S_, .f32⟩
  | .hbm, ⟨48, _⟩ => ⟨S32x1x1024, .f32⟩
  | .hbm, ⟨49, _⟩ => ⟨S32x1x1024, .f32⟩
  | .hbm, ⟨50, _⟩ => ⟨S32x2048x1024, .f32⟩
  | .hbm, ⟨51, _⟩ => ⟨S32x2048x1024, .f32⟩
  | .hbm, ⟨52, _⟩ => ⟨S32x2048x1024, .f32⟩
  | .hbm, ⟨53, _⟩ => ⟨S32x2048x1024, .f32⟩
  | .hbm, ⟨54, _⟩ => ⟨S_, .f32⟩
  | .hbm, ⟨55, _⟩ => ⟨S32x2048, .f32⟩
  | .hbm, ⟨56, _⟩ => ⟨S32x2048x1, .f32⟩
  | .hbm, ⟨57, _⟩ => ⟨S_, .f32⟩
  | .hbm, ⟨58, _⟩ => ⟨S32x2048x1, .f32⟩
  | .hbm, ⟨59, _⟩ => ⟨S32x2048x1, .f32⟩
  | .hbm, ⟨60, _⟩ => ⟨S32x2048x1024, .f32⟩
  | .hbm, ⟨61, _⟩ => ⟨S32x2048x1024, .f32⟩
  | .hbm, ⟨62, _⟩ => ⟨S32x2048x1024, .f32⟩
  | .hbm, ⟨63, _⟩ => ⟨S_, .f32⟩
  | .hbm, ⟨64, _⟩ => ⟨S32x2048, .f32⟩
  | .hbm, ⟨65, _⟩ => ⟨S32x2048x1, .f32⟩
  | .hbm, ⟨66, _⟩ => ⟨S_, .f32⟩
  | .hbm, ⟨67, _⟩ => ⟨S32x2048x1, .f32⟩
  | .hbm, ⟨68, _⟩ => ⟨S32x2048x1, .f32⟩
  | .hbm, ⟨69, _⟩ => ⟨S32x2048x1024, .f32⟩
  | .hbm, ⟨70, _⟩ => ⟨S32x2048x1024, .f32⟩
  | .hbm, ⟨71, _⟩ => ⟨S_, .f32⟩
  | .hbm, ⟨72, _⟩ => ⟨S32x2048x1, .f32⟩
  | .hbm, ⟨73, _⟩ => ⟨S32x2048x1, .f32⟩
  | .hbm, ⟨74, _⟩ => ⟨S32x2048x1, .f32⟩
  | .hbm, ⟨75, _⟩ => ⟨S32x2048x1024, .f32⟩
  | .hbm, ⟨76, _⟩ => ⟨S32x2048x1024, .f32⟩
  | .hbm, ⟨77, _⟩ => ⟨S1x1x1024, .f32⟩
  | .hbm, ⟨78, _⟩ => ⟨S32x2048x1024, .f32⟩
  | .hbm, ⟨79, _⟩ => ⟨S32x2048x1024, .f32⟩
  | .hbm, ⟨80, _⟩ => ⟨S1x1x1024, .f32⟩
  | .hbm, ⟨81, _⟩ => ⟨S32x2048x1024, .f32⟩
  | .hbm, ⟨82, _⟩ => ⟨S32x2048x1024, .f32⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Kernel4.lean ====
abbrev S32x2048x1024 : Shape := ⟨3, ![32, 2048, 1024]⟩
abbrev S32x6144 : Shape := ⟨2, ![32, 6144]⟩
abbrev S1024x4640 : Shape := ⟨2, ![1024, 4640]⟩
abbrev S3x1920 : Shape := ⟨2, ![3, 1920]⟩
abbrev S32x6x1024 : Shape := ⟨3, ![32, 6, 1024]⟩
abbrev S1024x1920 : Shape := ⟨2, ![1024, 1920]⟩
abbrev S1024x384 : Shape := ⟨2, ![1024, 384]⟩
abbrev S1024x256 : Shape := ⟨2, ![1024, 256]⟩
abbrev S1024x32 : Shape := ⟨2, ![1024, 32]⟩
abbrev S1024x2048 : Shape := ⟨2, ![1024, 2048]⟩
abbrev S1024x16 : Shape := ⟨2, ![1024, 16]⟩
abbrev S_ : Shape := ⟨0, ![]⟩
abbrev S1024x128 : Shape := ⟨2, ![1024, 128]⟩
abbrev S1024x4864 : Shape := ⟨2, ![1024, 4864]⟩
abbrev S32x2048x1920 : Shape := ⟨3, ![32, 2048, 1920]⟩
abbrev S32x2048x512 : Shape := ⟨3, ![32, 2048, 512]⟩
abbrev S32x2048x384 : Shape := ⟨3, ![32, 2048, 384]⟩
abbrev S32x2048x2048 : Shape := ⟨3, ![32, 2048, 2048]⟩
abbrev S1x512x1024 : Shape := ⟨3, ![1, 512, 1024]⟩
abbrev S1x8x1024 : Shape := ⟨3, ![1, 8, 1024]⟩
abbrev S1x6x1024 : Shape := ⟨3, ![1, 6, 1024]⟩
abbrev S1x512x1920 : Shape := ⟨3, ![1, 512, 1920]⟩
abbrev S1x512x512 : Shape := ⟨3, ![1, 512, 512]⟩
abbrev S1x512x384 : Shape := ⟨3, ![1, 512, 384]⟩
abbrev S1x512x2048 : Shape := ⟨3, ![1, 512, 2048]⟩
abbrev S1x1x1024 : Shape := ⟨3, ![1, 1, 1024]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S512x384 : Shape := ⟨2, ![512, 384]⟩
abbrev S512x2048 : Shape := ⟨2, ![512, 2048]⟩
abbrev S512x1920 : Shape := ⟨2, ![512, 1920]⟩
abbrev S8x1024 : Shape := ⟨2, ![8, 1024]⟩
abbrev S16x1024 : Shape := ⟨2, ![16, 1024]⟩
abbrev S16x1920 : Shape := ⟨2, ![16, 1920]⟩
abbrev S1x1920 : Shape := ⟨2, ![1, 1920]⟩
abbrev S512x1 : Shape := ⟨2, ![512, 1]⟩

abbrev nBuf : Space → Nat
  | .hbm => 26
  | .vmem => 18
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024x4640, .f32⟩
  | .hbm, ⟨3, _⟩ => ⟨S3x1920, .f32⟩
  | .hbm, ⟨4, _⟩ => ⟨S32x6x1024, .f32⟩
  | .hbm, ⟨5, _⟩ => ⟨S1024x1920, .f32⟩
  | .hbm, ⟨6, _⟩ => ⟨S1024x384, .f32⟩
  | .hbm, ⟨7, _⟩ => ⟨S1024x256, .f32⟩
  | .hbm, ⟨8, _⟩ => ⟨S1024x32, .f32⟩
  | .hbm, ⟨9, _⟩ => ⟨S1024x2048, .f32⟩
  | .hbm, ⟨10, _⟩ => ⟨S1024x16, .f32⟩
  | .hbm, ⟨11, _⟩ => ⟨S1024x16, .f32⟩
  | .hbm, ⟨12, _⟩ => ⟨S1024x16, .f32⟩
  | .hbm, ⟨13, _⟩ => ⟨S1024x32, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x4864, .f32⟩
  | .hbm, ⟨21, _⟩ => ⟨S1024x4864, .bf16⟩
  | .hbm, ⟨22, _⟩ => ⟨S32x2048x1920, .bf16⟩
  | .hbm, ⟨23, _⟩ => ⟨S32x2048x512, .bf16⟩
  | .hbm, ⟨24, _⟩ => ⟨S32x2048x384, .bf16⟩
  | .hbm, ⟨25, _⟩ => ⟨S32x2048x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x4864, .bf16⟩
  | .local _ .vmem, ⟨9, _⟩ => ⟨S3x1920, .f32⟩
  | .local _ .vmem, ⟨10, _⟩ => ⟨S1x512x1920, .bf16⟩
  | .local _ .vmem, ⟨11, _⟩ => ⟨S1x512x1920, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x384, .bf16⟩
  | .local _ .vmem, ⟨15, _⟩ => ⟨S1x512x384, .bf16⟩
  | .local _ .vmem, ⟨16, _⟩ => ⟨S1x512x2048, .bf16⟩
  | .local _ .vmem, ⟨17, _⟩ => ⟨S1x512x2048, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x4864 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1920 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S32x2048x1024 : Shape := ⟨3, ![32, 2048, 1024]⟩
abbrev S32x6144 : Shape := ⟨2, ![32, 6144]⟩
abbrev S1024x4640 : Shape := ⟨2, ![1024, 4640]⟩
abbrev S3x1920 : Shape := ⟨2, ![3, 1920]⟩
abbrev S32x1x6144 : Shape := ⟨3, ![32, 1, 6144]⟩
abbrev S32x1x1024 : Shape := ⟨3, ![32, 1, 1024]⟩
abbrev S_ : Shape := ⟨0, ![]⟩
abbrev S32x2048x4640 : Shape := ⟨3, ![32, 2048, 4640]⟩
abbrev S32x2048x1920 : Shape := ⟨3, ![32, 2048, 1920]⟩
abbrev S32x2048x384 : Shape := ⟨3, ![32, 2048, 384]⟩
abbrev S32x2048x256 : Shape := ⟨3, ![32, 2048, 256]⟩
abbrev S32x2048x32 : Shape := ⟨3, ![32, 2048, 32]⟩
abbrev S32x2048x2048 : Shape := ⟨3, ![32, 2048, 2048]⟩
abbrev S32x2048x64 : Shape := ⟨3, ![32, 2048, 64]⟩
abbrev S32x2048x16 : Shape := ⟨3, ![32, 2048, 16]⟩
abbrev S32x2048x512 : Shape := ⟨3, ![32, 2048, 512]⟩
abbrev S32x2050x1920 : Shape := ⟨3, ![32, 2050, 1920]⟩
abbrev S1x1920 : Shape := ⟨2, ![1, 1920]⟩
abbrev S1920 : Shape := ⟨1, ![1920]⟩
abbrev S1x1x1920 : Shape := ⟨3, ![1, 1, 1920]⟩

abbrev nBuf : Space → Nat
  | .hbm => 60
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024x4640, .f32⟩
  | .hbm, ⟨3, _⟩ => ⟨S3x1920, .f32⟩
  | .hbm, ⟨4, _⟩ => ⟨S32x1x6144, .f32⟩
  | .hbm, ⟨5, _⟩ => ⟨S32x1x1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S_, .f32⟩
  | .hbm, ⟨12, _⟩ => ⟨S32x1x1024, .f32⟩
  | .hbm, ⟨13, _⟩ => ⟨S32x1x1024, .f32⟩
  | .hbm, ⟨14, _⟩ => ⟨S32x2048x1024, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S32x2048x4640, .f32⟩
  | .hbm, ⟨19, _⟩ => ⟨S32x2048x1920, .f32⟩
  | .hbm, ⟨20, _⟩ => ⟨S32x2048x384, .f32⟩
  | .hbm, ⟨21, _⟩ => ⟨S32x2048x256, .f32⟩
  | .hbm, ⟨22, _⟩ => ⟨S32x2048x32, .f32⟩
  | .hbm, ⟨23, _⟩ => ⟨S32x2048x2048, .f32⟩
  | .hbm, ⟨24, _⟩ => ⟨S_, .f32⟩
  | .hbm, ⟨25, _⟩ => ⟨S32x2048x64, .f32⟩
  | .hbm, ⟨26, _⟩ => ⟨S_, .f32⟩
  | .hbm, ⟨27, _⟩ => ⟨S32x2048x32, .f32⟩
  | .hbm, ⟨28, _⟩ => ⟨S32x2048x16, .f32⟩
  | .hbm, ⟨29, _⟩ => ⟨S32x2048x16, .f32⟩
  | .hbm, ⟨30, _⟩ => ⟨S32x2048x16, .f32⟩
  | .hbm, ⟨31, _⟩ => ⟨S32x2048x32, .f32⟩
  | .hbm, ⟨32, _⟩ => ⟨S32x2048x512, .f32⟩
  | .hbm, ⟨33, _⟩ => ⟨S_, .i32⟩
  | .hbm, ⟨34, _⟩ => ⟨S_, .f32⟩
  | .hbm, ⟨35, _⟩ => ⟨S32x2050x1920, .f32⟩
  | .hbm, ⟨36, _⟩ => ⟨S1x1920, .f32⟩
  | .hbm, ⟨37, _⟩ => ⟨S1920, .f32⟩
  | .hbm, ⟨38, _⟩ => ⟨S32x2048x1920, .f32⟩
  | .hbm, ⟨39, _⟩ => ⟨S1x1x1920, .f32⟩
  | .hbm, ⟨40, _⟩ => ⟨S32x2048x1920, .f32⟩
  | .hbm, ⟨41, _⟩ => ⟨S32x2048x1920, .f32⟩
  | .hbm, ⟨42, _⟩ => ⟨S1x1920, .f32⟩
  | .hbm, ⟨43, _⟩ => ⟨S1920, .f32⟩
  | .hbm, ⟨44, _⟩ => ⟨S32x2048x1920, .f32⟩
  | .hbm, ⟨45, _⟩ => ⟨S1x1x1920, .f32⟩
  | .hbm, ⟨46, _⟩ => ⟨S32x2048x1920, .f32⟩
  | .hbm, ⟨47, _⟩ => ⟨S32x2048x1920, .f32⟩
  | .hbm, ⟨48, _⟩ => ⟨S32x2048x1920, .f32⟩
  | .hbm, ⟨49, _⟩ => ⟨S1x1920, .f32⟩
  | .hbm, ⟨50, _⟩ => ⟨S1920, .f32⟩
  | .hbm, ⟨51, _⟩ => ⟨S32x2048x1920, .f32⟩
  | .hbm, ⟨52, _⟩ => ⟨S1x1x1920, .f32⟩
  | .hbm, ⟨53, _⟩ => ⟨S32x2048x1920, .f32⟩
  | .hbm, ⟨54, _⟩ => ⟨S32x2048x1920, .f32⟩
  | .hbm, ⟨55, _⟩ => ⟨S32x2048x1920, .f32⟩
  | .hbm, ⟨56, _⟩ => ⟨S32x2048x1920, .bf16⟩
  | .hbm, ⟨57, _⟩ => ⟨S32x2048x512, .bf16⟩
  | .hbm, ⟨58, _⟩ => ⟨S32x2048x384, .bf16⟩
  | .hbm, ⟨59, _⟩ => ⟨S32x2048x2048, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_call0_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]
-- ==== Kernel5.lean ====
abbrev S32x1024 : Shape := ⟨2, ![32, 1024]⟩
abbrev S1024x6144 : Shape := ⟨2, ![1024, 6144]⟩
abbrev S6144 : Shape := ⟨1, ![6144]⟩
abbrev S1x6144 : Shape := ⟨2, ![1, 6144]⟩
abbrev S32x6144 : Shape := ⟨2, ![32, 6144]⟩
abbrev S1024x1536 : Shape := ⟨2, ![1024, 1536]⟩
abbrev S1x1536 : Shape := ⟨2, ![1, 1536]⟩
abbrev S32x1536 : Shape := ⟨2, ![32, 1536]⟩

abbrev nBuf : Space → Nat
  | .hbm => 5
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S32x6144, .f32⟩
  | .local _ .vmem, ⟨0, _⟩ => ⟨S32x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S32x1536, .f32⟩
  | .local _ .vmem, ⟨6, _⟩ => ⟨S32x1536, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S32x1024 : Shape := ⟨2, ![32, 1024]⟩
abbrev S1024x6144 : Shape := ⟨2, ![1024, 6144]⟩
abbrev S6144 : Shape := ⟨1, ![6144]⟩
abbrev S_ : Shape := ⟨0, ![]⟩
abbrev S32x6144 : Shape := ⟨2, ![32, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x6144, .f32⟩
  | .hbm, ⟨2, _⟩ => ⟨S6144, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x6144, .f32⟩
  | .hbm, ⟨13, _⟩ => ⟨S1x6144, .f32⟩
  | .hbm, ⟨14, _⟩ => ⟨S32x6144, .f32⟩
  | .hbm, ⟨15, _⟩ => ⟨S32x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Math.lean ====
/- Facts about the extended reals the attention's two forms need: which of its quantities are real numbers, and that the
   softmax does not depend on what is subtracted from the scores. -/
module

public import Idealize.ShloMosaic.Lib.Pointwise
public import Idealize.ShloMosaic.Lib.Claim

@[expose] public section

noncomputable section

open Idealize.ShloMosaic

namespace Cert

/-- The extended real is a real number. -/
def IsR (x : EReal) : Prop := ∃ r : ℝ, x = (r : EReal)

theorem IsR.coe (r : ℝ) : IsR (r : EReal) := ⟨r, rfl⟩
theorem IsR.zero : IsR 0 := ⟨0, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.neg {x : EReal} (hx : IsR x) : IsR (-x) := by
  obtain ⟨a, rfl⟩ := hx; exact ⟨-a, (EReal.coe_neg a).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.max {x y : EReal} (hx : IsR x) (hy : IsR y) : IsR (max x y) := by
  rcases le_total x y with h | h
  · rw [max_eq_right h]; exact hy
  · rw [max_eq_left h]; exact hx
theorem IsR.sum {ι : Type} (s : Finset ι) (f : ι → EReal) (h : ∀ i, IsR (f i)) : IsR (∑ i ∈ s, f i) := by
  classical
  induction s using Finset.induction with
  | empty => rw [Finset.sum_empty]; exact IsR.zero
  | insert a s ha ih => rw [Finset.sum_insert ha]; exact (h a).add ih

/-- The sum of real numbers, taken among the extended reals. -/
theorem coe_sum {ι : Type} (s : Finset ι) (f : ι → ℝ) : ∑ i ∈ s, (f i : EReal) = ((∑ i ∈ s, f i : ℝ) : EReal) := by
  classical
  induction s using Finset.induction with
  | empty => simp
  | insert a s ha ih => rw [Finset.sum_insert ha, Finset.sum_insert ha, ih, EReal.coe_add]

theorem cBot : Ideal.ofBits .f32 0xFF800000#32 = ⊥ := by simp [Ideal.ofBits, Ideal.ieee]
theorem cTop : Ideal.ofBits .f32 0x7F800000#32 = ⊤ := by simp [Ideal.ofBits, Ideal.ieee]
theorem c384 : Ideal.ofBits .f32 0x43C00000#32 = ((384 : ℝ) : EReal) := by
  simp [Ideal.ofBits, Ideal.ieee, -EReal.coe_mul]; norm_num
theorem c256 : Ideal.ofBits .f32 0x43800000#32 = ((256 : ℝ) : EReal) := by
  simp [Ideal.ofBits, Ideal.ieee, -EReal.coe_mul]; norm_num
theorem c96 : Ideal.ofBits .f32 0x42C00000#32 = ((96 : ℝ) : EReal) := by
  simp [Ideal.ofBits, Ideal.ieee, -EReal.coe_mul]; norm_num
theorem c16 : Ideal.ofBits .f32 0x41800000#32 = ((16 : ℝ) : EReal) := by
  simp [Ideal.ofBits, Ideal.ieee, -EReal.coe_mul]; norm_num
theorem c10000 : Ideal.ofBits .f32 0x461C4000#32 = ((10000 : ℝ) : EReal) := by
  simp [Ideal.ofBits, Ideal.ieee, -EReal.coe_mul]; norm_num
theorem cEps : Ideal.ofBits .f32 0x358637BD#32 = (((8796093 : ℝ) * 2 ^ (-43 : ℤ) : ℝ) : EReal) := by
  simp [Ideal.ofBits, Ideal.ieee, -EReal.coe_mul]

/-- Division by a real number other than zero. -/
theorem div_coe (a b : ℝ) (hb : b ≠ 0) : Ideal.div (a : EReal) (b : EReal) = ((a / b : ℝ) : EReal) := by
  have h : (b : EReal) ≠ 0 := fun e => hb (by exact_mod_cast e)
  unfold Ideal.div
  rw [if_neg h, ← EReal.coe_inv, ← EReal.coe_mul, div_eq_mul_inv]

theorem sq_nonneg' (x : EReal) : 0 ≤ x * x := by
  induction x with
  | bot => simp
  | top => simp
  | coe r => rw [← EReal.coe_mul]; exact_mod_cast mul_self_nonneg r

theorem sq_top (x : EReal) (h : ¬ IsR x) : x * x = ⊤ := by
  induction x with
  | bot => simp
  | top => simp
  | coe r => exact absurd (IsR.coe r) h

/-- A row divided by its root mean square is real, whatever the row: an infinite entry makes every quotient zero. -/
theorem rms_real {n : ℕ} (x : Fin n → EReal) (N ε : ℝ) (hN : 0 < N) (hε : 0 < ε) (k : Fin n) :
    IsR (x k * Ideal.rsqrt (Ideal.div (∑ j, x j * x j) (N : EReal) + (ε : EReal))) := by
  by_cases h : ∀ j, IsR (x j)
  · choose r hr using h
    have e : ∑ j, x j * x j = ((∑ j, r j * r j : ℝ) : EReal) := by
      rw [← coe_sum]; exact Finset.sum_congr rfl fun j _ => by rw [hr j, EReal.coe_mul]
    have h0 : 0 ≤ ∑ j, r j * r j := Finset.sum_nonneg fun j _ => mul_self_nonneg _
    have h1 : 0 < (∑ j, r j * r j) / N + ε := by positivity
    rw [e, div_coe _ _ hN.ne', ← EReal.coe_add, Ideal.rsqrt_coe, if_neg (not_lt.mpr h1.le), if_neg h1.ne', hr k]
    exact (IsR.coe _).mul (IsR.coe _)
  · obtain ⟨j, hj⟩ := not_forall.mp h
    have e : ∑ j, x j * x j = ⊤ := by
      refine top_le_iff.mp ?_
      rw [← sq_top _ hj]
      exact Finset.single_le_sum (f := fun j => x j * x j) (fun i _ => sq_nonneg' (x i)) (Finset.mem_univ j)
    have hN' : (N : EReal) ≠ 0 := fun e => hN.ne' (by exact_mod_cast e)
    have e2 : Ideal.div ⊤ (N : EReal) = ⊤ := by
      unfold Ideal.div
      rw [if_neg hN', ← EReal.coe_inv, EReal.top_mul_coe_of_pos (inv_pos.mpr hN)]
    have e3 : Ideal.rsqrt ⊤ = 0 := rfl
    rw [e, e2, EReal.top_add_coe, e3, mul_zero]
    exact IsR.zero

/-- The largest of one or more real numbers, starting from −∞. -/
theorem fold_max_real {n : ℕ} (hn : 0 < n) (f : Fin n → EReal) (h : ∀ i, IsR (f i)) :
    IsR (Finset.univ.fold max (Ideal.ofBits .f32 0xFF800000#32) f) := by
  classical
  rw [cBot]
  have key : ∀ s : Finset (Fin n), (s = ∅ ∧ s.fold max ⊥ f = ⊥) ∨ IsR (s.fold max ⊥ f) := by
    intro s
    induction s using Finset.induction with
    | empty => exact Or.inl ⟨rfl, rfl⟩
    | insert a s ha ih =>
      right
      rw [Finset.fold_insert ha]
      rcases ih with ⟨_, e⟩ | e
      · rw [e, max_bot_right]; exact h a
      · exact (h a).max e
  rcases key Finset.univ with ⟨e, _⟩ | e
  · exact absurd (Finset.mem_univ (⟨0, hn⟩ : Fin n)) (by rw [e]; exact Finset.notMem_empty _)
  · exact e

/-- The softmax over real scores does not depend on what is subtracted: the quotient of the sums. -/
theorem soft_left {n : ℕ} (s v : Fin n → ℝ) (c : ℝ) :
    (∑ j, v j * Real.exp (s j - c)) / (∑ j, Real.exp (s j - c)) = (∑ j, v j * Real.exp (s j)) / ∑ j, Real.exp (s j) := by
  have e1 : ∑ j, v j * Real.exp (s j - c) = (∑ j, v j * Real.exp (s j)) * Real.exp (-c) := by
    rw [Finset.sum_mul]; exact Finset.sum_congr rfl fun j _ => by rw [sub_eq_add_neg, Real.exp_add, mul_assoc]
  have e2 : ∑ j, Real.exp (s j - c) = (∑ j, Real.exp (s j)) * Real.exp (-c) := by
    rw [Finset.sum_mul]; exact Finset.sum_congr rfl fun j _ => by rw [sub_eq_add_neg, Real.exp_add]
  rw [e1, e2, mul_div_mul_right _ _ (Real.exp_pos _).ne']

/-- The quotient of the sums of `exp (s − c)`, among the extended reals. -/
theorem soft_quot {n : ℕ} (hn : 0 < n) (s v : Fin n → ℝ) (c : ℝ) :
    Ideal.div (∑ j, (v j : EReal) * (Real.exp (s j - c) : EReal)) (∑ j, (1 : EReal) * (Real.exp (s j - c) : EReal))
      = (((∑ j, v j * Real.exp (s j)) / ∑ j, Real.exp (s j) : ℝ) : EReal) := by
  have : Nonempty (Fin n) := ⟨⟨0, hn⟩⟩
  have hp : (∑ j, Real.exp (s j - c)) ≠ 0 := (Finset.sum_pos (fun j _ => Real.exp_pos _) Finset.univ_nonempty).ne'
  have e1 : ∑ j, (v j : EReal) * (Real.exp (s j - c) : EReal) = ((∑ j, v j * Real.exp (s j - c) : ℝ) : EReal) := by
    rw [← coe_sum]; exact Finset.sum_congr rfl fun j _ => (EReal.coe_mul _ _).symm
  have e2 : ∑ j, (1 : EReal) * (Real.exp (s j - c) : EReal) = ((∑ j, Real.exp (s j - c) : ℝ) : EReal) := by
    rw [← coe_sum]; exact Finset.sum_congr rfl fun j _ => one_mul _
  rw [e1, e2, div_coe _ _ hp, soft_left]

/-- The sum of the values weighted by the softmax's quotients, among the extended reals. -/
theorem soft_sum {n : ℕ} (hn : 0 < n) (s v : Fin n → ℝ) (c : ℝ) :
    ∑ j, (v j : EReal) * Ideal.div (Real.exp (s j - c) : EReal) (∑ i, (Real.exp (s i - c) : EReal))
      = (((∑ j, v j * Real.exp (s j)) / ∑ j, Real.exp (s j) : ℝ) : EReal) := by
  have : Nonempty (Fin n) := ⟨⟨0, hn⟩⟩
  have hp : (∑ j, Real.exp (s j - c)) ≠ 0 := (Finset.sum_pos (fun j _ => Real.exp_pos _) Finset.univ_nonempty).ne'
  rw [coe_sum Finset.univ (fun i => Real.exp (s i - c)), ← soft_left s v c, Finset.sum_div, ← coe_sum Finset.univ (fun j => v j * Real.exp (s j - c) / ∑ i, Real.exp (s i - c))]
  refine Finset.sum_congr rfl fun j _ => ?_
  rw [div_coe _ _ hp, ← EReal.coe_mul, mul_div_assoc]

/-- Scores scaled by `1 / log 2` under powers of two are the scores under the exponential. -/
theorem exp2_scaled (s c : ℝ) : Ideal.exp2 (((s * (Real.log 2)⁻¹ : ℝ) : EReal) - (c : EReal)) = ((Real.exp (s - c * Real.log 2) : ℝ) : EReal) := by
  have h2 : Real.log 2 ≠ 0 := (Real.log_pos (by norm_num)).ne'
  rw [← EReal.coe_sub, Ideal.exp2_coe]
  refine congrArg _ ?_
  rw [Real.rpow_eq_pow, Real.rpow_def_of_pos (by norm_num)]
  refine congrArg _ ?_
  field_simp

end Cert

end
-- ==== Proof.Head.lean ====
/- The body of the attention kernel after its scratch is filled, as one formula: eight heads computed by the same
   steps from the projected queries, the rotary tables and the two scratch buffers (keys; transposed values). -/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- The lane numbers' remainders by 128, each with the sign fix-up of a floor remainder, and the query lanes rotated by
    half of the rotary width, as the kernel writes them. -/
def rotated (v25 : FVec Ideal S1024x1024 .f32) : FVec Ideal S1024x1024 .f32 :=
  k0_pay30 v25 (Scalar.select (Scalar.cmpi .eq 128#32 0#32) 1#32 128#32) k0_pay26 k0_pay27 k0_pay28 k0_pay29

/-- One head's scaled, rotated queries: lanes `o … o + 127` of the projections. -/
def headQ (v25 v59 : FVec Ideal S1024x1024 .f32) (v62 v65 : FVec Ideal S1024x128 .f32) (o : ℕ)
    (ho : S1024x1024.Slices ![0, o] S1024x128) : FVec Ideal S1024x128 .bf16 :=
  truncf .bf16 (mulf (addf (mulf (extractStridedSlice S1024x128 ![0, o] v25 ho) v62)
    (mulf (extractStridedSlice S1024x128 ![0, o] v59 ho) v65)) (broadcast S1024x128 (Named.named κ "score_scale" 0x3E16C740#32))) bitsLt_bf16_f32

/-- One part's scores: 512 keys against all queries of the block. -/
def headS (q : FVec Ideal S1024x128 .bf16) (k : FVec Ideal S512x128 .bf16) : FVec Ideal S512x1024 .f32 :=
  matmul dot_S512x128_S1024x128_S512x1024_1_1_0_0_n_n none k q (constant S512x1024 .f32 0x00000000#32)

/-- The largest score of one part, per query. -/
def headM (s : FVec Ideal S512x1024 .f32) : FVec Ideal S1x1024 .f32 :=
  shapeCast S1x1024 (multiReduction .maximumf [0] S1024 s 0xFF800000#32 reduces_S512x1024_S1024 (.inl rfl) rfl) shapeCasts_S1024_S1x1024

/-- One part's weighted values: the transposed values (and rows of ones) times the exponentials. -/
def headP (s : FVec Ideal S512x1024 .f32) (mx : FVec Ideal S1x1024 .f32) (v : FVec Ideal S80x512 .bf16) : FVec Ideal S80x1024 .f32 :=
  matmul dot_S80x512_S512x1024_S80x1024_1_0_0_1_n_n none v
    (truncf .bf16 (exp2 (subf s (broadcastTo S512x1024 mx broadcasts_S1x1024_S512x1024))) bitsLt_bf16_f32)
    (constant S80x1024 .f32 0x00000000#32)

/-- One head's output from its four key parts and its four value parts. -/
def headO (q : FVec Ideal S1024x128 .bf16) (k0 k1 k2 k3 : FVec Ideal S512x128 .bf16) (v0 v1 v2 v3 : FVec Ideal S80x512 .bf16) :
    FVec Ideal S64x1024 .f32 :=
  let mx := maximumf (maximumf (maximumf (headM (headS q k0)) (headM (headS q k1))) (headM (headS q k2))) (headM (headS q k3))
  let ol := addf (addf (addf (addf (broadcast S80x1024 (Scalar.ofBits .f32 0x00000000#32)) (headP (headS q k0) mx v0))
    (headP (headS q k1) mx v1)) (headP (headS q k2) mx v2)) (headP (headS q k3) mx v3)
  divf (extractStridedSlice S64x1024 ![0, 0] ol slices_S80x1024_o0_0_S64x1024)
    (broadcastTo S64x1024 (extractStridedSlice S1x1024 ![64, 0] ol slices_S80x1024_o64_0_S1x1024) broadcasts_S1x1024_S64x1024)

/-- The eight heads stacked and transposed: what the body stores as one block of the result. -/
def blockO (v25 v59 : FVec Ideal S1024x1024 .f32) (v62 v65 : FVec Ideal S1024x128 .f32)
    (ks : S2048x1024.Idx → Elt Ideal .bf16) (vs : S640x2048.Idx → Elt Ideal .bf16) : FVec Ideal S1x1024x512 .bf16 :=
  shapeCast S1x1024x512 (truncf .bf16 (transpose S1024x512 [1, 0] (concatenate S512x1024 0 [
    ⟨S64x1024, headO (headQ v25 v59 v62 v65 0 slices_S1024x1024_o0_0_S1024x128)
      (View.ld ks (Rect.unit ![0, 0] ![512, 128] inb_S2048x1024_S512x128_0_0)) (View.ld ks (Rect.unit ![512, 0] ![512, 128] inb_S2048x1024_S512x128_512_0)) (View.ld ks (Rect.unit ![1024, 0] ![512, 128] inb_S2048x1024_S512x128_1024_0)) (View.ld ks (Rect.unit ![1536, 0] ![512, 128] inb_S2048x1024_S512x128_1536_0))
      (View.ld vs (Rect.unit ![0, 0] ![80, 512] inb_S640x2048_S80x512_0_0)) (View.ld vs (Rect.unit ![0, 512] ![80, 512] inb_S640x2048_S80x512_0_512)) (View.ld vs (Rect.unit ![0, 1024] ![80, 512] inb_S640x2048_S80x512_0_1024)) (View.ld vs (Rect.unit ![0, 1536] ![80, 512] inb_S640x2048_S80x512_0_1536))⟩,
    ⟨S64x1024, headO (headQ v25 v59 v62 v65 128 slices_S1024x1024_o0_128_S1024x128)
      (View.ld ks (Rect.unit ![0, 128] ![512, 128] inb_S2048x1024_S512x128_0_128)) (View.ld ks (Rect.unit ![512, 128] ![512, 128] inb_S2048x1024_S512x128_512_128)) (View.ld ks (Rect.unit ![1024, 128] ![512, 128] inb_S2048x1024_S512x128_1024_128)) (View.ld ks (Rect.unit ![1536, 128] ![512, 128] inb_S2048x1024_S512x128_1536_128))
      (View.ld vs (Rect.unit ![80, 0] ![80, 512] inb_S640x2048_S80x512_80_0)) (View.ld vs (Rect.unit ![80, 512] ![80, 512] inb_S640x2048_S80x512_80_512)) (View.ld vs (Rect.unit ![80, 1024] ![80, 512] inb_S640x2048_S80x512_80_1024)) (View.ld vs (Rect.unit ![80, 1536] ![80, 512] inb_S640x2048_S80x512_80_1536))⟩,
    ⟨S64x1024, headO (headQ v25 v59 v62 v65 256 slices_S1024x1024_o0_256_S1024x128)
      (View.ld ks (Rect.unit ![0, 256] ![512, 128] inb_S2048x1024_S512x128_0_256)) (View.ld ks (Rect.unit ![512, 256] ![512, 128] inb_S2048x1024_S512x128_512_256)) (View.ld ks (Rect.unit ![1024, 256] ![512, 128] inb_S2048x1024_S512x128_1024_256)) (View.ld ks (Rect.unit ![1536, 256] ![512, 128] inb_S2048x1024_S512x128_1536_256))
      (View.ld vs (Rect.unit ![160, 0] ![80, 512] inb_S640x2048_S80x512_160_0)) (View.ld vs (Rect.unit ![160, 512] ![80, 512] inb_S640x2048_S80x512_160_512)) (View.ld vs (Rect.unit ![160, 1024] ![80, 512] inb_S640x2048_S80x512_160_1024)) (View.ld vs (Rect.unit ![160, 1536] ![80, 512] inb_S640x2048_S80x512_160_1536))⟩,
    ⟨S64x1024, headO (headQ v25 v59 v62 v65 384 slices_S1024x1024_o0_384_S1024x128)
      (View.ld ks (Rect.unit ![0, 384] ![512, 128] inb_S2048x1024_S512x128_0_384)) (View.ld ks (Rect.unit ![512, 384] ![512, 128] inb_S2048x1024_S512x128_512_384)) (View.ld ks (Rect.unit ![1024, 384] ![512, 128] inb_S2048x1024_S512x128_1024_384)) (View.ld ks (Rect.unit ![1536, 384] ![512, 128] inb_S2048x1024_S512x128_1536_384))
      (View.ld vs (Rect.unit ![240, 0] ![80, 512] inb_S640x2048_S80x512_240_0)) (View.ld vs (Rect.unit ![240, 512] ![80, 512] inb_S640x2048_S80x512_240_512)) (View.ld vs (Rect.unit ![240, 1024] ![80, 512] inb_S640x2048_S80x512_240_1024)) (View.ld vs (Rect.unit ![240, 1536] ![80, 512] inb_S640x2048_S80x512_240_1536))⟩,
    ⟨S64x1024, headO (headQ v25 v59 v62 v65 512 slices_S1024x1024_o0_512_S1024x128)
      (View.ld ks (Rect.unit ![0, 512] ![512, 128] inb_S2048x1024_S512x128_0_512)) (View.ld ks (Rect.unit ![512, 512] ![512, 128] inb_S2048x1024_S512x128_512_512)) (View.ld ks (Rect.unit ![1024, 512] ![512, 128] inb_S2048x1024_S512x128_1024_512)) (View.ld ks (Rect.unit ![1536, 512] ![512, 128] inb_S2048x1024_S512x128_1536_512))
      (View.ld vs (Rect.unit ![320, 0] ![80, 512] inb_S640x2048_S80x512_320_0)) (View.ld vs (Rect.unit ![320, 512] ![80, 512] inb_S640x2048_S80x512_320_512)) (View.ld vs (Rect.unit ![320, 1024] ![80, 512] inb_S640x2048_S80x512_320_1024)) (View.ld vs (Rect.unit ![320, 1536] ![80, 512] inb_S640x2048_S80x512_320_1536))⟩,
    ⟨S64x1024, headO (headQ v25 v59 v62 v65 640 slices_S1024x1024_o0_640_S1024x128)
      (View.ld ks (Rect.unit ![0, 640] ![512, 128] inb_S2048x1024_S512x128_0_640)) (View.ld ks (Rect.unit ![512, 640] ![512, 128] inb_S2048x1024_S512x128_512_640)) (View.ld ks (Rect.unit ![1024, 640] ![512, 128] inb_S2048x1024_S512x128_1024_640)) (View.ld ks (Rect.unit ![1536, 640] ![512, 128] inb_S2048x1024_S512x128_1536_640))
      (View.ld vs (Rect.unit ![400, 0] ![80, 512] inb_S640x2048_S80x512_400_0)) (View.ld vs (Rect.unit ![400, 512] ![80, 512] inb_S640x2048_S80x512_400_512)) (View.ld vs (Rect.unit ![400, 1024] ![80, 512] inb_S640x2048_S80x512_400_1024)) (View.ld vs (Rect.unit ![400, 1536] ![80, 512] inb_S640x2048_S80x512_400_1536))⟩,
    ⟨S64x1024, headO (headQ v25 v59 v62 v65 768 slices_S1024x1024_o0_768_S1024x128)
      (View.ld ks (Rect.unit ![0, 768] ![512, 128] inb_S2048x1024_S512x128_0_768)) (View.ld ks (Rect.unit ![512, 768] ![512, 128] inb_S2048x1024_S512x128_512_768)) (View.ld ks (Rect.unit ![1024, 768] ![512, 128] inb_S2048x1024_S512x128_1024_768)) (View.ld ks (Rect.unit ![1536, 768] ![512, 128] inb_S2048x1024_S512x128_1536_768))
      (View.ld vs (Rect.unit ![480, 0] ![80, 512] inb_S640x2048_S80x512_480_0)) (View.ld vs (Rect.unit ![480, 512] ![80, 512] inb_S640x2048_S80x512_480_512)) (View.ld vs (Rect.unit ![480, 1024] ![80, 512] inb_S640x2048_S80x512_480_1024)) (View.ld vs (Rect.unit ![480, 1536] ![80, 512] inb_S640x2048_S80x512_480_1536))⟩,
    ⟨S64x1024, headO (headQ v25 v59 v62 v65 896 slices_S1024x1024_o0_896_S1024x128)
      (View.ld ks (Rect.unit ![0, 896] ![512, 128] inb_S2048x1024_S512x128_0_896)) (View.ld ks (Rect.unit ![512, 896] ![512, 128] inb_S2048x1024_S512x128_512_896)) (View.ld ks (Rect.unit ![1024, 896] ![512, 128] inb_S2048x1024_S512x128_1024_896)) (View.ld ks (Rect.unit ![1536, 896] ![512, 128] inb_S2048x1024_S512x128_1536_896))
      (View.ld vs (Rect.unit ![560, 0] ![80, 512] inb_S640x2048_S80x512_560_0)) (View.ld vs (Rect.unit ![560, 512] ![80, 512] inb_S640x2048_S80x512_560_512)) (View.ld vs (Rect.unit ![560, 1024] ![80, 512] inb_S640x2048_S80x512_560_1024)) (View.ld vs (Rect.unit ![560, 1536] ![80, 512] inb_S640x2048_S80x512_560_1536))⟩]
    concatenates_S64x1024_S64x1024_S64x1024_S64x1024_S64x1024_S64x1024_S64x1024_S64x1024_S512x1024_d0)
    transposes_S512x1024_p1_0_S1024x512) bitsLt_bf16_f32) shapeCasts_S1024x512_S1x1024x512

variable (m : (ℓ : Loc nD τ sig) → Buf (Elt Ideal) ℓ)

/-- The projected queries of point `t`. -/
abbrev q1At (c : Dev nD) (t : Fin cfg0.N) : FVec Ideal S1024x1024 .f32 := k0_pay25 (iblk m c 1 t) (iblk m c 4 t) (iblk m c 6 t)

/-- The rotary cosines of point `t`'s queries. -/
abbrev cosAt (c : Dev nD) (t : Fin cfg0.N) : FVec Ideal S1024x128 .f32 :=
  k0_pay31 (View.ld (iblk m c 2 t) (Rect.unit (k0_off19 (grid0.coords t)) ![1, 1024, 128] (k0_off19_inb (grid0.coords t))))

/-- The rotary sines of point `t`'s queries. -/
abbrev sinAt (c : Dev nD) (t : Fin cfg0.N) : FVec Ideal S1024x128 .f32 :=
  k0_pay32 (View.ld (iblk m c 3 t) (Rect.unit (k0_off19 (grid0.coords t)) ![1, 1024, 128] (k0_off19_inb (grid0.coords t))))

/-- At a point whose scratch is carried in, the block stored is `blockO` of that scratch. -/
theorem out_B (c : Dev nD) (t : Fin cfg0.N) (h0 : ¬cond0_0 (grid0.coords t)) (ks : Vec Ideal S2048x1024 .bf16) (vs : Vec Ideal S640x2048 .bf16) :
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 (iblk m c 0 t) (iblk m c 1 t) (iblk m c 2 t) (iblk m c 3 t) (iblk m c 4 t) (iblk m c 5 t) (iblk m c 6 t) (iblk m c 7 t) (iblk m c 8 t) ks vs
      = blockO (q1At m c t) (rotated (q1At m c t)) (cosAt m c t) (sinAt m c t) ks vs := by
  unfold out0_B_9
  rw [View.read_writes_junk_eq_canon]
  unfold kernelRun0_B
  dsimp only
  rw [View.canon_unit_zero (S := S1x1024x512) (by funext a; fin_cases a <;> rfl)]
  sl_unfold_words
  simp only [View.readAt_eq_ld, (hs0_1 t).read_unread, (hs0_2 t).read_unread, (hs0_3 t).read_unread, (hs0_4 t).read_unread, (hs0_6 t).read_unread, (Memref.isWhole_whole cc0_scratch0).read_unread, (Memref.isWhole_whole cc0_scratch1).read_unread]
  rw [View.ld_unit_zero (S := S1x1024x384) (by funext a; fin_cases a <;> rfl), View.ld_unit_zero (S := S1x384) (by funext a; fin_cases a <;> rfl), View.ld_unit_zero (S := S384x1024) (by funext a; fin_cases a <;> rfl)]
  rfl

/-- At a point that fills the scratch, the block stored is `blockO` of what it filled it with. -/
theorem out_A (c : Dev nD) (t : Fin cfg0.N) (h0 : cond0_0 (grid0.coords t)) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 (iblk m c 0 t) (iblk m c 1 t) (iblk m c 2 t) (iblk m c 3 t) (iblk m c 4 t) (iblk m c 5 t) (iblk m c 6 t) (iblk m c 7 t) (iblk m c 8 t)
      = blockO (q1At m c t) (rotated (q1At m c t)) (cosAt m c t) (sinAt m c t)
          (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 (iblk m c 0 t) (iblk m c 1 t) (iblk m c 2 t) (iblk m c 3 t) (iblk m c 4 t) (iblk m c 5 t) (iblk m c 6 t) (iblk m c 7 t) (iblk m c 8 t))
          (sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 (iblk m c 0 t) (iblk m c 1 t) (iblk m c 2 t) (iblk m c 3 t) (iblk m c 4 t) (iblk m c 5 t) (iblk m c 6 t) (iblk m c 7 t) (iblk m c 8 t)) := by
  unfold out0_A_9 sout0_A_0 sout0_A_1
  rw [View.read_writes_junk_eq_canon, View.read_writes_junk_eq_canon, View.read_writes_junk_eq_canon]
  unfold kernelRun0_A
  dsimp only
  rw [View.canon_unit_zero (S := S1x1024x512) (by funext a; fin_cases a <;> rfl)]
  sl_unfold_words
  simp only [View.readAt_eq_ld, View.readCov_eq_canon', (hs0_1 t).read_unread, (hs0_2 t).read_unread, (hs0_3 t).read_unread, (hs0_4 t).read_unread, (hs0_6 t).read_unread]
  rw [View.ld_unit_zero (S := S1x1024x384) (by funext a; fin_cases a <;> rfl), View.ld_unit_zero (S := S1x384) (by funext a; fin_cases a <;> rfl), View.ld_unit_zero (S := S384x1024) (by funext a; fin_cases a <;> rfl)]
  rfl

end Cert.KernelIdeal.Attn

end
-- ==== Proof.Scratch.lean ====
/- What the attention kernel keeps in its two scratch buffers, entry by entry: the keys of all heads (projected part
   plus rotated shared part) and the transposed values with rows of ones. -/
module

public import proofs.«01_k».proof.Proof.Head

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- The reciprocal root mean square of row `r`'s first 256 entries. -/
def kvR (x0 : FVec Ideal S1x2048x512 .bf16) (r : Fin 2048) : EReal :=
  Ideal.rsqrt (Ideal.div (∑ j : Fin 256, x0 (ix3 0 r ⟨j.val, by omega⟩) * x0 (ix3 0 r ⟨j.val, by omega⟩)) (Ideal.ofBits .f32 0x43800000#32) + Ideal.ofBits .f32 0x358637BD#32)

/-- The normalised shared key/value row, entry `k`. -/
def kvN (x0 : FVec Ideal S1x2048x512 .bf16) (x5 : FVec Ideal S1x256 .f32) (r : Fin 2048) (k : Fin 256) : EReal :=
  x0 (ix3 0 r ⟨k.val, by omega⟩) * kvR x0 r * x5 (ix2 0 k)

/-- Entry `(r, c)` of the key scratch. -/
def keyF (x0 : FVec Ideal S1x2048x512 .bf16) (x2 x3 : FVec Ideal S1x2048x128 .f32) (x5 : FVec Ideal S1x256 .f32)
    (x7 : FVec Ideal S256x1024 .bf16) (r : Fin 2048) (c : Fin 1024) : EReal :=
  (∑ k : Fin 256, kvN x0 x5 r k * x7 (ix2 k c)) +
    (x0 (ix3 0 r ⟨256 + c.val % 128, by omega⟩) * x2 (ix3 0 r ⟨c.val % 128, by omega⟩)
      + x0 (ix3 0 r ⟨384 + c.val % 128, by omega⟩) * x3 (ix3 0 r ⟨c.val % 128, by omega⟩))

/-- Entry `(e, r)` of the value scratch: 64 value rows, then 16 rows of ones, per head. -/
def valF (x0 : FVec Ideal S1x2048x512 .bf16) (x5 : FVec Ideal S1x256 .f32) (x8 : FVec Ideal S512x256 .bf16)
    (e : Fin 640) (r : Fin 2048) : EReal :=
  if h : e.val % 80 < 64 then ∑ k : Fin 256, x8 (ix2 ⟨e.val / 80 * 64 + e.val % 80, by omega⟩ k) * kvN x0 x5 r k else 1

/-- The trip's rows start at 512 times its number. -/
theorem off1 : ∀ k : Fin k0_t1_loop.trips, k0_off1 k = ![0, 512 * k.val, 0] := by decide +kernel
theorem off2 : ∀ k : Fin k0_t1_loop.trips, k0_off2 k = ![0, 512 * k.val, 0] := by decide +kernel
theorem off3 : ∀ k : Fin k0_t1_loop.trips, k0_off3 k = ![512 * k.val, 0] := by decide +kernel
theorem off4 : ∀ k : Fin k0_t1_loop.trips, k0_off4 k = ![512 * k.val, 128] := by decide +kernel
theorem off5 : ∀ k : Fin k0_t1_loop.trips, k0_off5 k = ![512 * k.val, 256] := by decide +kernel
theorem off6 : ∀ k : Fin k0_t1_loop.trips, k0_off6 k = ![512 * k.val, 384] := by decide +kernel
theorem off7 : ∀ k : Fin k0_t1_loop.trips, k0_off7 k = ![512 * k.val, 512] := by decide +kernel
theorem off8 : ∀ k : Fin k0_t1_loop.trips, k0_off8 k = ![512 * k.val, 640] := by decide +kernel
theorem off9 : ∀ k : Fin k0_t1_loop.trips, k0_off9 k = ![512 * k.val, 768] := by decide +kernel
theorem off10 : ∀ k : Fin k0_t1_loop.trips, k0_off10 k = ![512 * k.val, 896] := by decide +kernel
theorem off11 : ∀ k : Fin k0_t1_loop.trips, k0_off11 k = ![0, 512 * k.val] := by decide +kernel
theorem off12 : ∀ k : Fin k0_t1_loop.trips, k0_off12 k = ![80, 512 * k.val] := by decide +kernel
theorem off13 : ∀ k : Fin k0_t1_loop.trips, k0_off13 k = ![160, 512 * k.val] := by decide +kernel
theorem off14 : ∀ k : Fin k0_t1_loop.trips, k0_off14 k = ![240, 512 * k.val] := by decide +kernel
theorem off15 : ∀ k : Fin k0_t1_loop.trips, k0_off15 k = ![320, 512 * k.val] := by decide +kernel
theorem off16 : ∀ k : Fin k0_t1_loop.trips, k0_off16 k = ![400, 512 * k.val] := by decide +kernel
theorem off17 : ∀ k : Fin k0_t1_loop.trips, k0_off17 k = ![480, 512 * k.val] := by decide +kernel
theorem off18 : ∀ k : Fin k0_t1_loop.trips, k0_off18 k = ![560, 512 * k.val] := by decide +kernel
theorem trips4 : ∀ k : Fin k0_t1_loop.trips, k.val < 4 := by decide +kernel

section
variable (v : FVec Ideal S1x512x512 .bf16) (g : FVec Ideal S1x256 .f32)

/-- The normalised rows of one trip. -/
theorem pay3_at (r : Fin 512) (k : Fin 256) :
    k0_pay3 (F := Ideal) v g (ix2 r k) = v (ix3 0 r ⟨k.val, by omega⟩)
      * Ideal.rsqrt (Ideal.div (∑ j : Fin 256, v (ix3 0 r ⟨j.val, by omega⟩) * v (ix3 0 r ⟨j.val, by omega⟩)) (Ideal.ofBits .f32 0x43800000#32) + Ideal.ofBits .f32 0x358637BD#32)
      * g (ix2 0 k) := by
  pointwise [k0_pay3, k0_pay2]

/-- The projected key part of one trip. -/
theorem pay4_at (w : FVec Ideal S256x1024 .bf16) (r : Fin 512) (c : Fin 1024) :
    k0_pay4 (F := Ideal) v g w (ix2 r c) = ∑ k : Fin 256, k0_pay3 (F := Ideal) v g (ix2 r k) * w (ix2 k c) := by
  pointwise [k0_pay4]

/-- The shared rotated key part of one trip. -/
theorem pay5_at (a b : FVec Ideal S1x512x128 .f32) (r : Fin 512) (l : Fin 128) :
    k0_pay5 (F := Ideal) v a b (ix2 r l) = v (ix3 0 r ⟨256 + l.val, by omega⟩) * a (ix3 0 r l) + v (ix3 0 r ⟨384 + l.val, by omega⟩) * b (ix3 0 r l) := by
  pointwise [k0_pay5, k0_pay2]

/-- The transposed values of one trip. -/
theorem pay15_at (n : FVec Ideal S512x256 .bf16) (w : FVec Ideal S512x256 .bf16) (e r : Fin 512) :
    k0_pay15 (F := Ideal) n w (ix2 e r) = ∑ k : Fin 256, w (ix2 e k) * n (ix2 r k) := by
  pointwise [k0_pay15]
end

theorem key0_at (v : FVec Ideal S1x512x512 .bf16) (g : FVec Ideal S1x256 .f32) (w : FVec Ideal S256x1024 .bf16) (a b : FVec Ideal S1x512x128 .f32) (r : Fin 512) (l : Fin 128) :
    k0_pay6 (F := Ideal) v g w a b (ix2 r l) = k0_pay4 (F := Ideal) v g w (ix2 r ⟨0 + l.val, by omega⟩) + k0_pay5 (F := Ideal) v a b (ix2 r l) := by
  pointwise [k0_pay6]
theorem key1_at (n : FVec Ideal S512x1024 .f32) (s : FVec Ideal S512x128 .f32) (r : Fin 512) (l : Fin 128) :
    k0_pay7 (F := Ideal) n s (ix2 r l) = n (ix2 r ⟨128 + l.val, by omega⟩) + s (ix2 r l) := by
  pointwise [k0_pay7]
theorem key2_at (n : FVec Ideal S512x1024 .f32) (s : FVec Ideal S512x128 .f32) (r : Fin 512) (l : Fin 128) :
    k0_pay8 (F := Ideal) n s (ix2 r l) = n (ix2 r ⟨256 + l.val, by omega⟩) + s (ix2 r l) := by
  pointwise [k0_pay8]
theorem key3_at (n : FVec Ideal S512x1024 .f32) (s : FVec Ideal S512x128 .f32) (r : Fin 512) (l : Fin 128) :
    k0_pay9 (F := Ideal) n s (ix2 r l) = n (ix2 r ⟨384 + l.val, by omega⟩) + s (ix2 r l) := by
  pointwise [k0_pay9]
theorem key4_at (n : FVec Ideal S512x1024 .f32) (s : FVec Ideal S512x128 .f32) (r : Fin 512) (l : Fin 128) :
    k0_pay10 (F := Ideal) n s (ix2 r l) = n (ix2 r ⟨512 + l.val, by omega⟩) + s (ix2 r l) := by
  pointwise [k0_pay10]
theorem key5_at (n : FVec Ideal S512x1024 .f32) (s : FVec Ideal S512x128 .f32) (r : Fin 512) (l : Fin 128) :
    k0_pay11 (F := Ideal) n s (ix2 r l) = n (ix2 r ⟨640 + l.val, by omega⟩) + s (ix2 r l) := by
  pointwise [k0_pay11]
theorem key6_at (n : FVec Ideal S512x1024 .f32) (s : FVec Ideal S512x128 .f32) (r : Fin 512) (l : Fin 128) :
    k0_pay12 (F := Ideal) n s (ix2 r l) = n (ix2 r ⟨768 + l.val, by omega⟩) + s (ix2 r l) := by
  pointwise [k0_pay12]
theorem key7_at (n : FVec Ideal S512x1024 .f32) (s : FVec Ideal S512x128 .f32) (r : Fin 512) (l : Fin 128) :
    k0_pay14 (k0_pay13 (F := Ideal) n s) (ix2 r l) = n (ix2 r ⟨896 + l.val, by omega⟩) + s (ix2 r l) := by
  pointwise [k0_pay13, k0_pay14]
theorem val0_at (n : FVec Ideal S512x256 .bf16) (w : FVec Ideal S512x256 .bf16) (e : Fin 80) (r : Fin 512) :
    k0_pay17 (F := Ideal) n w (ix2 e r) = if h : e.val < 64 then k0_pay15 (F := Ideal) n w (ix2 ⟨0 + e.val, by omega⟩ r) else 1 := by
  pointwise [k0_pay17, k0_pay16]
theorem val1_at (n : FVec Ideal S512x256 .bf16) (w : FVec Ideal S512x256 .bf16) (e : Fin 80) (r : Fin 512) :
    k0_pay18 (F := Ideal) n w (ix2 e r) = if h : e.val < 64 then k0_pay15 (F := Ideal) n w (ix2 ⟨64 + e.val, by omega⟩ r) else 1 := by
  pointwise [k0_pay18, k0_pay16]
theorem val2_at (n : FVec Ideal S512x256 .bf16) (w : FVec Ideal S512x256 .bf16) (e : Fin 80) (r : Fin 512) :
    k0_pay19 (F := Ideal) n w (ix2 e r) = if h : e.val < 64 then k0_pay15 (F := Ideal) n w (ix2 ⟨128 + e.val, by omega⟩ r) else 1 := by
  pointwise [k0_pay19, k0_pay16]
theorem val3_at (n : FVec Ideal S512x256 .bf16) (w : FVec Ideal S512x256 .bf16) (e : Fin 80) (r : Fin 512) :
    k0_pay20 (F := Ideal) n w (ix2 e r) = if h : e.val < 64 then k0_pay15 (F := Ideal) n w (ix2 ⟨192 + e.val, by omega⟩ r) else 1 := by
  pointwise [k0_pay20, k0_pay16]
theorem val4_at (n : FVec Ideal S512x256 .bf16) (w : FVec Ideal S512x256 .bf16) (e : Fin 80) (r : Fin 512) :
    k0_pay21 (F := Ideal) n w (ix2 e r) = if h : e.val < 64 then k0_pay15 (F := Ideal) n w (ix2 ⟨256 + e.val, by omega⟩ r) else 1 := by
  pointwise [k0_pay21, k0_pay16]
theorem val5_at (n : FVec Ideal S512x256 .bf16) (w : FVec Ideal S512x256 .bf16) (e : Fin 80) (r : Fin 512) :
    k0_pay22 (F := Ideal) n w (ix2 e r) = if h : e.val < 64 then k0_pay15 (F := Ideal) n w (ix2 ⟨320 + e.val, by omega⟩ r) else 1 := by
  pointwise [k0_pay22, k0_pay16]
theorem val6_at (n : FVec Ideal S512x256 .bf16) (w : FVec Ideal S512x256 .bf16) (e : Fin 80) (r : Fin 512) :
    k0_pay23 (F := Ideal) (k0_pay15 n w) k0_pay16 (ix2 e r) = if h : e.val < 64 then k0_pay15 (F := Ideal) n w (ix2 ⟨384 + e.val, by omega⟩ r) else 1 := by
  pointwise [k0_pay23, k0_pay16]
theorem val7_at (n : FVec Ideal S512x256 .bf16) (w : FVec Ideal S512x256 .bf16) (e : Fin 80) (r : Fin 512) :
    k0_pay24 (F := Ideal) (k0_pay15 n w) k0_pay16 (ix2 e r) = if h : e.val < 64 then k0_pay15 (F := Ideal) n w (ix2 ⟨448 + e.val, by omega⟩ r) else 1 := by
  pointwise [k0_pay24, k0_pay16]

variable (m : (ℓ : Loc nD τ sig) → Buf (Elt Ideal) ℓ)

/-- The key pieces one trip writes: one per head. -/
theorem trip_keys (c : Dev nD) (t : Fin cfg0.N) (h0 : cond0_0 (grid0.coords t)) (k : Fin k0_t1_loop.trips) :
    (tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 ((hs0_0 t).unread (iblk m c 0 t)) ((hs0_2 t).unread (iblk m c 2 t)) ((hs0_3 t).unread (iblk m c 3 t)) ((hs0_5 t).unread (iblk m c 5 t)) ((hs0_7 t).unread (iblk m c 7 t)) ((hs0_8 t).unread (iblk m c 8 t)) k).1
      = [⟨Rect.unit (k0_off10 k) ![512, 128] (k0_off10_inb (grid0.coords t) k h0), k0_pay14 (k0_pay13 (k0_pay4 (View.ld (iblk m c 0 t) (Rect.unit (k0_off1 k) ![1, 512, 512] (k0_off1_inb (grid0.coords t) k h0))) (iblk m c 5 t) (iblk m c 7 t)) (k0_pay5 (View.ld (iblk m c 0 t) (Rect.unit (k0_off1 k) ![1, 512, 512] (k0_off1_inb (grid0.coords t) k h0))) (View.ld (iblk m c 2 t) (Rect.unit (k0_off2 k) ![1, 512, 128] (k0_off2_inb (grid0.coords t) k h0))) (View.ld (iblk m c 3 t) (Rect.unit (k0_off2 k) ![1, 512, 128] (k0_off2_inb (grid0.coords t) k h0)))))⟩,
        ⟨Rect.unit (k0_off9 k) ![512, 128] (k0_off9_inb (grid0.coords t) k h0), k0_pay12 (k0_pay4 (View.ld (iblk m c 0 t) (Rect.unit (k0_off1 k) ![1, 512, 512] (k0_off1_inb (grid0.coords t) k h0))) (iblk m c 5 t) (iblk m c 7 t)) (k0_pay5 (View.ld (iblk m c 0 t) (Rect.unit (k0_off1 k) ![1, 512, 512] (k0_off1_inb (grid0.coords t) k h0))) (View.ld (iblk m c 2 t) (Rect.unit (k0_off2 k) ![1, 512, 128] (k0_off2_inb (grid0.coords t) k h0))) (View.ld (iblk m c 3 t) (Rect.unit (k0_off2 k) ![1, 512, 128] (k0_off2_inb (grid0.coords t) k h0))))⟩,
        ⟨Rect.unit (k0_off8 k) ![512, 128] (k0_off8_inb (grid0.coords t) k h0), k0_pay11 (k0_pay4 (View.ld (iblk m c 0 t) (Rect.unit (k0_off1 k) ![1, 512, 512] (k0_off1_inb (grid0.coords t) k h0))) (iblk m c 5 t) (iblk m c 7 t)) (k0_pay5 (View.ld (iblk m c 0 t) (Rect.unit (k0_off1 k) ![1, 512, 512] (k0_off1_inb (grid0.coords t) k h0))) (View.ld (iblk m c 2 t) (Rect.unit (k0_off2 k) ![1, 512, 128] (k0_off2_inb (grid0.coords t) k h0))) (View.ld (iblk m c 3 t) (Rect.unit (k0_off2 k) ![1, 512, 128] (k0_off2_inb (grid0.coords t) k h0))))⟩,
        ⟨Rect.unit (k0_off7 k) ![512, 128] (k0_off7_inb (grid0.coords t) k h0), k0_pay10 (k0_pay4 (View.ld (iblk m c 0 t) (Rect.unit (k0_off1 k) ![1, 512, 512] (k0_off1_inb (grid0.coords t) k h0))) (iblk m c 5 t) (iblk m c 7 t)) (k0_pay5 (View.ld (iblk m c 0 t) (Rect.unit (k0_off1 k) ![1, 512, 512] (k0_off1_inb (grid0.coords t) k h0))) (View.ld (iblk m c 2 t) (Rect.unit (k0_off2 k) ![1, 512, 128] (k0_off2_inb (grid0.coords t) k h0))) (View.ld (iblk m c 3 t) (Rect.unit (k0_off2 k) ![1, 512, 128] (k0_off2_inb (grid0.coords t) k h0))))⟩,
        ⟨Rect.unit (k0_off6 k) ![512, 128] (k0_off6_inb (grid0.coords t) k h0), k0_pay9 (k0_pay4 (View.ld (iblk m c 0 t) (Rect.unit (k0_off1 k) ![1, 512, 512] (k0_off1_inb (grid0.coords t) k h0))) (iblk m c 5 t) (iblk m c 7 t)) (k0_pay5 (View.ld (iblk m c 0 t) (Rect.unit (k0_off1 k) ![1, 512, 512] (k0_off1_inb (grid0.coords t) k h0))) (View.ld (iblk m c 2 t) (Rect.unit (k0_off2 k) ![1, 512, 128] (k0_off2_inb (grid0.coords t) k h0))) (View.ld (iblk m c 3 t) (Rect.unit (k0_off2 k) ![1, 512, 128] (k0_off2_inb (grid0.coords t) k h0))))⟩,
        ⟨Rect.unit (k0_off5 k) ![512, 128] (k0_off5_inb (grid0.coords t) k h0), k0_pay8 (k0_pay4 (View.ld (iblk m c 0 t) (Rect.unit (k0_off1 k) ![1, 512, 512] (k0_off1_inb (grid0.coords t) k h0))) (iblk m c 5 t) (iblk m c 7 t)) (k0_pay5 (View.ld (iblk m c 0 t) (Rect.unit (k0_off1 k) ![1, 512, 512] (k0_off1_inb (grid0.coords t) k h0))) (View.ld (iblk m c 2 t) (Rect.unit (k0_off2 k) ![1, 512, 128] (k0_off2_inb (grid0.coords t) k h0))) (View.ld (iblk m c 3 t) (Rect.unit (k0_off2 k) ![1, 512, 128] (k0_off2_inb (grid0.coords t) k h0))))⟩,
        ⟨Rect.unit (k0_off4 k) ![512, 128] (k0_off4_inb (grid0.coords t) k h0), k0_pay7 (k0_pay4 (View.ld (iblk m c 0 t) (Rect.unit (k0_off1 k) ![1, 512, 512] (k0_off1_inb (grid0.coords t) k h0))) (iblk m c 5 t) (iblk m c 7 t)) (k0_pay5 (View.ld (iblk m c 0 t) (Rect.unit (k0_off1 k) ![1, 512, 512] (k0_off1_inb (grid0.coords t) k h0))) (View.ld (iblk m c 2 t) (Rect.unit (k0_off2 k) ![1, 512, 128] (k0_off2_inb (grid0.coords t) k h0))) (View.ld (iblk m c 3 t) (Rect.unit (k0_off2 k) ![1, 512, 128] (k0_off2_inb (grid0.coords t) k h0))))⟩,
        ⟨Rect.unit (k0_off3 k) ![512, 128] (k0_off3_inb (grid0.coords t) k h0), k0_pay6 (View.ld (iblk m c 0 t) (Rect.unit (k0_off1 k) ![1, 512, 512] (k0_off1_inb (grid0.coords t) k h0))) (iblk m c 5 t) (iblk m c 7 t) (View.ld (iblk m c 2 t) (Rect.unit (k0_off2 k) ![1, 512, 128] (k0_off2_inb (grid0.coords t) k h0))) (View.ld (iblk m c 3 t) (Rect.unit (k0_off2 k) ![1, 512, 128] (k0_off2_inb (grid0.coords t) k h0)))⟩] := by
  unfold tripL_k0_t1 trip_k0_t1
  dsimp only
  sl_unfold_words
  simp only [View.readAt_eq_ld, (hs0_0 t).read_unread, (hs0_2 t).read_unread, (hs0_3 t).read_unread, (hs0_5 t).read_unread, (hs0_7 t).read_unread, (hs0_8 t).read_unread]
  rw [View.ld_unit_zero (S := S1x256) (by funext a; fin_cases a <;> rfl), View.ld_unit_zero (S := S256x1024) (by funext a; fin_cases a <;> rfl)]
  rfl

set_option maxHeartbeats 2000000 in
/-- The value pieces one trip writes: one per head. -/
theorem trip_vals (c : Dev nD) (t : Fin cfg0.N) (h0 : cond0_0 (grid0.coords t)) (k : Fin k0_t1_loop.trips) :
    (tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 ((hs0_0 t).unread (iblk m c 0 t)) ((hs0_2 t).unread (iblk m c 2 t)) ((hs0_3 t).unread (iblk m c 3 t)) ((hs0_5 t).unread (iblk m c 5 t)) ((hs0_7 t).unread (iblk m c 7 t)) ((hs0_8 t).unread (iblk m c 8 t)) k).2
      = [⟨Rect.unit (k0_off18 k) ![80, 512] (k0_off18_inb (grid0.coords t) k h0), k0_pay24 (k0_pay15 (k0_pay3 (View.ld (iblk m c 0 t) (Rect.unit (k0_off1 k) ![1, 512, 512] (k0_off1_inb (grid0.coords t) k h0))) (iblk m c 5 t)) (iblk m c 8 t)) k0_pay16⟩,
        ⟨Rect.unit (k0_off17 k) ![80, 512] (k0_off17_inb (grid0.coords t) k h0), k0_pay23 (k0_pay15 (k0_pay3 (View.ld (iblk m c 0 t) (Rect.unit (k0_off1 k) ![1, 512, 512] (k0_off1_inb (grid0.coords t) k h0))) (iblk m c 5 t)) (iblk m c 8 t)) k0_pay16⟩,
        ⟨Rect.unit (k0_off16 k) ![80, 512] (k0_off16_inb (grid0.coords t) k h0), k0_pay22 (k0_pay3 (View.ld (iblk m c 0 t) (Rect.unit (k0_off1 k) ![1, 512, 512] (k0_off1_inb (grid0.coords t) k h0))) (iblk m c 5 t)) (iblk m c 8 t)⟩,
        ⟨Rect.unit (k0_off15 k) ![80, 512] (k0_off15_inb (grid0.coords t) k h0), k0_pay21 (k0_pay3 (View.ld (iblk m c 0 t) (Rect.unit (k0_off1 k) ![1, 512, 512] (k0_off1_inb (grid0.coords t) k h0))) (iblk m c 5 t)) (iblk m c 8 t)⟩,
        ⟨Rect.unit (k0_off14 k) ![80, 512] (k0_off14_inb (grid0.coords t) k h0), k0_pay20 (k0_pay3 (View.ld (iblk m c 0 t) (Rect.unit (k0_off1 k) ![1, 512, 512] (k0_off1_inb (grid0.coords t) k h0))) (iblk m c 5 t)) (iblk m c 8 t)⟩,
        ⟨Rect.unit (k0_off13 k) ![80, 512] (k0_off13_inb (grid0.coords t) k h0), k0_pay19 (k0_pay3 (View.ld (iblk m c 0 t) (Rect.unit (k0_off1 k) ![1, 512, 512] (k0_off1_inb (grid0.coords t) k h0))) (iblk m c 5 t)) (iblk m c 8 t)⟩,
        ⟨Rect.unit (k0_off12 k) ![80, 512] (k0_off12_inb (grid0.coords t) k h0), k0_pay18 (k0_pay3 (View.ld (iblk m c 0 t) (Rect.unit (k0_off1 k) ![1, 512, 512] (k0_off1_inb (grid0.coords t) k h0))) (iblk m c 5 t)) (iblk m c 8 t)⟩,
        ⟨Rect.unit (k0_off11 k) ![80, 512] (k0_off11_inb (grid0.coords t) k h0), k0_pay17 (k0_pay3 (View.ld (iblk m c 0 t) (Rect.unit (k0_off1 k) ![1, 512, 512] (k0_off1_inb (grid0.coords t) k h0))) (iblk m c 5 t)) (iblk m c 8 t)⟩] := by
  unfold tripL_k0_t1 trip_k0_t1
  dsimp only
  refine congrArg₂ List.cons (congrArg (Sigma.mk _) (congrArg₂ (k0_pay24 (F := Ideal)) (congrArg₂ (k0_pay15 (F := Ideal)) ?_ ?_) rfl)) (congrArg₂ List.cons (congrArg (Sigma.mk _) (congrArg₂ (k0_pay23 (F := Ideal)) (congrArg₂ (k0_pay15 (F := Ideal)) ?_ ?_) rfl)) (congrArg₂ List.cons (congrArg (Sigma.mk _) (congrArg₂ (k0_pay22 (F := Ideal)) ?_ ?_)) (congrArg₂ List.cons (congrArg (Sigma.mk _) (congrArg₂ (k0_pay21 (F := Ideal)) ?_ ?_)) (congrArg₂ List.cons (congrArg (Sigma.mk _) (congrArg₂ (k0_pay20 (F := Ideal)) ?_ ?_)) (congrArg₂ List.cons (congrArg (Sigma.mk _) (congrArg₂ (k0_pay19 (F := Ideal)) ?_ ?_)) (congrArg₂ List.cons (congrArg (Sigma.mk _) (congrArg₂ (k0_pay18 (F := Ideal)) ?_ ?_)) (congrArg₂ List.cons (congrArg (Sigma.mk _) (congrArg₂ (k0_pay17 (F := Ideal)) ?_ ?_)) rfl)))))))
  iterate 8
    · sl_unfold_words
      simp only [View.readAt_eq_ld, (hs0_0 t).read_unread, (hs0_2 t).read_unread, (hs0_3 t).read_unread, (hs0_5 t).read_unread, (hs0_7 t).read_unread, (hs0_8 t).read_unread]
      rw [View.ld_unit_zero (S := S1x256) (by funext a; fin_cases a <;> rfl)]
      rfl
    · sl_unfold_words
      simp only [View.readAt_eq_ld, (hs0_0 t).read_unread, (hs0_2 t).read_unread, (hs0_3 t).read_unread, (hs0_5 t).read_unread, (hs0_7 t).read_unread, (hs0_8 t).read_unread]
      rw [View.ld_unit_zero (S := S512x256) (by funext a; fin_cases a <;> rfl)]

section
variable (x0 : FVec Ideal S1x2048x512 .bf16) (x2 x3 : FVec Ideal S1x2048x128 .f32) (x5 : FVec Ideal S1x256 .f32)
  (x7 : FVec Ideal S256x1024 .bf16) (x8 : FVec Ideal S512x256 .bf16)

/-- One trip's normalised rows are the rows 512 times its number onwards. -/
theorem norm_trip (k : ℕ) (hk : k < 4) (v : FVec Ideal S1x512x512 .bf16)
    (hv : ∀ (r : Fin 512) (c : Fin 512), v (ix3 0 r c) = x0 (ix3 0 ⟨512 * k + r.val, by omega⟩ c)) (r : Fin 512) (j : Fin 256) :
    k0_pay3 (F := Ideal) v x5 (ix2 r j) = kvN x0 x5 ⟨512 * k + r.val, by omega⟩ j := by
  rw [pay3_at]
  simp only [hv]
  rfl

/-- One trip's keys of head `h`. -/
theorem key_trip (k : ℕ) (hk : k < 4) (h : ℕ) (hh : h < 8) (v : FVec Ideal S1x512x512 .bf16) (a b : FVec Ideal S1x512x128 .f32)
    (hv : ∀ (r : Fin 512) (c : Fin 512), v (ix3 0 r c) = x0 (ix3 0 ⟨512 * k + r.val, by omega⟩ c))
    (ha : ∀ (r : Fin 512) (l : Fin 128), a (ix3 0 r l) = x2 (ix3 0 ⟨512 * k + r.val, by omega⟩ l))
    (hb : ∀ (r : Fin 512) (l : Fin 128), b (ix3 0 r l) = x3 (ix3 0 ⟨512 * k + r.val, by omega⟩ l)) (r : Fin 512) (l : Fin 128) :
    k0_pay4 (F := Ideal) v x5 x7 (ix2 r ⟨128 * h + l.val, by omega⟩) + k0_pay5 (F := Ideal) v a b (ix2 r l)
      = keyF x0 x2 x3 x5 x7 ⟨512 * k + r.val, by omega⟩ ⟨128 * h + l.val, by omega⟩ := by
  rw [pay4_at, pay5_at]
  simp only [hv, ha, hb, norm_trip x0 x5 k hk v hv]
  unfold keyF
  have e : (128 * h + l.val) % 128 = l.val := by omega
  simp only [e]

/-- A piece at rows `512 k`, lanes `128 h` whose payload is the keys there restricts the key function. -/
theorem key_piece (k : ℕ) (hk : k < 4) (h : ℕ) (hh : h < 8) (off : Fin 2 → ℕ) (e : off = ![512 * k, 128 * h])
    (inb : ∀ a, off a + (![512, 128] : Fin 2 → ℕ) a ≤ S2048x1024.size a) (P : FVec Ideal S512x128 .bf16)
    (hP : ∀ (r : Fin 512) (l : Fin 128), P (ix2 r l) = keyF x0 x2 x3 x5 x7 ⟨512 * k + r.val, by omega⟩ ⟨128 * h + l.val, by omega⟩)
    (x : (Rect.unit (s := S2048x1024) off ![512, 128] inb).shape.Idx) :
    P x = (fun y : S2048x1024.Idx => keyF x0 x2 x3 x5 x7 (y 0) (y 1)) ((Rect.unit (s := S2048x1024) off ![512, 128] inb).emb x) := by
  subst e
  have h1 := hP (x 0) (x 1)
  refine (congrArg P (eq_ix2 x)).trans (h1.trans ?_)
  refine congrArg₂ (keyF x0 x2 x3 x5 x7) (Fin.ext ?_) (Fin.ext ?_)
  · exact congrArg (512 * k + ·) (Nat.one_mul (x 0).val).symm
  · exact congrArg (128 * h + ·) (Nat.one_mul (x 1).val).symm

/-- One trip's values of head `h`, with its rows of ones. -/
theorem val_trip (k : ℕ) (hk : k < 4) (h : ℕ) (hh : h < 8) (v : FVec Ideal S1x512x512 .bf16)
    (hv : ∀ (r : Fin 512) (c : Fin 512), v (ix3 0 r c) = x0 (ix3 0 ⟨512 * k + r.val, by omega⟩ c)) (e : Fin 80) (r : Fin 512) :
    (if h' : e.val < 64 then k0_pay15 (F := Ideal) (k0_pay3 v x5) x8 (ix2 ⟨64 * h + e.val, by omega⟩ r) else (1 : EReal))
      = valF x0 x5 x8 ⟨80 * h + e.val, by omega⟩ ⟨512 * k + r.val, by omega⟩ := by
  unfold valF
  have e1 : (80 * h + e.val) % 80 = e.val := by omega
  have e2 : (80 * h + e.val) / 80 = h := by omega
  simp only [pay15_at, norm_trip x0 x5 k hk v hv, e1, e2, Nat.mul_comm h 64]

/-- A piece at rows `80 h`, columns `512 k` whose payload is the values there restricts the value function. -/
theorem val_piece (k : ℕ) (hk : k < 4) (h : ℕ) (hh : h < 8) (off : Fin 2 → ℕ) (e : off = ![80 * h, 512 * k])
    (inb : ∀ a, off a + (![80, 512] : Fin 2 → ℕ) a ≤ S640x2048.size a) (P : FVec Ideal S80x512 .bf16)
    (hP : ∀ (e : Fin 80) (r : Fin 512), P (ix2 e r) = valF x0 x5 x8 ⟨80 * h + e.val, by omega⟩ ⟨512 * k + r.val, by omega⟩)
    (x : (Rect.unit (s := S640x2048) off ![80, 512] inb).shape.Idx) :
    P x = (fun y : S640x2048.Idx => valF x0 x5 x8 (y 0) (y 1)) ((Rect.unit (s := S640x2048) off ![80, 512] inb).emb x) := by
  subst e
  have h1 := hP (x 0) (x 1)
  refine (congrArg P (eq_ix2 x)).trans (h1.trans ?_)
  refine congrArg₂ (valF x0 x5 x8) (Fin.ext ?_) (Fin.ext ?_)
  · exact congrArg (80 * h + ·) (Nat.one_mul (x 0).val).symm
  · exact congrArg (512 * k + ·) (Nat.one_mul (x 1).val).symm
end

/-- Every key piece of a trip restricts the one key function. -/
theorem trip_keys_eq (c : Dev nD) (t : Fin cfg0.N) (h0 : cond0_0 (grid0.coords t)) (k : Fin k0_t1_loop.trips) :
    ∀ p ∈ (tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 ((hs0_0 t).unread (iblk m c 0 t)) ((hs0_2 t).unread (iblk m c 2 t)) ((hs0_3 t).unread (iblk m c 3 t)) ((hs0_5 t).unread (iblk m c 5 t)) ((hs0_7 t).unread (iblk m c 7 t)) ((hs0_8 t).unread (iblk m c 8 t)) k).1, ∀ x : p.1.shape.Idx, p.2 x = (fun y : S2048x1024.Idx => keyF (iblk m c 0 t) (iblk m c 2 t) (iblk m c 3 t) (iblk m c 5 t) (iblk m c 7 t) (y 0) (y 1)) (p.1.emb x) := by
  rw [trip_keys]
  have hv : ∀ (r : Fin 512) (c' : Fin 512), (View.ld (iblk m c 0 t) (Rect.unit (k0_off1 k) ![1, 512, 512] (k0_off1_inb (grid0.coords t) k h0))) (ix3 0 r c') = iblk m c 0 t (ix3 0 ⟨512 * k.val + r.val, by have := trips4 k; omega⟩ c') := by
    intro r c'
    pointwise
    refine congrArg _ (congr (congrArg₂ ix3 (Fin.ext ?_) (Fin.ext ?_)) (Fin.ext ?_)) <;> simp [off1 k]
  have ha : ∀ (r : Fin 512) (l : Fin 128), (View.ld (iblk m c 2 t) (Rect.unit (k0_off2 k) ![1, 512, 128] (k0_off2_inb (grid0.coords t) k h0))) (ix3 0 r l) = iblk m c 2 t (ix3 0 ⟨512 * k.val + r.val, by have := trips4 k; omega⟩ l) := by
    intro r l
    pointwise
    refine congrArg _ (congr (congrArg₂ ix3 (Fin.ext ?_) (Fin.ext ?_)) (Fin.ext ?_)) <;> simp [off2 k]
  have hb : ∀ (r : Fin 512) (l : Fin 128), (View.ld (iblk m c 3 t) (Rect.unit (k0_off2 k) ![1, 512, 128] (k0_off2_inb (grid0.coords t) k h0))) (ix3 0 r l) = iblk m c 3 t (ix3 0 ⟨512 * k.val + r.val, by have := trips4 k; omega⟩ l) := by
    intro r l
    pointwise
    refine congrArg _ (congr (congrArg₂ ix3 (Fin.ext ?_) (Fin.ext ?_)) (Fin.ext ?_)) <;> simp [off2 k]
  intro p hp
  simp only [List.mem_cons, List.not_mem_nil, or_false] at hp
  rcases hp with rfl | rfl | rfl | rfl | rfl | rfl | rfl | rfl
  · exact key_piece _ _ _ _ _ k.val (trips4 k) 7 (by omega) _ (off10 k) (k0_off10_inb (grid0.coords t) k h0) _ (fun r l => (key7_at _ _ _ _).trans (key_trip _ _ _ _ _ k.val (trips4 k) 7 (by omega) _ _ _ hv ha hb r l))
  · exact key_piece _ _ _ _ _ k.val (trips4 k) 6 (by omega) _ (off9 k) (k0_off9_inb (grid0.coords t) k h0) _ (fun r l => (key6_at _ _ _ _).trans (key_trip _ _ _ _ _ k.val (trips4 k) 6 (by omega) _ _ _ hv ha hb r l))
  · exact key_piece _ _ _ _ _ k.val (trips4 k) 5 (by omega) _ (off8 k) (k0_off8_inb (grid0.coords t) k h0) _ (fun r l => (key5_at _ _ _ _).trans (key_trip _ _ _ _ _ k.val (trips4 k) 5 (by omega) _ _ _ hv ha hb r l))
  · exact key_piece _ _ _ _ _ k.val (trips4 k) 4 (by omega) _ (off7 k) (k0_off7_inb (grid0.coords t) k h0) _ (fun r l => (key4_at _ _ _ _).trans (key_trip _ _ _ _ _ k.val (trips4 k) 4 (by omega) _ _ _ hv ha hb r l))
  · exact key_piece _ _ _ _ _ k.val (trips4 k) 3 (by omega) _ (off6 k) (k0_off6_inb (grid0.coords t) k h0) _ (fun r l => (key3_at _ _ _ _).trans (key_trip _ _ _ _ _ k.val (trips4 k) 3 (by omega) _ _ _ hv ha hb r l))
  · exact key_piece _ _ _ _ _ k.val (trips4 k) 2 (by omega) _ (off5 k) (k0_off5_inb (grid0.coords t) k h0) _ (fun r l => (key2_at _ _ _ _).trans (key_trip _ _ _ _ _ k.val (trips4 k) 2 (by omega) _ _ _ hv ha hb r l))
  · exact key_piece _ _ _ _ _ k.val (trips4 k) 1 (by omega) _ (off4 k) (k0_off4_inb (grid0.coords t) k h0) _ (fun r l => (key1_at _ _ _ _).trans (key_trip _ _ _ _ _ k.val (trips4 k) 1 (by omega) _ _ _ hv ha hb r l))
  · exact key_piece _ _ _ _ _ k.val (trips4 k) 0 (by omega) _ (off3 k) (k0_off3_inb (grid0.coords t) k h0) _ (fun r l => (key0_at _ _ _ _ _ _ _).trans (key_trip _ _ _ _ _ k.val (trips4 k) 0 (by omega) _ _ _ hv ha hb r l))

/-- Every value piece of a trip restricts the one value function. -/
theorem trip_vals_eq (c : Dev nD) (t : Fin cfg0.N) (h0 : cond0_0 (grid0.coords t)) (k : Fin k0_t1_loop.trips) :
    ∀ p ∈ (tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 ((hs0_0 t).unread (iblk m c 0 t)) ((hs0_2 t).unread (iblk m c 2 t)) ((hs0_3 t).unread (iblk m c 3 t)) ((hs0_5 t).unread (iblk m c 5 t)) ((hs0_7 t).unread (iblk m c 7 t)) ((hs0_8 t).unread (iblk m c 8 t)) k).2, ∀ x : p.1.shape.Idx, p.2 x = (fun y : S640x2048.Idx => valF (iblk m c 0 t) (iblk m c 5 t) (iblk m c 8 t) (y 0) (y 1)) (p.1.emb x) := by
  rw [trip_vals]
  have hv : ∀ (r : Fin 512) (c' : Fin 512), (View.ld (iblk m c 0 t) (Rect.unit (k0_off1 k) ![1, 512, 512] (k0_off1_inb (grid0.coords t) k h0))) (ix3 0 r c') = iblk m c 0 t (ix3 0 ⟨512 * k.val + r.val, by have := trips4 k; omega⟩ c') := by
    intro r c'
    pointwise
    refine congrArg _ (congr (congrArg₂ ix3 (Fin.ext ?_) (Fin.ext ?_)) (Fin.ext ?_)) <;> simp [off1 k]
  intro p hp
  simp only [List.mem_cons, List.not_mem_nil, or_false] at hp
  rcases hp with rfl | rfl | rfl | rfl | rfl | rfl | rfl | rfl
  · exact val_piece _ _ _ k.val (trips4 k) 7 (by omega) _ (off18 k) (k0_off18_inb (grid0.coords t) k h0) _ (fun e r => (val7_at _ _ _ _).trans (val_trip _ _ _ k.val (trips4 k) 7 (by omega) _ hv e r))
  · exact val_piece _ _ _ k.val (trips4 k) 6 (by omega) _ (off17 k) (k0_off17_inb (grid0.coords t) k h0) _ (fun e r => (val6_at _ _ _ _).trans (val_trip _ _ _ k.val (trips4 k) 6 (by omega) _ hv e r))
  · exact val_piece _ _ _ k.val (trips4 k) 5 (by omega) _ (off16 k) (k0_off16_inb (grid0.coords t) k h0) _ (fun e r => (val5_at _ _ _ _).trans (val_trip _ _ _ k.val (trips4 k) 5 (by omega) _ hv e r))
  · exact val_piece _ _ _ k.val (trips4 k) 4 (by omega) _ (off15 k) (k0_off15_inb (grid0.coords t) k h0) _ (fun e r => (val4_at _ _ _ _).trans (val_trip _ _ _ k.val (trips4 k) 4 (by omega) _ hv e r))
  · exact val_piece _ _ _ k.val (trips4 k) 3 (by omega) _ (off14 k) (k0_off14_inb (grid0.coords t) k h0) _ (fun e r => (val3_at _ _ _ _).trans (val_trip _ _ _ k.val (trips4 k) 3 (by omega) _ hv e r))
  · exact val_piece _ _ _ k.val (trips4 k) 2 (by omega) _ (off13 k) (k0_off13_inb (grid0.coords t) k h0) _ (fun e r => (val2_at _ _ _ _).trans (val_trip _ _ _ k.val (trips4 k) 2 (by omega) _ hv e r))
  · exact val_piece _ _ _ k.val (trips4 k) 1 (by omega) _ (off12 k) (k0_off12_inb (grid0.coords t) k h0) _ (fun e r => (val1_at _ _ _ _).trans (val_trip _ _ _ k.val (trips4 k) 1 (by omega) _ hv e r))
  · exact val_piece _ _ _ k.val (trips4 k) 0 (by omega) _ (off11 k) (k0_off11_inb (grid0.coords t) k h0) _ (fun e r => (val0_at _ _ _ _).trans (val_trip _ _ _ k.val (trips4 k) 0 (by omega) _ hv e r))

/-- So do the pieces of all trips before the `n`-th. -/
theorem pb_eq (c : Dev nD) (t : Fin cfg0.N) (h0 : cond0_0 (grid0.coords t)) (n : ℕ) (hn : n ≤ k0_t1_loop.trips) :
    (∀ p ∈ (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 ((hs0_0 t).unread (iblk m c 0 t)) ((hs0_2 t).unread (iblk m c 2 t)) ((hs0_3 t).unread (iblk m c 3 t)) ((hs0_5 t).unread (iblk m c 5 t)) ((hs0_7 t).unread (iblk m c 7 t)) ((hs0_8 t).unread (iblk m c 8 t)) n).1, ∀ x : p.1.shape.Idx, p.2 x = (fun y : S2048x1024.Idx => keyF (iblk m c 0 t) (iblk m c 2 t) (iblk m c 3 t) (iblk m c 5 t) (iblk m c 7 t) (y 0) (y 1)) (p.1.emb x)) ∧
    (∀ p ∈ (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 ((hs0_0 t).unread (iblk m c 0 t)) ((hs0_2 t).unread (iblk m c 2 t)) ((hs0_3 t).unread (iblk m c 3 t)) ((hs0_5 t).unread (iblk m c 5 t)) ((hs0_7 t).unread (iblk m c 7 t)) ((hs0_8 t).unread (iblk m c 8 t)) n).2, ∀ x : p.1.shape.Idx, p.2 x = (fun y : S640x2048.Idx => valF (iblk m c 0 t) (iblk m c 5 t) (iblk m c 8 t) (y 0) (y 1)) (p.1.emb x)) := by
  induction n with
  | zero =>
    constructor <;> intro p hp <;> exact absurd hp List.not_mem_nil
  | succ n ih =>
    have ih := ih (by omega)
    have e := pb_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 ((hs0_0 t).unread (iblk m c 0 t)) ((hs0_2 t).unread (iblk m c 2 t)) ((hs0_3 t).unread (iblk m c 3 t)) ((hs0_5 t).unread (iblk m c 5 t)) ((hs0_7 t).unread (iblk m c 7 t)) ((hs0_8 t).unread (iblk m c 8 t)) ⟨n, by omega⟩
    dsimp only at e
    rw [e]
    constructor <;> intro p hp <;> rcases List.mem_append.1 hp with hp | hp
    · exact trip_keys_eq m c t h0 ⟨n, by omega⟩ p hp
    · exact ih.1 p hp
    · exact trip_vals_eq m c t h0 ⟨n, by omega⟩ p hp
    · exact ih.2 p hp

/-- The key scratch after it is filled. -/
theorem keys_A (c : Dev nD) (t : Fin cfg0.N) (h0 : cond0_0 (grid0.coords t)) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 (iblk m c 0 t) (iblk m c 1 t) (iblk m c 2 t) (iblk m c 3 t) (iblk m c 4 t) (iblk m c 5 t) (iblk m c 6 t) (iblk m c 7 t) (iblk m c 8 t) = (fun y : S2048x1024.Idx => keyF (iblk m c 0 t) (iblk m c 2 t) (iblk m c 3 t) (iblk m c 5 t) (iblk m c 7 t) (y 0) (y 1)) := by
  funext y
  have hc := scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 (iblk m c 0 t) (iblk m c 1 t) (iblk m c 2 t) (iblk m c 3 t) (iblk m c 4 t) (iblk m c 5 t) (iblk m c 6 t) (iblk m c 7 t) (iblk m c 8 t) y
  unfold sout0_A_0
  rw [View.read_writes_junk_eq_canon]
  refine View.canon_apply_of_pieces (fun y : S2048x1024.Idx => keyF (iblk m c 0 t) (iblk m c 2 t) (iblk m c 3 t) (iblk m c 5 t) (iblk m c 7 t) (y 0) (y 1)) _ ?_ y hc
  unfold kernelRun0_A
  exact (pb_eq m c t h0 _ (le_refl _)).1

/-- The value scratch after it is filled. -/
theorem vals_A (c : Dev nD) (t : Fin cfg0.N) (h0 : cond0_0 (grid0.coords t)) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 (iblk m c 0 t) (iblk m c 1 t) (iblk m c 2 t) (iblk m c 3 t) (iblk m c 4 t) (iblk m c 5 t) (iblk m c 6 t) (iblk m c 7 t) (iblk m c 8 t) = (fun y : S640x2048.Idx => valF (iblk m c 0 t) (iblk m c 5 t) (iblk m c 8 t) (y 0) (y 1)) := by
  funext y
  have hc := scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 (iblk m c 0 t) (iblk m c 1 t) (iblk m c 2 t) (iblk m c 3 t) (iblk m c 4 t) (iblk m c 5 t) (iblk m c 6 t) (iblk m c 7 t) (iblk m c 8 t) y
  unfold sout0_A_1
  rw [View.read_writes_junk_eq_canon]
  refine View.canon_apply_of_pieces (fun y : S640x2048.Idx => valF (iblk m c 0 t) (iblk m c 5 t) (iblk m c 8 t) (y 0) (y 1)) _ ?_ y hc
  unfold kernelRun0_A
  exact (pb_eq m c t h0 _ (le_refl _)).2

end Cert.KernelIdeal.Attn

end
-- ==== Proof.Block.lean ====
/- One block of the attention kernel's result, entry by entry, in terms of the point's argument blocks. -/
module

public import proofs.«01_k».proof.Proof.Scratch

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- The projected queries, entry by entry: a normalised row times the projection. -/
def qpF (x1 : FVec Ideal S1x1024x384 .bf16) (x4 : FVec Ideal S1x384 .f32) (x6 : FVec Ideal S384x1024 .bf16) (r : Fin 1024) (c : Fin 1024) : EReal :=
  ∑ k : Fin 384, x1 (ix3 0 r k) * Ideal.rsqrt (Ideal.div (∑ j : Fin 384, x1 (ix3 0 r j) * x1 (ix3 0 r j)) (Ideal.ofBits .f32 0x43C00000#32) + Ideal.ofBits .f32 0x358637BD#32) * x4 (ix2 0 k) * x6 (ix2 k c)

/-- The projected queries' lanes rotated by half of the rotary width, with the sign. -/
def rotF (q : FVec Ideal S1024x1024 .f32) (r : Fin 1024) (c : Fin 1024) : EReal :=
  if 64 ≤ c.val % 128 ∧ c.val % 128 < 80 then 0 - q (ix2 r ⟨(c.val + 16) % 1024, by omega⟩)
  else if 80 ≤ c.val % 128 ∧ c.val % 128 < 96 then q (ix2 r ⟨(c.val + 1008) % 1024, by omega⟩) else 0

theorem pay25_at (x1 : FVec Ideal S1x1024x384 .bf16) (x4 : FVec Ideal S1x384 .f32) (x6 : FVec Ideal S384x1024 .bf16) (r : Fin 1024) (c : Fin 1024) :
    k0_pay25 (F := Ideal) x1 x4 x6 (ix2 r c) = qpF x1 x4 x6 r c := by
  pointwise [k0_pay25, qpF]

/-- The kernel's spelling of a lane's remainder by 128. -/
theorem lane_word : ∀ c : Fin 1024, (Scalar.select (IntOp.andi (IntOp.xori (IntOp.cmpi CmpIPredicate.slt (IntOp.remsi ArithUnit.vector (BitVec.ofNat 32 c.val) (Scalar.select (Scalar.cmpi CmpIPredicate.eq 128#32 0#32) 1#32 128#32)) 0#32)
      (Scalar.cmpi CmpIPredicate.slt (Scalar.select (Scalar.cmpi CmpIPredicate.eq 128#32 0#32) 1#32 128#32) 0#32)) (IntOp.cmpi CmpIPredicate.ne (IntOp.remsi ArithUnit.vector (BitVec.ofNat 32 c.val) (Scalar.select (Scalar.cmpi CmpIPredicate.eq 128#32 0#32) 1#32 128#32)) 0#32))
      (IntOp.addi (IntOp.remsi ArithUnit.vector (BitVec.ofNat 32 c.val) (Scalar.select (Scalar.cmpi CmpIPredicate.eq 128#32 0#32) 1#32 128#32)) (Scalar.select (Scalar.cmpi CmpIPredicate.eq 128#32 0#32) 1#32 128#32)) (IntOp.remsi ArithUnit.vector (BitVec.ofNat 32 c.val) (Scalar.select (Scalar.cmpi CmpIPredicate.eq 128#32 0#32) 1#32 128#32))) = BitVec.ofNat 32 (c.val % 128) := by decide +kernel

/-- Lanes 64 … 79 of a head, as a word. -/
theorem lane_lo : ∀ c : Fin 1024, IntOp.andi (IntOp.cmpi CmpIPredicate.sge (BitVec.ofNat 32 (c.val % 128)) 64#32)
    (IntOp.cmpi CmpIPredicate.slt (BitVec.ofNat 32 (c.val % 128)) 80#32) = if 64 ≤ c.val % 128 ∧ c.val % 128 < 80 then 1#1 else 0#1 := by decide +kernel

/-- Lanes 80 … 95 of a head, as a word. -/
theorem lane_hi : ∀ c : Fin 1024, IntOp.andi (IntOp.cmpi CmpIPredicate.sge (BitVec.ofNat 32 (c.val % 128)) 80#32)
    (IntOp.cmpi CmpIPredicate.slt (BitVec.ofNat 32 (c.val % 128)) 96#32) = if 80 ≤ c.val % 128 ∧ c.val % 128 < 96 then 1#1 else 0#1 := by decide +kernel

/-- A selection by such a word is the `if`. -/
theorem select_ite (P : Prop) [Decidable P] (a b : EReal) : Scalar.select (if P then 1#1 else 0#1) a b = if P then a else b := by
  by_cases h : P <;> simp [h, Scalar.select]

theorem rotated_at (q : FVec Ideal S1024x1024 .f32) (r c : Fin 1024) : rotated q (ix2 r c) = rotF q r c := by
  unfold rotated rotF
  pointwise [k0_pay30, k0_pay26, k0_pay27, k0_pay28, k0_pay29]
  rw [lane_word, lane_lo, lane_hi, select_ite, select_ite]
  have e1 : (c.val + 1024 - 1008) % 1024 = (c.val + 16) % 1024 := by omega
  have e2 : (c.val + 1024 - 16) % 1024 = (c.val + 1008) % 1024 := by omega
  simp only [e1, e2]

/-- The largest of four numbers each the largest of a quarter of the scores. -/
def partMax (s : Fin 2048 → EReal) : EReal :=
  max (max (max (Finset.univ.fold max (Ideal.ofBits .f32 0xFF800000#32) fun i : Fin 512 => s ⟨i.val, by omega⟩)
    (Finset.univ.fold max (Ideal.ofBits .f32 0xFF800000#32) fun i : Fin 512 => s ⟨512 + i.val, by omega⟩))
    (Finset.univ.fold max (Ideal.ofBits .f32 0xFF800000#32) fun i : Fin 512 => s ⟨1024 + i.val, by omega⟩))
    (Finset.univ.fold max (Ideal.ofBits .f32 0xFF800000#32) fun i : Fin 512 => s ⟨1536 + i.val, by omega⟩)

/-- A sum over 2048 as four sums over 512. -/
theorem sum_parts (f : Fin 2048 → EReal) :
    (((∑ i : Fin 512, f ⟨i.val, by omega⟩) + ∑ i : Fin 512, f ⟨512 + i.val, by omega⟩)
      + ∑ i : Fin 512, f ⟨1024 + i.val, by omega⟩) + ∑ i : Fin 512, f ⟨1536 + i.val, by omega⟩ = ∑ j : Fin 2048, f j := by
  have e : ∑ j : Fin 2048, f j = ∑ p : Fin 4, ∑ i : Fin 512, f ⟨512 * p.val + i.val, by omega⟩ := by
    rw [← Fintype.sum_prod_type' (fun (p : Fin 4) (i : Fin 512) => f ⟨512 * p.val + i.val, by omega⟩),
      ← (finProdFinEquiv (m := 4) (n := 512)).sum_comp f]
    refine Finset.sum_congr rfl fun x _ => congrArg f (Fin.ext ?_)
    exact Nat.add_comm _ _
  rw [e, Fin.sum_univ_four]
  refine congrArg₂ (· + ·) (congrArg₂ (· + ·) (congrArg₂ (· + ·) ?_ ?_) ?_) ?_ <;>
    exact Finset.sum_congr rfl fun i _ => congrArg f (Fin.ext (by simp))

/-- One head's output from whole columns of keys and values. -/
theorem headO_at (q : FVec Ideal S1024x128 .bf16) (k0 k1 k2 k3 : FVec Ideal S512x128 .bf16) (v0 v1 v2 v3 : FVec Ideal S80x512 .bf16)
    (K : Fin 2048 → Fin 128 → EReal) (W : Fin 80 → Fin 2048 → EReal)
    (h0 : ∀ i l, k0 (ix2 i l) = K ⟨512 * 0 + i.val, by omega⟩ l) (h1 : ∀ i l, k1 (ix2 i l) = K ⟨512 * 1 + i.val, by omega⟩ l)
    (h2 : ∀ i l, k2 (ix2 i l) = K ⟨512 * 2 + i.val, by omega⟩ l) (h3 : ∀ i l, k3 (ix2 i l) = K ⟨512 * 3 + i.val, by omega⟩ l)
    (w0 : ∀ e i, v0 (ix2 e i) = W e ⟨512 * 0 + i.val, by omega⟩) (w1 : ∀ e i, v1 (ix2 e i) = W e ⟨512 * 1 + i.val, by omega⟩)
    (w2 : ∀ e i, v2 (ix2 e i) = W e ⟨512 * 2 + i.val, by omega⟩) (w3 : ∀ e i, v3 (ix2 e i) = W e ⟨512 * 3 + i.val, by omega⟩)
    (s : Fin 2048 → EReal) (r : Fin 1024) (hs : ∀ j, s j = ∑ l : Fin 128, K j l * q (ix2 r l)) (d : Fin 64) :
    headO q k0 k1 k2 k3 v0 v1 v2 v3 (ix2 d r)
      = Ideal.div (∑ j : Fin 2048, W ⟨d.val, by omega⟩ j * Ideal.exp2 (s j - partMax s))
          (∑ j : Fin 2048, W ⟨64, by omega⟩ j * Ideal.exp2 (s j - partMax s)) := by
  pointwise [headO, headP, headM, headS, h0, h1, h2, h3, w0, w1, w2, w3, ← hs]
  exact congrArg₂ Ideal.div (sum_parts fun j => W ⟨d.val, by omega⟩ j * Ideal.exp2 (s j - partMax s))
    (sum_parts fun j => W ⟨64, by omega⟩ j * Ideal.exp2 (s j - partMax s))

/-- One rotated and scaled query entry. -/
def qryF (q : FVec Ideal S1024x1024 .f32) (co si : FVec Ideal S1024x128 .f32) (r : Fin 1024) (c : Fin 1024) : EReal :=
  (q (ix2 r c) * co (ix2 r ⟨c.val % 128, by omega⟩) + rotF q r c * si (ix2 r ⟨c.val % 128, by omega⟩))
    * (Named.named (F := Ideal) (φ := .f32) κ "score_scale" 0x3E16C740#32 : EReal)

/-- The scores of query `r` in head `h` against key `j`. -/
def scoF (q : FVec Ideal S1024x1024 .f32) (co si : FVec Ideal S1024x128 .f32) (ks : S2048x1024.Idx → Elt Ideal .bf16)
    (r : Fin 1024) (h : Fin 8) (j : Fin 2048) : EReal :=
  ∑ l : Fin 128, (ks (ix2 j ⟨128 * h.val + l.val, by omega⟩) : EReal) * qryF q co si r ⟨128 * h.val + l.val, by omega⟩

theorem headQ_at (q : FVec Ideal S1024x1024 .f32) (co si : FVec Ideal S1024x128 .f32) (o : ℕ) (ho : S1024x1024.Slices ![0, o] S1024x128)
    (h : Fin 8) (e : o = 128 * h.val) (r : Fin 1024) (l : Fin 128) :
    headQ q (rotated q) co si o ho (ix2 r l) = qryF q co si r ⟨128 * h.val + l.val, by omega⟩ := by
  subst e
  unfold qryF
  have e : (128 * h.val + l.val) % 128 = l.val := by omega
  rw [← rotated_at]
  simp only [e]
  pointwise [headQ]

/-- One head's output in a block. -/
def hdF (q : FVec Ideal S1024x1024 .f32) (co si : FVec Ideal S1024x128 .f32) (ks : S2048x1024.Idx → Elt Ideal .bf16)
    (vs : S640x2048.Idx → Elt Ideal .bf16) (r : Fin 1024) (h : Fin 8) (d : Fin 64) : EReal :=
  Ideal.div (∑ j : Fin 2048, (vs (ix2 ⟨80 * h.val + d.val, by omega⟩ j) : EReal) * Ideal.exp2 (scoF q co si ks r h j - partMax (scoF q co si ks r h)))
    (∑ j : Fin 2048, (vs (ix2 ⟨80 * h.val + 64, by omega⟩ j) : EReal) * Ideal.exp2 (scoF q co si ks r h j - partMax (scoF q co si ks r h)))

theorem block0_at (q : FVec Ideal S1024x1024 .f32) (co si : FVec Ideal S1024x128 .f32) (ks : S2048x1024.Idx → Elt Ideal .bf16)
    (vs : S640x2048.Idx → Elt Ideal .bf16) (r : Fin 1024) (d : Fin 64) :
    blockO q (rotated q) co si ks vs (ix3 0 r ⟨0 + d.val, by omega⟩) = hdF q co si ks vs r 0 d := by
  pointwise [blockO]
  refine (headO_at _ _ _ _ _ _ _ _ _ (fun j l => ks (ix2 j ⟨128 * 0 + l.val, by omega⟩)) (fun e j => vs (ix2 ⟨80 * 0 + e.val, by omega⟩ j))
    ?_ ?_ ?_ ?_ ?_ ?_ ?_ ?_ (scoF q co si ks r 0) r ?_ d).trans rfl
  iterate 8 exact fun _ _ => by pointwise
  intro j
  exact Finset.sum_congr rfl fun l _ => congrArg _ (headQ_at q co si _ _ 0 rfl r l).symm

theorem block1_at (q : FVec Ideal S1024x1024 .f32) (co si : FVec Ideal S1024x128 .f32) (ks : S2048x1024.Idx → Elt Ideal .bf16)
    (vs : S640x2048.Idx → Elt Ideal .bf16) (r : Fin 1024) (d : Fin 64) :
    blockO q (rotated q) co si ks vs (ix3 0 r ⟨64 + d.val, by omega⟩) = hdF q co si ks vs r 1 d := by
  pointwise [blockO]
  refine (headO_at _ _ _ _ _ _ _ _ _ (fun j l => ks (ix2 j ⟨128 * 1 + l.val, by omega⟩)) (fun e j => vs (ix2 ⟨80 * 1 + e.val, by omega⟩ j))
    ?_ ?_ ?_ ?_ ?_ ?_ ?_ ?_ (scoF q co si ks r 1) r ?_ d).trans rfl
  iterate 8 exact fun _ _ => by pointwise
  intro j
  exact Finset.sum_congr rfl fun l _ => congrArg _ (headQ_at q co si _ _ 1 rfl r l).symm

theorem block2_at (q : FVec Ideal S1024x1024 .f32) (co si : FVec Ideal S1024x128 .f32) (ks : S2048x1024.Idx → Elt Ideal .bf16)
    (vs : S640x2048.Idx → Elt Ideal .bf16) (r : Fin 1024) (d : Fin 64) :
    blockO q (rotated q) co si ks vs (ix3 0 r ⟨128 + d.val, by omega⟩) = hdF q co si ks vs r 2 d := by
  pointwise [blockO]
  repeat rw [dif_neg (by omega)]
  rw [dif_pos (by omega)]
  have ed : 128 + d.val - 64 - 64 = d.val := by omega
  simp only [ed]
  refine (headO_at _ _ _ _ _ _ _ _ _ (fun j l => ks (ix2 j ⟨128 * 2 + l.val, by omega⟩)) (fun e j => vs (ix2 ⟨80 * 2 + e.val, by omega⟩ j))
    ?_ ?_ ?_ ?_ ?_ ?_ ?_ ?_ (scoF q co si ks r 2) r ?_ d).trans rfl
  iterate 8 exact fun _ _ => by pointwise
  intro j
  exact Finset.sum_congr rfl fun l _ => congrArg _ (headQ_at q co si _ _ 2 rfl r l).symm

theorem block3_at (q : FVec Ideal S1024x1024 .f32) (co si : FVec Ideal S1024x128 .f32) (ks : S2048x1024.Idx → Elt Ideal .bf16)
    (vs : S640x2048.Idx → Elt Ideal .bf16) (r : Fin 1024) (d : Fin 64) :
    blockO q (rotated q) co si ks vs (ix3 0 r ⟨192 + d.val, by omega⟩) = hdF q co si ks vs r 3 d := by
  pointwise [blockO]
  repeat rw [dif_neg (by omega)]
  rw [dif_pos (by omega)]
  have ed : 192 + d.val - 64 - 64 - 64 = d.val := by omega
  simp only [ed]
  refine (headO_at _ _ _ _ _ _ _ _ _ (fun j l => ks (ix2 j ⟨128 * 3 + l.val, by omega⟩)) (fun e j => vs (ix2 ⟨80 * 3 + e.val, by omega⟩ j))
    ?_ ?_ ?_ ?_ ?_ ?_ ?_ ?_ (scoF q co si ks r 3) r ?_ d).trans rfl
  iterate 8 exact fun _ _ => by pointwise
  intro j
  exact Finset.sum_congr rfl fun l _ => congrArg _ (headQ_at q co si _ _ 3 rfl r l).symm

theorem block4_at (q : FVec Ideal S1024x1024 .f32) (co si : FVec Ideal S1024x128 .f32) (ks : S2048x1024.Idx → Elt Ideal .bf16)
    (vs : S640x2048.Idx → Elt Ideal .bf16) (r : Fin 1024) (d : Fin 64) :
    blockO q (rotated q) co si ks vs (ix3 0 r ⟨256 + d.val, by omega⟩) = hdF q co si ks vs r 4 d := by
  pointwise [blockO]
  repeat rw [dif_neg (by omega)]
  rw [dif_pos (by omega)]
  have ed : 256 + d.val - 64 - 64 - 64 - 64 = d.val := by omega
  simp only [ed]
  refine (headO_at _ _ _ _ _ _ _ _ _ (fun j l => ks (ix2 j ⟨128 * 4 + l.val, by omega⟩)) (fun e j => vs (ix2 ⟨80 * 4 + e.val, by omega⟩ j))
    ?_ ?_ ?_ ?_ ?_ ?_ ?_ ?_ (scoF q co si ks r 4) r ?_ d).trans rfl
  iterate 8 exact fun _ _ => by pointwise
  intro j
  exact Finset.sum_congr rfl fun l _ => congrArg _ (headQ_at q co si _ _ 4 rfl r l).symm

theorem block5_at (q : FVec Ideal S1024x1024 .f32) (co si : FVec Ideal S1024x128 .f32) (ks : S2048x1024.Idx → Elt Ideal .bf16)
    (vs : S640x2048.Idx → Elt Ideal .bf16) (r : Fin 1024) (d : Fin 64) :
    blockO q (rotated q) co si ks vs (ix3 0 r ⟨320 + d.val, by omega⟩) = hdF q co si ks vs r 5 d := by
  pointwise [blockO]
  repeat rw [dif_neg (by omega)]
  rw [dif_pos (by omega)]
  have ed : 320 + d.val - 64 - 64 - 64 - 64 - 64 = d.val := by omega
  simp only [ed]
  refine (headO_at _ _ _ _ _ _ _ _ _ (fun j l => ks (ix2 j ⟨128 * 5 + l.val, by omega⟩)) (fun e j => vs (ix2 ⟨80 * 5 + e.val, by omega⟩ j))
    ?_ ?_ ?_ ?_ ?_ ?_ ?_ ?_ (scoF q co si ks r 5) r ?_ d).trans rfl
  iterate 8 exact fun _ _ => by pointwise
  intro j
  exact Finset.sum_congr rfl fun l _ => congrArg _ (headQ_at q co si _ _ 5 rfl r l).symm

theorem block6_at (q : FVec Ideal S1024x1024 .f32) (co si : FVec Ideal S1024x128 .f32) (ks : S2048x1024.Idx → Elt Ideal .bf16)
    (vs : S640x2048.Idx → Elt Ideal .bf16) (r : Fin 1024) (d : Fin 64) :
    blockO q (rotated q) co si ks vs (ix3 0 r ⟨384 + d.val, by omega⟩) = hdF q co si ks vs r 6 d := by
  pointwise [blockO]
  repeat rw [dif_neg (by omega)]
  rw [dif_pos (by omega)]
  have ed : 384 + d.val - 64 - 64 - 64 - 64 - 64 - 64 = d.val := by omega
  simp only [ed]
  refine (headO_at _ _ _ _ _ _ _ _ _ (fun j l => ks (ix2 j ⟨128 * 6 + l.val, by omega⟩)) (fun e j => vs (ix2 ⟨80 * 6 + e.val, by omega⟩ j))
    ?_ ?_ ?_ ?_ ?_ ?_ ?_ ?_ (scoF q co si ks r 6) r ?_ d).trans rfl
  iterate 8 exact fun _ _ => by pointwise
  intro j
  exact Finset.sum_congr rfl fun l _ => congrArg _ (headQ_at q co si _ _ 6 rfl r l).symm

theorem block7_at (q : FVec Ideal S1024x1024 .f32) (co si : FVec Ideal S1024x128 .f32) (ks : S2048x1024.Idx → Elt Ideal .bf16)
    (vs : S640x2048.Idx → Elt Ideal .bf16) (r : Fin 1024) (d : Fin 64) :
    blockO q (rotated q) co si ks vs (ix3 0 r ⟨448 + d.val, by omega⟩) = hdF q co si ks vs r 7 d := by
  pointwise [blockO]
  repeat rw [dif_neg (by omega)]
  skip
  have ed : 448 + d.val - 64 - 64 - 64 - 64 - 64 - 64 - 64 = d.val := by omega
  simp only [ed]
  refine (headO_at _ _ _ _ _ _ _ _ _ (fun j l => ks (ix2 j ⟨128 * 7 + l.val, by omega⟩)) (fun e j => vs (ix2 ⟨80 * 7 + e.val, by omega⟩ j))
    ?_ ?_ ?_ ?_ ?_ ?_ ?_ ?_ (scoF q co si ks r 7) r ?_ d).trans rfl
  iterate 8 exact fun _ _ => by pointwise
  intro j
  exact Finset.sum_congr rfl fun l _ => congrArg _ (headQ_at q co si _ _ 7 rfl r l).symm

/-- One block of the result, entry by entry. -/
theorem blockO_at (q : FVec Ideal S1024x1024 .f32) (co si : FVec Ideal S1024x128 .f32) (ks : S2048x1024.Idx → Elt Ideal .bf16)
    (vs : S640x2048.Idx → Elt Ideal .bf16) (r : Fin 1024) (h : Fin 8) (d : Fin 64) :
    blockO q (rotated q) co si ks vs (ix3 0 r ⟨64 * h.val + d.val, by omega⟩) = hdF q co si ks vs r h d := by
  fin_cases h
  · exact block0_at q co si ks vs r d
  · exact block1_at q co si ks vs r d
  · exact block2_at q co si ks vs r d
  · exact block3_at q co si ks vs r d
  · exact block4_at q co si ks vs r d
  · exact block5_at q co si ks vs r d
  · exact block6_at q co si ks vs r d
  · exact block7_at q co si ks vs r d

end Cert.KernelIdeal.Attn

end
-- ==== Proof.Fold.lean ====
/- The attention kernel's whole result, entry by entry, in terms of the arrays the call is given: both query blocks of
   a batch read the keys and values its first block left in the scratch. -/
module

public import proofs.«01_k».proof.Proof.Block
public import proofs.«01_k».proof.Proof.Gen.KernelIdeal.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.KernelIdeal.Value

variable (m : (ℓ : Loc nD τ sig) → Buf (Elt Ideal) ℓ)

/-- The key scratch the point fills, as one function. -/
abbrev keysOf (c : Dev nD) (t : Fin cfg0.N) : S2048x1024.Idx → Elt Ideal .bf16 :=
  fun y => keyF (iblk m c 0 t) (iblk m c 2 t) (iblk m c 3 t) (iblk m c 5 t) (iblk m c 7 t) (y 0) (y 1)

/-- The value scratch the point fills, as one function. -/
abbrev valsOf (c : Dev nD) (t : Fin cfg0.N) : S640x2048.Idx → Elt Ideal .bf16 :=
  fun y => valF (iblk m c 0 t) (iblk m c 5 t) (iblk m c 8 t) (y 0) (y 1)

/-- A batch's first point fills the scratch and leaves its block of the result. -/
theorem step_A (c : Dev nD) (t : Fin cfg0.N) (acc : Vec Ideal S1x1024x512 .bf16 × Vec Ideal S2048x1024 .bf16 × Vec Ideal S640x2048 .bf16)
    (h0 : t.val % 2 = 0) :
    stAt0 m c t.val t.isLt acc
      = (blockO (q1At m c t) (rotated (q1At m c t)) (cosAt m c t) (sinAt m c t) (keysOf m c t) (valsOf m c t), keysOf m c t, valsOf m c t) := by
  rw [stAt0_A m c t acc h0, out_A, keys_A, vals_A]

/-- A batch's second point leaves its block computed from the scratch carried in. -/
theorem step_B (c : Dev nD) (t : Fin cfg0.N) (acc : Vec Ideal S1x1024x512 .bf16 × Vec Ideal S2048x1024 .bf16 × Vec Ideal S640x2048 .bf16)
    (h0 : ¬t.val % 2 = 0) :
    (stAt0 m c t.val t.isLt acc).1
      = blockO (q1At m c t) (rotated (q1At m c t)) (cosAt m c t) (sinAt m c t) acc.2.1 acc.2.2 := by
  rw [stAt0_B m c t acc h0, out_B]

/-- What a batch's first point leaves. -/
theorem left_A (c : Dev nD) (t : Fin cfg0.N) (h0 : t.val % 2 = 0) :
    outsAt0 m c t.val t.isLt
      = (blockO (q1At m c t) (rotated (q1At m c t)) (cosAt m c t) (sinAt m c t) (keysOf m c t) (valsOf m c t), keysOf m c t, valsOf m c t) := by
  obtain ⟨n, hn⟩ := t
  cases n with
  | zero => exact (outsAt0_zero m c hn).trans (step_A m c ⟨0, hn⟩ _ h0)
  | succ n => exact (outsAt0_succ m c n hn).trans (step_A m c ⟨n + 1, hn⟩ _ h0)

/-- What any point leaves in the result, from the scratch its batch's first point filled. -/
theorem left_at (c : Dev nD) (b : Fin 32) (i : Fin 2) (t t0 : Fin cfg0.N) (e : t.val = 2 * b.val + i.val) (e0 : t0.val = 2 * b.val) :
    (outsAt0 m c t.val t.isLt).1
      = blockO (q1At m c t) (rotated (q1At m c t)) (cosAt m c t) (sinAt m c t) (keysOf m c t0) (valsOf m c t0) := by
  rcases Nat.eq_zero_or_pos i.val with h | h
  · obtain rfl : t = t0 := Fin.ext (by omega)
    rw [left_A m c t (by omega)]
  · have hi : i.val = 1 := by omega
    obtain ⟨n, hn⟩ := t
    obtain ⟨n0, hn0⟩ := t0
    dsimp only at e e0
    obtain rfl : n = n0 + 1 := by omega
    rw [outsAt0_succ m c n0 hn]
    rw [step_B m c ⟨n0 + 1, hn⟩ _ (by dsimp only; omega)]
    rw [left_A m c ⟨n0, hn0⟩ (by dsimp only; omega)]

/-- The printed index maps over the grid. -/
theorem idx : ∀ t : Fin cfg0.N,
    win0_0.index t = ![t.val / 2, 0, 0] ∧ win0_1.index t = ![t.val / 2, t.val % 2, 0] ∧ win0_2.index t = ![t.val / 2, 0, 0]
      ∧ win0_3.index t = ![t.val / 2, 0, 0] ∧ win0_4.index t = ![0, 0] ∧ win0_5.index t = ![0, 0] ∧ win0_6.index t = ![0, 0]
      ∧ win0_7.index t = ![0, 0] ∧ win0_8.index t = ![0, 0] ∧ t.val < 64 :=
  (by decide +kernel : ∀ t : Fin grid0.N, _)

/-- The second block of queries starts at row 1024 of the tables. -/
theorem off19 : ∀ t : Fin cfg0.N, k0_off19 (grid0.coords t) = ![0, 1024 * (t.val % 2), 0] :=
  (by decide +kernel : ∀ t : Fin grid0.N, _)

theorem blk0 (c : Dev nD) (t : Fin cfg0.N) (r : Fin 2048) (k : Fin 512) : iblk m c 0 t (ix3 0 r k) = V m c main_v44 (ix3 ⟨t.val / 2, by have := (idx t).2.2.2.2.2.2.2.2.2; omega⟩ r k) := by
  have h64 := (idx t).2.2.2.2.2.2.2.2.2
  blk_ext [iblk, idx t]

theorem blk1 (c : Dev nD) (t : Fin cfg0.N) (r : Fin 1024) (k : Fin 384) : iblk m c 1 t (ix3 0 r k) = V m c main_v45 (ix3 ⟨t.val / 2, by have := (idx t).2.2.2.2.2.2.2.2.2; omega⟩ ⟨1024 * (t.val % 2) + r.val, by omega⟩ k) := by
  have h64 := (idx t).2.2.2.2.2.2.2.2.2
  blk_ext [iblk, idx t]

theorem blk2 (c : Dev nD) (t : Fin cfg0.N) (r : Fin 2048) (k : Fin 128) : iblk m c 2 t (ix3 0 r k) = V m c main_v17 (ix3 ⟨t.val / 2, by have := (idx t).2.2.2.2.2.2.2.2.2; omega⟩ r k) := by
  have h64 := (idx t).2.2.2.2.2.2.2.2.2
  blk_ext [iblk, idx t]

theorem blk3 (c : Dev nD) (t : Fin cfg0.N) (r : Fin 2048) (k : Fin 128) : iblk m c 3 t (ix3 0 r k) = V m c main_v18 (ix3 ⟨t.val / 2, by have := (idx t).2.2.2.2.2.2.2.2.2; omega⟩ r k) := by
  have h64 := (idx t).2.2.2.2.2.2.2.2.2
  blk_ext [iblk, idx t]

theorem blk4 (c : Dev nD) (t : Fin cfg0.N) (k : Fin 384) : iblk m c 4 t (ix2 0 k) = V m c main_v46 (ix2 0 k) := by
  have h64 := (idx t).2.2.2.2.2.2.2.2.2
  blk_ext [iblk, idx t]

theorem blk5 (c : Dev nD) (t : Fin cfg0.N) (k : Fin 256) : iblk m c 5 t (ix2 0 k) = V m c main_v47 (ix2 0 k) := by
  have h64 := (idx t).2.2.2.2.2.2.2.2.2
  blk_ext [iblk, idx t]

theorem blk6 (c : Dev nD) (t : Fin cfg0.N) (k : Fin 384) (l : Fin 1024) : iblk m c 6 t (ix2 k l) = V m c main_v34 (ix2 k l) := by
  have h64 := (idx t).2.2.2.2.2.2.2.2.2
  blk_ext [iblk, idx t]

theorem blk7 (c : Dev nD) (t : Fin cfg0.N) (k : Fin 256) (l : Fin 1024) : iblk m c 7 t (ix2 k l) = V m c main_v35 (ix2 k l) := by
  have h64 := (idx t).2.2.2.2.2.2.2.2.2
  blk_ext [iblk, idx t]

theorem blk8 (c : Dev nD) (t : Fin cfg0.N) (k : Fin 512) (l : Fin 256) : iblk m c 8 t (ix2 k l) = V m c main_v36 (ix2 k l) := by
  have h64 := (idx t).2.2.2.2.2.2.2.2.2
  blk_ext [iblk, idx t]

theorem cosAt_at (c : Dev nD) (t : Fin cfg0.N) (r : Fin 1024) (l : Fin 128) :
    cosAt m c t (ix2 r l) = V m c main_v17 (ix3 ⟨t.val / 2, by have := (idx t).2.2.2.2.2.2.2.2.2; omega⟩ ⟨1024 * (t.val % 2) + r.val, by omega⟩ l) := by
  have h64 := (idx t).2.2.2.2.2.2.2.2.2
  refine Eq.trans ?_ (blk2 m c t ⟨1024 * (t.val % 2) + r.val, by omega⟩ l)
  pointwise [k0_pay31]
  refine congrArg _ (congr (congrArg₂ ix3 (Fin.ext ?_) (Fin.ext ?_)) (Fin.ext ?_)) <;> simp [off19 t]

theorem sinAt_at (c : Dev nD) (t : Fin cfg0.N) (r : Fin 1024) (l : Fin 128) :
    sinAt m c t (ix2 r l) = V m c main_v18 (ix3 ⟨t.val / 2, by have := (idx t).2.2.2.2.2.2.2.2.2; omega⟩ ⟨1024 * (t.val % 2) + r.val, by omega⟩ l) := by
  have h64 := (idx t).2.2.2.2.2.2.2.2.2
  refine Eq.trans ?_ (blk3 m c t ⟨1024 * (t.val % 2) + r.val, by omega⟩ l)
  pointwise [k0_pay32]
  refine congrArg _ (congr (congrArg₂ ix3 (Fin.ext ?_) (Fin.ext ?_)) (Fin.ext ?_)) <;> simp [off19 t]

end Cert.KernelIdeal.Attn

end
-- ==== Proof.Angle.lean ====
/- The angle of a rotary pair. -/
module

public import Idealize.ShloMosaic.Lib.Pointwise
public import Idealize.ShloMosaic.Lib.Claim

@[expose] public section

noncomputable section

open Idealize.ShloMosaic

namespace Cert

/-- The angle of pair `k` at the position `p`: `p · 10000 ^ (−k / 16)`. -/
def angF (p : EReal) (k : Nat) : EReal :=
  p * Ideal.pow (Ideal.ofBits FTy.f32 0x461C4000#32) (Ideal.div (-(FloatOps.sitofp (F := Ideal) FTy.f32 (BitVec.ofNat 32 k) : EReal)) (Ideal.ofBits FTy.f32 0x41800000#32))

end Cert

end
-- ==== Proof.Entry.lean ====
/- The arrays the attention call is given, entry by entry, from the arguments. -/
module

public import proofs.«01_k».proof.Proof.Gen.KernelIdeal.Frame
public import Idealize.ShloMosaic.Lib.Pointwise
public import Idealize.ShloMosaic.Lib.Claim
public import proofs.«01_k».proof.Proof.Angle

@[expose] public section

set_option maxRecDepth 16384

noncomputable section

open Idealize.ShloMosaic Idealize.ShloMosaic.TcCoe Idealize.SL.Sem

namespace Cert.KernelIdeal.Attn

open Cert.KernelIdeal Cert.KernelIdeal.Gen

variable (m : (ℓ : Loc nD τ sig) → Buf (Elt Ideal) ℓ) (c : Dev nD)

/-- Four pieces along the lanes of a table. -/
def catT (x0 : FVec Ideal S32x2048x64 .f32) (x1 x2 : FVec Ideal S32x2048x16 .f32) (x3 : FVec Ideal S32x2048x32 .f32) : FVec Ideal S32x2048x128 .f32 :=
  concatenate S32x2048x128 2 [⟨S32x2048x64, x0⟩, ⟨S32x2048x16, x1⟩, ⟨S32x2048x16, x2⟩, ⟨S32x2048x32, x3⟩] concatenates_S32x2048x64_S32x2048x16_S32x2048x16_S32x2048x32_S32x2048x128_d2

theorem catT_eq {x0 y0 : FVec Ideal S32x2048x64 .f32} {x1 x2 y1 y2 : FVec Ideal S32x2048x16 .f32} {x3 y3 : FVec Ideal S32x2048x32 .f32}
    (h0 : x0 = y0) (h1 : x1 = y1) (h2 : x2 = y2) (h3 : x3 = y3) :
    concatenate S32x2048x128 2 [⟨S32x2048x64, x0⟩, ⟨S32x2048x16, x1⟩, ⟨S32x2048x16, x2⟩, ⟨S32x2048x32, x3⟩] concatenates_S32x2048x64_S32x2048x16_S32x2048x16_S32x2048x32_S32x2048x128_d2
      = catT y0 y1 y2 y3 := by subst h0; subst h1; subst h2; subst h3; rfl

/-- The first table as a concatenation. -/
theorem v17_cat : V m c main_v17 = catT (V m c main_v14) (V m c main_v12) (V m c main_v12) (V m c main_v16) := by
  unfold V
  after_results
  refine catT_eq ?_ ?_ ?_ ?_ <;> (beta_reduce; after_results_steps; rfl)

/-- The second table as a concatenation. -/
theorem v18_cat : V m c main_v18 = catT (V m c main_v15) (V m c main_v13) (V m c main_v13) (V m c main_v16) := by
  unfold V
  after_results
  refine catT_eq ?_ ?_ ?_ ?_ <;> (beta_reduce; after_results_steps; rfl)

/-- Four pieces along the lanes of a head. -/
def catW (x0 : FVec Ideal S384x8x64 .f32) (x1 x2 : FVec Ideal S384x8x16 .f32) (x3 : FVec Ideal S384x8x32 .f32) : FVec Ideal S384x8x128 .f32 :=
  concatenate S384x8x128 2 [⟨S384x8x64, x0⟩, ⟨S384x8x16, x1⟩, ⟨S384x8x16, x2⟩, ⟨S384x8x32, x3⟩] concatenates_S384x8x64_S384x8x16_S384x8x16_S384x8x32_S384x8x128_d2

theorem catW_eq {x0 y0 : FVec Ideal S384x8x64 .f32} {x1 x2 y1 y2 : FVec Ideal S384x8x16 .f32} {x3 y3 : FVec Ideal S384x8x32 .f32}
    (h0 : x0 = y0) (h1 : x1 = y1) (h2 : x2 = y2) (h3 : x3 = y3) :
    concatenate S384x8x128 2 [⟨S384x8x64, x0⟩, ⟨S384x8x16, x1⟩, ⟨S384x8x16, x2⟩, ⟨S384x8x32, x3⟩] concatenates_S384x8x64_S384x8x16_S384x8x16_S384x8x32_S384x8x128_d2
      = catW y0 y1 y2 y3 := by subst h0; subst h1; subst h2; subst h3; rfl

/-- The query weights of the call as a concatenation. -/
theorem v24_cat : V m c main_v24 = catW (V m c main_v20) (V m c main_v21) (V m c main_v22) (V m c main_v23) := by
  unfold V
  after_results
  refine catW_eq ?_ ?_ ?_ ?_ <;> (beta_reduce; after_results_steps; rfl)

/-- Seven pieces along the lanes of the stream. -/
def catZ (x0 : FVec Ideal S32x2048x256 .f32) (x1 x4 : FVec Ideal S32x2048x64 .f32) (x2 x3 x5 x6 : FVec Ideal S32x2048x32 .f32) : FVec Ideal S32x2048x512 .f32 :=
  concatenate S32x2048x512 2 [⟨S32x2048x256, x0⟩, ⟨S32x2048x64, x1⟩, ⟨S32x2048x32, x2⟩, ⟨S32x2048x32, x3⟩, ⟨S32x2048x64, x4⟩, ⟨S32x2048x32, x5⟩, ⟨S32x2048x32, x6⟩] concatenates_S32x2048x256_S32x2048x64_S32x2048x32_S32x2048x32_S32x2048x64_S32x2048x32_S32x2048x32_S32x2048x512_d2

theorem catZ_eq {x0 y0 : FVec Ideal S32x2048x256 .f32} {x1 x4 y1 y4 : FVec Ideal S32x2048x64 .f32} {x2 x3 x5 x6 y2 y3 y5 y6 : FVec Ideal S32x2048x32 .f32}
    (h0 : x0 = y0) (h1 : x1 = y1) (h2 : x2 = y2) (h3 : x3 = y3) (h4 : x4 = y4) (h5 : x5 = y5) (h6 : x6 = y6) :
    concatenate S32x2048x512 2 [⟨S32x2048x256, x0⟩, ⟨S32x2048x64, x1⟩, ⟨S32x2048x32, x2⟩, ⟨S32x2048x32, x3⟩, ⟨S32x2048x64, x4⟩, ⟨S32x2048x32, x5⟩, ⟨S32x2048x32, x6⟩] concatenates_S32x2048x256_S32x2048x64_S32x2048x32_S32x2048x32_S32x2048x64_S32x2048x32_S32x2048x32_S32x2048x512_d2
      = catZ y0 y1 y4 y2 y3 y5 y6 := by subst h0; subst h1; subst h2; subst h3; subst h4; subst h5; subst h6; rfl

/-- The stream of keys and values as a concatenation. -/
theorem v43_cat : V m c main_v43 = catZ (m ((c : Thread nD τ).loc main_arg1)) (V m c main_v37) (V m c main_v37) (m ((c : Thread nD τ).loc main_arg2)) (V m c main_v38) (V m c main_v42) (V m c main_v38) := by
  unfold V
  after_results
  refine catZ_eq ?_ ?_ ?_ ?_ ?_ ?_ ?_ <;> (beta_reduce; after_results_steps; rfl)

theorem catT_at {x0 : FVec Ideal S32x2048x64 .f32} {x1 : FVec Ideal S32x2048x16 .f32} {x2 : FVec Ideal S32x2048x16 .f32} {x3 : FVec Ideal S32x2048x32 .f32} (b : Fin 32) (r : Fin 2048) (f0 : Fin 64 → EReal) (f1 : Fin 16 → EReal) (f2 : Fin 16 → EReal) (f3 : Fin 32 → EReal)
    (h0 : ∀ k : Fin 64, x0 (ix3 b r k) = f0 k) (h1 : ∀ k : Fin 16, x1 (ix3 b r k) = f1 k) (h2 : ∀ k : Fin 16, x2 (ix3 b r k) = f2 k) (h3 : ∀ k : Fin 32, x3 (ix3 b r k) = f3 k) (k : Fin 128) :
    catT x0 x1 x2 x3 (ix3 b r k) = if e : k.val < 64 then f0 ⟨k.val, e⟩ else if e : k.val < 80 then f1 ⟨k.val - 64, by omega⟩ else if e : k.val < 96 then f2 ⟨k.val - 80, by omega⟩ else f3 ⟨k.val - 96, by omega⟩ := by
  unfold catT
  pointwise
  simp only [h0, h1, h2, h3]
  repeat' split
  all_goals first | rfl | omega | (refine congrArg _ (Fin.ext ?_); simp only; omega)

theorem catW_at {x0 : FVec Ideal S384x8x64 .f32} {x1 : FVec Ideal S384x8x16 .f32} {x2 : FVec Ideal S384x8x16 .f32} {x3 : FVec Ideal S384x8x32 .f32} (b : Fin 384) (r : Fin 8) (f0 : Fin 64 → EReal) (f1 : Fin 16 → EReal) (f2 : Fin 16 → EReal) (f3 : Fin 32 → EReal)
    (h0 : ∀ k : Fin 64, x0 (ix3 b r k) = f0 k) (h1 : ∀ k : Fin 16, x1 (ix3 b r k) = f1 k) (h2 : ∀ k : Fin 16, x2 (ix3 b r k) = f2 k) (h3 : ∀ k : Fin 32, x3 (ix3 b r k) = f3 k) (k : Fin 128) :
    catW x0 x1 x2 x3 (ix3 b r k) = if e : k.val < 64 then f0 ⟨k.val, e⟩ else if e : k.val < 80 then f1 ⟨k.val - 64, by omega⟩ else if e : k.val < 96 then f2 ⟨k.val - 80, by omega⟩ else f3 ⟨k.val - 96, by omega⟩ := by
  unfold catW
  pointwise
  simp only [h0, h1, h2, h3]
  repeat' split
  all_goals first | rfl | omega | (refine congrArg _ (Fin.ext ?_); simp only; omega)

theorem catZ_at {x0 : FVec Ideal S32x2048x256 .f32} {x1 : FVec Ideal S32x2048x64 .f32} {x2 : FVec Ideal S32x2048x32 .f32} {x3 : FVec Ideal S32x2048x32 .f32} {x4 : FVec Ideal S32x2048x64 .f32} {x5 : FVec Ideal S32x2048x32 .f32} {x6 : FVec Ideal S32x2048x32 .f32} (b : Fin 32) (r : Fin 2048) (f0 : Fin 256 → EReal) (f1 : Fin 64 → EReal) (f2 : Fin 32 → EReal) (f3 : Fin 32 → EReal) (f4 : Fin 64 → EReal) (f5 : Fin 32 → EReal) (f6 : Fin 32 → EReal)
    (h0 : ∀ k : Fin 256, x0 (ix3 b r k) = f0 k) (h1 : ∀ k : Fin 64, x1 (ix3 b r k) = f1 k) (h2 : ∀ k : Fin 32, x2 (ix3 b r k) = f2 k) (h3 : ∀ k : Fin 32, x3 (ix3 b r k) = f3 k) (h4 : ∀ k : Fin 64, x4 (ix3 b r k) = f4 k) (h5 : ∀ k : Fin 32, x5 (ix3 b r k) = f5 k) (h6 : ∀ k : Fin 32, x6 (ix3 b r k) = f6 k) (k : Fin 512) :
    catZ x0 x1 x4 x2 x3 x5 x6 (ix3 b r k) = if e : k.val < 256 then f0 ⟨k.val, e⟩ else if e : k.val < 320 then f1 ⟨k.val - 256, by omega⟩ else if e : k.val < 352 then f2 ⟨k.val - 320, by omega⟩ else if e : k.val < 384 then f3 ⟨k.val - 352, by omega⟩ else if e : k.val < 448 then f4 ⟨k.val - 384, by omega⟩ else if e : k.val < 480 then f5 ⟨k.val - 448, by omega⟩ else f6 ⟨k.val - 480, by omega⟩ := by
  unfold catZ
  pointwise
  simp only [h0, h1, h2, h3, h4, h5, h6]
  repeat' split
  all_goals first | rfl | omega | (refine congrArg _ (Fin.ext ?_); simp only; omega)

theorem v12_at (b : Fin 32) (r : Fin 2048) (k : Fin 16) : V m c main_v12 (ix3 b r k) = Ideal.cos (angF (FloatOps.sitofp (F := Ideal) FTy.f32 (m ((c : Thread nD τ).loc main_arg3) (ix2 b r))) k.val) := by
  entry_read
  pointwise
  rfl

theorem v13_at (b : Fin 32) (r : Fin 2048) (k : Fin 16) : V m c main_v13 (ix3 b r k) = Ideal.sin (angF (FloatOps.sitofp (F := Ideal) FTy.f32 (m ((c : Thread nD τ).loc main_arg3) (ix2 b r))) k.val) := by
  entry_read
  pointwise
  rfl

theorem v14_at (b : Fin 32) (r : Fin 2048) (k : Fin 64) : V m c main_v14 (ix3 b r k) = (1:EReal) := by
  entry_read
  pointwise

theorem v15_at (b : Fin 32) (r : Fin 2048) (k : Fin 64) : V m c main_v15 (ix3 b r k) = (0:EReal) := by
  entry_read
  pointwise

theorem v16_at (b : Fin 32) (r : Fin 2048) (k : Fin 32) : V m c main_v16 (ix3 b r k) = (0:EReal) := by
  entry_read
  pointwise

/-- Query tables, cosine: ones, the sixteen cosines twice, zeros. -/
theorem v17_at (b : Fin 32) (r : Fin 2048) (k : Fin 128) : V m c main_v17 (ix3 b r k) =
    if k.val < 64 then (1:EReal) else if k.val < 96 then Ideal.cos (angF (FloatOps.sitofp (F := Ideal) FTy.f32 (m ((c : Thread nD τ).loc main_arg3) (ix2 b r))) (k.val % 16)) else 0 := by
  rw [v17_cat]
  refine (catT_at b r (fun _ => 1) (fun k => Ideal.cos (angF (FloatOps.sitofp (F := Ideal) FTy.f32 (m ((c : Thread nD τ).loc main_arg3) (ix2 b r))) k.val)) (fun k => Ideal.cos (angF (FloatOps.sitofp (F := Ideal) FTy.f32 (m ((c : Thread nD τ).loc main_arg3) (ix2 b r))) k.val)) (fun _ => 0) (v14_at m c b r) (v12_at m c b r) (v12_at m c b r) (v16_at m c b r) k).trans ?_
  repeat' split
  all_goals first | rfl | omega | (refine congrArg (fun n => Ideal.cos (angF _ n)) ?_; simp only; omega)

/-- Query tables, sine: zeros, the sixteen sines twice, zeros. -/
theorem v18_at (b : Fin 32) (r : Fin 2048) (k : Fin 128) : V m c main_v18 (ix3 b r k) =
    if k.val < 64 then (0:EReal) else if k.val < 96 then Ideal.sin (angF (FloatOps.sitofp (F := Ideal) FTy.f32 (m ((c : Thread nD τ).loc main_arg3) (ix2 b r))) (k.val % 16)) else 0 := by
  rw [v18_cat]
  refine (catT_at b r (fun _ => 0) (fun k => Ideal.sin (angF (FloatOps.sitofp (F := Ideal) FTy.f32 (m ((c : Thread nD τ).loc main_arg3) (ix2 b r))) k.val)) (fun k => Ideal.sin (angF (FloatOps.sitofp (F := Ideal) FTy.f32 (m ((c : Thread nD τ).loc main_arg3) (ix2 b r))) k.val)) (fun _ => 0) (v15_at m c b r) (v13_at m c b r) (v13_at m c b r) (v16_at m c b r) k).trans ?_
  repeat' split
  all_goals first | rfl | omega | (refine congrArg (fun n => Ideal.sin (angF _ n)) ?_; simp only; omega)

theorem v20_at (k : Fin 384) (h : Fin 8) (l : Fin 64) : V m c main_v20 (ix3 k h l) = m ((c : Thread nD τ).loc main_arg6) (ix2 k ⟨h.val * 96 + l.val, by omega⟩) := by
  entry_read
  pointwise

theorem v21_at (k : Fin 384) (h : Fin 8) (l : Fin 16) : V m c main_v21 (ix3 k h l) = m ((c : Thread nD τ).loc main_arg6) (ix2 k ⟨h.val * 96 + (64 + l.val), by omega⟩) := by
  entry_read
  pointwise

theorem v22_at (k : Fin 384) (h : Fin 8) (l : Fin 16) : V m c main_v22 (ix3 k h l) = m ((c : Thread nD τ).loc main_arg6) (ix2 k ⟨h.val * 96 + (80 + l.val), by omega⟩) := by
  entry_read
  pointwise

theorem v23_at (k : Fin 384) (h : Fin 8) (l : Fin 32) : V m c main_v23 (ix3 k h l) = (0:EReal) := by
  entry_read
  pointwise

/-- The query weights, 128 lanes a head: the 96 of the argument, then zeros. -/
theorem v24_at (k : Fin 384) (h : Fin 8) (l : Fin 128) : V m c main_v24 (ix3 k h l) =
    if e : l.val < 96 then m ((c : Thread nD τ).loc main_arg6) (ix2 k ⟨h.val * 96 + l.val, by omega⟩) else (0:EReal) := by
  rw [v24_cat]
  refine (catW_at k h _ _ _ _ (v20_at m c k h) (v21_at m c k h) (v22_at m c k h) (v23_at m c k h) l).trans ?_
  repeat' split
  all_goals first | rfl | omega | (refine congrArg _ (congrArg (ix2 k) (Fin.ext ?_)); simp only; omega)

theorem v34_eq : V m c main_v34 = (truncf .bf16 (shapeCast S384x1024 (V m c main_v24) shapeCasts_S384x8x128_S384x1024) bitsLt_bf16_f32 : FVec Ideal S384x1024 .bf16) := by
  rw [v24_cat]
  unfold V
  after_results
  refine congrArg (fun w => (truncf .bf16 (shapeCast S384x1024 w shapeCasts_S384x8x128_S384x1024) bitsLt_bf16_f32 : FVec Ideal S384x1024 .bf16)) (catW_eq ?_ ?_ ?_ ?_) <;> (beta_reduce; after_results_steps; rfl)

theorem v34_at (k : Fin 384) (h : Fin 8) (l : Fin 128) : V m c main_v34 (ix2 k ⟨h.val * 128 + l.val, by omega⟩) =
    if e : l.val < 96 then m ((c : Thread nD τ).loc main_arg6) (ix2 k ⟨h.val * 96 + l.val, by omega⟩) else (0:EReal) := by
  rw [v34_eq, ← v24_at]
  pointwise

theorem v35_at (k : Fin 256) (l : Fin 1024) : V m c main_v35 (ix2 k l) = if e : l.val % 128 < 64 then m ((c : Thread nD τ).loc main_arg7) (ix2 k ⟨l.val / 128 * 128 + l.val % 128, by omega⟩) else (0:EReal) := by
  entry_read
  pointwise

theorem v36_at (l : Fin 512) (k : Fin 256) : V m c main_v36 (ix2 l k) = m ((c : Thread nD τ).loc main_arg7) (ix2 k ⟨l.val / 64 * 128 + (64 + l.val % 64), by omega⟩) := by
  entry_read
  pointwise

theorem v45_at (b : Fin 32) (r : Fin 2048) (k : Fin 384) : V m c main_v45 (ix3 b r k) = m ((c : Thread nD τ).loc main_arg0) (ix3 b r k) := by
  entry_read
  pointwise

theorem v46_at (k : Fin 384) : V m c main_v46 (ix2 0 k) = m ((c : Thread nD τ).loc main_arg4) (ix1 k) := by
  entry_read
  pointwise

theorem v47_at (k : Fin 256) : V m c main_v47 (ix2 0 k) = m ((c : Thread nD τ).loc main_arg5) (ix1 k) := by
  entry_read
  pointwise

theorem v37_at (b : Fin 32) (r : Fin 2048) (k : Fin 64) : V m c main_v37 (ix3 b r k) = (0:EReal) := by
  entry_read
  pointwise

theorem v38_at (b : Fin 32) (r : Fin 2048) (k : Fin 32) : V m c main_v38 (ix3 b r k) = (0:EReal) := by
  entry_read
  pointwise

theorem v42_at (b : Fin 32) (r : Fin 2048) (k : Fin 32) : V m c main_v42 (ix3 b r k) = if e : k.val < 16 then Neg.neg (α := EReal) (m ((c : Thread nD τ).loc main_arg2) (ix3 b r ⟨16 + k.val, by omega⟩)) else m ((c : Thread nD τ).loc main_arg2) (ix3 b r ⟨k.val - 16, by omega⟩) := by
  entry_read
  pointwise

theorem v44_eq : V m c main_v44 = (truncf .bf16 (V m c main_v43) bitsLt_bf16_f32 : FVec Ideal S32x2048x512 .bf16) := by
  rw [v43_cat]
  unfold V
  after_results
  refine congrArg (fun w => (truncf .bf16 w bitsLt_bf16_f32 : FVec Ideal S32x2048x512 .bf16)) (catZ_eq ?_ ?_ ?_ ?_ ?_ ?_ ?_) <;> (beta_reduce; after_results_steps; rfl)

/-- The stream's first 256 lanes: the compressed keys. -/
theorem v44_lo (b : Fin 32) (r : Fin 2048) (k : Fin 256) : V m c main_v44 (ix3 b r ⟨k.val, by omega⟩) = m ((c : Thread nD τ).loc main_arg1) (ix3 b r k) := by
  rw [v44_eq, v43_cat]
  refine (catZ_at b r _ _ _ _ _ _ _ (fun _ => rfl) (v37_at m c b r) (fun _ => rfl) (v38_at m c b r) (v37_at m c b r) (v42_at m c b r) (v38_at m c b r) ⟨k.val, by omega⟩).trans ?_
  rw [dif_pos k.isLt]

/-- The stream's next 128 lanes: the rotary keys at lanes 64 to 95. -/
theorem v44_mid (b : Fin 32) (r : Fin 2048) (l : Fin 128) : V m c main_v44 (ix3 b r ⟨256 + l.val, by omega⟩) =
    if e : 64 ≤ l.val ∧ l.val < 96 then m ((c : Thread nD τ).loc main_arg2) (ix3 b r ⟨l.val - 64, by omega⟩) else (0:EReal) := by
  rw [v44_eq, v43_cat]
  refine (catZ_at b r _ _ _ _ _ _ _ (fun _ => rfl) (v37_at m c b r) (fun _ => rfl) (v38_at m c b r) (v37_at m c b r) (v42_at m c b r) (v38_at m c b r) ⟨256 + l.val, by omega⟩).trans ?_
  simp only
  by_cases h1 : l.val < 64
  · rw [dif_neg (by omega), dif_pos (by omega), dif_neg (by omega)]
  · by_cases h2 : l.val < 96
    · rw [dif_neg (by omega), dif_neg (by omega), dif_pos (by omega), dif_pos (by omega)]
      exact congrArg _ (congrArg (ix3 b r) (Fin.ext (by simp only; omega)))
    · rw [dif_neg (by omega), dif_neg (by omega), dif_neg (by omega), dif_pos (by omega), dif_neg (by omega)]

/-- The stream's last 128 lanes: the turned rotary keys at lanes 64 to 95. -/
theorem v44_hi (b : Fin 32) (r : Fin 2048) (l : Fin 128) : V m c main_v44 (ix3 b r ⟨384 + l.val, by omega⟩) =
    if e : 64 ≤ l.val ∧ l.val < 80 then Neg.neg (α := EReal) (m ((c : Thread nD τ).loc main_arg2) (ix3 b r ⟨l.val - 48, by omega⟩))
    else if e : 80 ≤ l.val ∧ l.val < 96 then m ((c : Thread nD τ).loc main_arg2) (ix3 b r ⟨l.val - 80, by omega⟩) else (0:EReal) := by
  rw [v44_eq, v43_cat]
  refine (catZ_at b r _ _ _ _ _ _ _ (fun _ => rfl) (v37_at m c b r) (fun _ => rfl) (v38_at m c b r) (v37_at m c b r) (v42_at m c b r) (v38_at m c b r) ⟨384 + l.val, by omega⟩).trans ?_
  simp only
  rw [dif_neg (by omega), dif_neg (by omega), dif_neg (by omega), dif_neg (by omega)]
  by_cases h1 : l.val < 64
  · rw [dif_pos (by omega), dif_neg (by omega), dif_neg (by omega)]
  · rw [dif_neg (by omega)]
    by_cases h2 : l.val < 80
    · rw [dif_pos (by omega), dif_pos (by omega), dif_pos (by omega)]
      exact congrArg (Neg.neg (α := EReal)) (congrArg _ (congrArg (ix3 b r) (Fin.ext (by simp only; omega))))
    · by_cases h3 : l.val < 96
      · rw [dif_pos (by omega), dif_neg (by omega), dif_neg (by omega), dif_pos (by omega)]
        exact congrArg _ (congrArg (ix3 b r) (Fin.ext (by simp only; omega)))
      · rw [dif_neg (by omega), dif_neg (by omega), dif_neg (by omega)]

end Cert.KernelIdeal.Attn

end
-- ==== Proof.Spec.lean ====
/- The attention of one batch entry, in plain terms of its arrays over the extended reals. -/
module

public import Idealize.ShloMosaic.Lib.Pointwise
public import Idealize.ShloMosaic.Lib.Claim
public import proofs.«01_k».proof.Proof.Angle

@[expose] public section

noncomputable section

open Idealize.ShloMosaic

namespace Cert

/-- One batch entry's arrays: the compressed queries, keys and rotary keys, the positions, the gains and the two weights. -/
structure Arrs where
  zq : Fin 2048 → Fin 384 → EReal
  zkv : Fin 2048 → Fin 256 → EReal
  zkr : Fin 2048 → Fin 32 → EReal
  pos : Fin 2048 → EReal
  gq : Fin 384 → EReal
  gk : Fin 256 → EReal
  wq : Fin 384 → Fin 768 → EReal
  wkv : Fin 256 → Fin 1024 → EReal

namespace Arrs

variable (A : Arrs)

/-- The normalised compressed query. -/
def nq (p : Fin 2048) (k : Fin 384) : EReal :=
  A.zq p k * Ideal.rsqrt (Ideal.div (∑ j : Fin 384, A.zq p j * A.zq p j) (Ideal.ofBits .f32 0x43C00000#32) + Ideal.ofBits .f32 0x358637BD#32) * A.gq k

/-- The normalised compressed key. -/
def nk (p : Fin 2048) (k : Fin 256) : EReal :=
  A.zkv p k * Ideal.rsqrt (Ideal.div (∑ j : Fin 256, A.zkv p j * A.zkv p j) (Ideal.ofBits .f32 0x43800000#32) + Ideal.ofBits .f32 0x358637BD#32) * A.gk k

/-- The projected queries. -/
def qP (p : Fin 2048) (c : Fin 768) : EReal := ∑ k : Fin 384, A.nq p k * A.wq k c

/-- The projected keys and values. -/
def kvP (p : Fin 2048) (c : Fin 1024) : EReal := ∑ k : Fin 256, A.nk p k * A.wkv k c

/-- The cosine and sine of pair `i` at row `p`. -/
def co (p : Fin 2048) (i : Nat) : EReal := Ideal.cos (angF (A.pos p) i)
def si (p : Fin 2048) (i : Nat) : EReal := Ideal.sin (angF (A.pos p) i)

/-- The query of head `h`: 64 plain lanes, 32 rotated ones. -/
def qR (p : Fin 2048) (h : Fin 8) (l : Fin 96) : EReal :=
  if l.val < 64 then A.qP p ⟨h.val * 96 + l.val, by omega⟩
  else if e : l.val < 80 then A.qP p ⟨h.val * 96 + l.val, by omega⟩ * A.co p (l.val % 16) - A.qP p ⟨h.val * 96 + (l.val + 16), by omega⟩ * A.si p (l.val % 16)
  else A.qP p ⟨h.val * 96 + (l.val - 16), by omega⟩ * A.si p (l.val % 16) + A.qP p ⟨h.val * 96 + l.val, by omega⟩ * A.co p (l.val % 16)

/-- The key of head `h`: 64 plain lanes, 32 rotated ones that all heads share. -/
def kR (p : Fin 2048) (h : Fin 8) (l : Fin 96) : EReal :=
  if e : l.val < 64 then A.kvP p ⟨h.val * 128 + l.val, by omega⟩
  else if e : l.val < 80 then A.zkr p ⟨l.val - 64, by omega⟩ * A.co p (l.val % 16) - A.zkr p ⟨l.val - 48, by omega⟩ * A.si p (l.val % 16)
  else A.zkr p ⟨l.val - 80, by omega⟩ * A.si p (l.val % 16) + A.zkr p ⟨l.val - 64, by omega⟩ * A.co p (l.val % 16)

/-- The value of head `h`. -/
def vR (p : Fin 2048) (h : Fin 8) (d : Fin 64) : EReal := A.kvP p ⟨h.val * 128 + (64 + d.val), by omega⟩

end Arrs

end Cert

end
-- ==== Proof.KerOut.lean ====
/- The attention kernel's result, entry by entry, in the plain terms of the arguments' arrays. -/
module

public import proofs.«01_k».proof.Proof.Fold
public import proofs.«01_k».proof.Proof.Entry
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.KernelIdeal.Value

variable (m : (ℓ : Loc nD τ sig) → Buf (Elt Ideal) ℓ)

/-- Batch entry `b`'s arrays among the kernel's arguments. -/
def arrs (c : Dev nD) (b : Fin 32) : Arrs where
  zq p k := m ((c : Thread nD τ).loc main_arg0) (ix3 b p k)
  zkv p k := m ((c : Thread nD τ).loc main_arg1) (ix3 b p k)
  zkr p k := m ((c : Thread nD τ).loc main_arg2) (ix3 b p k)
  pos p := FloatOps.sitofp (F := Ideal) FTy.f32 (m ((c : Thread nD τ).loc main_arg3) (ix2 b p))
  gq k := m ((c : Thread nD τ).loc main_arg4) (ix1 k)
  gk k := m ((c : Thread nD τ).loc main_arg5) (ix1 k)
  wq k l := m ((c : Thread nD τ).loc main_arg6) (ix2 k l)
  wkv k l := m ((c : Thread nD τ).loc main_arg7) (ix2 k l)

/-- The batch entry of a grid point. -/
def bt (t : Fin cfg0.N) : Fin 32 := ⟨t.val / 2, by have := (idx t).2.2.2.2.2.2.2.2.2; omega⟩

/-- The factor on the scores. -/
def kap : EReal := (((Real.sqrt 96)⁻¹ * (Real.log 2)⁻¹ : ℝ) : EReal)

theorem kap_eq : (Named.named (F := Ideal) (φ := .f32) κ "score_scale" 0x3E16C740#32 : EReal) = kap :=
  IdealRules.named_const.ideal_named_scalar _ _ _ _ rfl

section reads

variable (c : Dev nD) (t : Fin cfg0.N)

theorem zkv_at (r : Fin 2048) (k : Fin 256) : iblk m c 0 t (ix3 0 r ⟨k.val, by omega⟩) = (arrs m c (bt t)).zkv r k :=
  (blk0 m c t r ⟨k.val, by omega⟩).trans (v44_lo m c (bt t) r k)

theorem gk_at (k : Fin 256) : iblk m c 5 t (ix2 0 k) = (arrs m c (bt t)).gk k :=
  (blk5 m c t k).trans (v47_at m c k)

theorem kvN_at (r : Fin 2048) (k : Fin 256) : kvN (iblk m c 0 t) (iblk m c 5 t) r k = (arrs m c (bt t)).nk r k := by
  unfold kvN kvR Arrs.nk
  rw [zkv_at, gk_at]
  refine congrArg (fun s => _ * Ideal.rsqrt (Ideal.div s _ + _) * _) (Finset.sum_congr rfl fun j _ => ?_)
  rw [zkv_at]

theorem kvP_at (r : Fin 2048) (h : Fin 8) (l : Fin 128) (e : l.val < 64) :
    (∑ k : Fin 256, kvN (iblk m c 0 t) (iblk m c 5 t) r k * iblk m c 7 t (ix2 k ⟨128 * h.val + l.val, by omega⟩))
      = (arrs m c (bt t)).kvP r ⟨h.val * 128 + l.val, by omega⟩ := by
  unfold Arrs.kvP
  refine Finset.sum_congr rfl fun k _ => congrArg₂ (· * ·) (kvN_at m c t r k) ?_
  rw [blk7, v35_at, dif_pos (show (128 * h.val + l.val) % 128 < 64 by omega)]
  exact congrArg _ (congrArg (ix2 k) (Fin.ext (by simp only; omega)))

theorem kvP_zero (r : Fin 2048) (h : Fin 8) (l : Fin 128) (e : ¬ l.val < 64) :
    (∑ k : Fin 256, kvN (iblk m c 0 t) (iblk m c 5 t) r k * iblk m c 7 t (ix2 k ⟨128 * h.val + l.val, by omega⟩)) = (0 : EReal) := by
  refine Finset.sum_eq_zero fun k _ => ?_
  rw [blk7, v35_at, dif_neg (show ¬ (128 * h.val + l.val) % 128 < 64 by omega)]
  exact mul_zero _

/-- A head's value rows: 64 rows of projections, then a row of ones. -/
theorem val_at (h : Fin 8) (d : Fin 64) (r : Fin 2048) :
    (valsOf m c t (ix2 ⟨80 * h.val + d.val, by omega⟩ r) : EReal) = (arrs m c (bt t)).vR r h d := by
  show valF (iblk m c 0 t) (iblk m c 5 t) (iblk m c 8 t) ⟨80 * h.val + d.val, by omega⟩ r = _
  unfold valF Arrs.vR Arrs.kvP
  rw [dif_pos (show (80 * h.val + d.val) % 80 < 64 by omega)]
  refine Finset.sum_congr rfl fun k _ => ?_
  rw [kvN_at, blk8, v36_at, mul_comm]
  refine congrArg₂ (· * ·) rfl (congrArg _ (congrArg (ix2 k) (Fin.ext ?_)))
  show ((80 * h.val + d.val) / 80 * 64 + (80 * h.val + d.val) % 80) / 64 * 128 + (64 + ((80 * h.val + d.val) / 80 * 64 + (80 * h.val + d.val) % 80) % 64) = h.val * 128 + (64 + d.val)
  omega

theorem one_at (h : Fin 8) (r : Fin 2048) : (valsOf m c t (ix2 ⟨80 * h.val + 64, by omega⟩ r) : EReal) = 1 := by
  show valF (iblk m c 0 t) (iblk m c 5 t) (iblk m c 8 t) ⟨80 * h.val + 64, by omega⟩ r = _
  unfold valF
  rw [dif_neg (show ¬ (80 * h.val + 64) % 80 < 64 by omega)]

/-- A head's key, lane by lane below 96. -/
theorem key_at (r : Fin 2048) (h : Fin 8) (l : Fin 96) :
    (keysOf m c t (ix2 r ⟨128 * h.val + l.val, by omega⟩) : EReal) = (arrs m c (bt t)).kR r h l := by
  have el : (128 * h.val + l.val) % 128 = l.val := by omega
  have e1 : ((iblk m c 0 t (ix3 0 r ⟨256 + (128 * h.val + l.val) % 128, by omega⟩) : EReal)) = _ :=
    (congrArg (fun x => iblk m c 0 t (ix3 0 r x)) (Fin.ext (by simp only; omega))).trans
      ((blk0 m c t r ⟨256 + l.val, by omega⟩).trans (v44_mid m c (bt t) r ⟨l.val, by omega⟩))
  have e2 : ((iblk m c 0 t (ix3 0 r ⟨384 + (128 * h.val + l.val) % 128, by omega⟩) : EReal)) = _ :=
    (congrArg (fun x => iblk m c 0 t (ix3 0 r x)) (Fin.ext (by simp only; omega))).trans
      ((blk0 m c t r ⟨384 + l.val, by omega⟩).trans (v44_hi m c (bt t) r ⟨l.val, by omega⟩))
  have e3 : ((iblk m c 2 t (ix3 0 r ⟨(128 * h.val + l.val) % 128, by omega⟩) : EReal)) = _ :=
    (congrArg (fun x => iblk m c 2 t (ix3 0 r x)) (Fin.ext (by simp only; omega))).trans
      ((blk2 m c t r ⟨l.val, by omega⟩).trans (v17_at m c (bt t) r ⟨l.val, by omega⟩))
  have e4 : ((iblk m c 3 t (ix3 0 r ⟨(128 * h.val + l.val) % 128, by omega⟩) : EReal)) = _ :=
    (congrArg (fun x => iblk m c 3 t (ix3 0 r x)) (Fin.ext (by simp only; omega))).trans
      ((blk3 m c t r ⟨l.val, by omega⟩).trans (v18_at m c (bt t) r ⟨l.val, by omega⟩))
  refine (congrArg₂ (fun a b : EReal => a + b) rfl (congrArg₂ (fun a b : EReal => a + b) (congrArg₂ (fun a b : EReal => a * b) e1 e3) (congrArg₂ (fun a b : EReal => a * b) e2 e4))).trans ?_
  unfold Arrs.kR
  simp only
  by_cases h1 : l.val < 64
  · rw [dif_neg (by omega), dif_neg (by omega), dif_neg (by omega), if_pos h1, if_pos h1, dif_pos h1]
    refine (congrArg₂ (· + ·) (kvP_at m c t r h ⟨l.val, by omega⟩ h1) rfl).trans ?_
    show (_ : EReal) + (0 * 1 + 0 * 0) = _
    rw [zero_mul, zero_mul, add_zero, add_zero]
  · refine (congrArg₂ (· + ·) (kvP_zero m c t r h ⟨l.val, by omega⟩ h1) rfl).trans ?_
    rw [dif_pos ⟨by omega, by omega⟩, if_neg h1, if_neg h1, dif_neg h1, if_pos (by omega), if_pos (by omega)]
    refine (zero_add (M := EReal) _).trans ?_
    by_cases h2 : l.val < 80
    · rw [dif_pos ⟨by omega, by omega⟩, dif_pos h2, sub_eq_add_neg, ← EReal.neg_mul]
      rfl
    · rw [dif_neg (by omega), dif_pos ⟨by omega, by omega⟩, dif_neg h2, add_comm]
      rfl

/-- The row of the arrays a point's row `r` is. -/
def rw' (r : Fin 1024) : Fin 2048 := ⟨1024 * (t.val % 2) + r.val, by omega⟩

theorem q1_at (r : Fin 1024) (h : Fin 8) (l : Fin 128) :
    (q1At m c t (ix2 r ⟨128 * h.val + l.val, by omega⟩) : EReal)
      = if e : l.val < 96 then (arrs m c (bt t)).qP (rw' t r) ⟨h.val * 96 + l.val, by omega⟩ else 0 := by
  have ez : ∀ k : Fin 384, (iblk m c 1 t (ix3 0 r k) : EReal) = (arrs m c (bt t)).zq (rw' t r) k :=
    fun k => (blk1 m c t r k).trans (v45_at m c (bt t) (rw' t r) k)
  have eg : ∀ k : Fin 384, (iblk m c 4 t (ix2 0 k) : EReal) = (arrs m c (bt t)).gq k :=
    fun k => (blk4 m c t k).trans (v46_at m c k)
  have ew : ∀ k : Fin 384, (iblk m c 6 t (ix2 k ⟨128 * h.val + l.val, by omega⟩) : EReal)
      = if e : l.val < 96 then (arrs m c (bt t)).wq k ⟨h.val * 96 + l.val, by omega⟩ else 0 :=
    fun k => (congrArg (fun x => iblk m c 6 t (ix2 k x)) (Fin.ext (by simp only; omega))).trans
      ((blk6 m c t k ⟨h.val * 128 + l.val, by omega⟩).trans (v34_at m c k h l))
  refine (pay25_at _ _ _ r _).trans ?_
  unfold qpF
  by_cases e : l.val < 96
  · rw [dif_pos e]
    unfold Arrs.qP Arrs.nq
    refine Finset.sum_congr rfl fun k _ => ?_
    rw [ez, eg, ew, dif_pos e]
    refine congrArg (fun s => _ * Ideal.rsqrt (Ideal.div s _ + _) * _ * _) (Finset.sum_congr rfl fun j _ => ?_)
    rw [ez]
  · rw [dif_neg e]
    refine Finset.sum_eq_zero fun k _ => ?_
    rw [ew, dif_neg e, mul_zero]

/-- A head's scaled query, lane by lane below 96. -/
theorem qry_at (r : Fin 1024) (h : Fin 8) (l : Fin 96) :
    qryF (q1At m c t) (cosAt m c t) (sinAt m c t) r ⟨128 * h.val + l.val, by omega⟩ = (arrs m c (bt t)).qR (rw' t r) h l * kap := by
  have e3 : ((cosAt m c t (ix2 r ⟨(128 * h.val + l.val) % 128, by omega⟩) : EReal)) = _ :=
    (congrArg (fun x => cosAt m c t (ix2 r x)) (Fin.ext (by simp only; omega))).trans
      ((cosAt_at m c t r ⟨l.val, by omega⟩).trans (v17_at m c (bt t) (rw' t r) ⟨l.val, by omega⟩))
  have e4 : ((sinAt m c t (ix2 r ⟨(128 * h.val + l.val) % 128, by omega⟩) : EReal)) = _ :=
    (congrArg (fun x => sinAt m c t (ix2 r x)) (Fin.ext (by simp only; omega))).trans
      ((sinAt_at m c t r ⟨l.val, by omega⟩).trans (v18_at m c (bt t) (rw' t r) ⟨l.val, by omega⟩))
  have eq := (q1_at m c t r h ⟨l.val, by omega⟩).trans (dif_pos l.isLt)
  unfold qryF
  rw [kap_eq]
  refine congrArg₂ (· * ·) ((congrArg₂ (· + ·) (congrArg₂ (· * ·) eq e3) (congrArg₂ (· * ·) rfl e4)).trans ?_) rfl
  unfold Arrs.qR
  simp only
  by_cases h1 : l.val < 64
  · have er : rotF (q1At m c t) r ⟨128 * h.val + l.val, by omega⟩ = 0 := by
      unfold rotF
      rw [if_neg (by simp only; omega), if_neg (by simp only; omega)]
    rw [er, if_pos h1, if_pos h1, if_pos h1, mul_one, zero_mul, add_zero]
  · rw [if_neg h1, if_neg h1, if_neg h1, if_pos (by omega), if_pos (by omega)]
    by_cases h2 : l.val < 80
    · have er : rotF (q1At m c t) r ⟨128 * h.val + l.val, by omega⟩ = -(arrs m c (bt t)).qP (rw' t r) ⟨h.val * 96 + (l.val + 16), by omega⟩ := by
        unfold rotF
        rw [if_pos (by simp only; omega)]
        refine (zero_sub (G := EReal) _).trans (congrArg _ ?_)
        refine (congrArg (fun x => q1At m c t (ix2 r x)) (Fin.ext ?_)).trans ((q1_at m c t r h ⟨l.val + 16, by omega⟩).trans (dif_pos (by simp only; omega)))
        simp only; omega
      rw [er, dif_pos h2, sub_eq_add_neg, ← EReal.neg_mul]
      rfl
    · have er : rotF (q1At m c t) r ⟨128 * h.val + l.val, by omega⟩ = (arrs m c (bt t)).qP (rw' t r) ⟨h.val * 96 + (l.val - 16), by omega⟩ := by
        unfold rotF
        rw [if_neg (by simp only; omega), if_pos (by simp only; omega)]
        refine (congrArg (fun x => q1At m c t (ix2 r x)) (Fin.ext ?_)).trans ((q1_at m c t r h ⟨l.val - 16, by omega⟩).trans (dif_pos (by simp only; omega)))
        simp only; omega
      rw [er, dif_neg h2, add_comm]
      rfl

/-- Above lane 96 the scaled query is zero. -/
theorem qry_zero (r : Fin 1024) (h : Fin 8) (l : Fin 128) (hl : 96 ≤ l.val) :
    qryF (q1At m c t) (cosAt m c t) (sinAt m c t) r ⟨128 * h.val + l.val, by omega⟩ = 0 := by
  unfold qryF rotF
  rw [(q1_at m c t r h l).trans (dif_neg (by omega)), if_neg (by simp only; omega), if_neg (by simp only; omega), zero_mul, zero_mul, add_zero, zero_mul]

end reads

/-- The score of query `p` against key `j` in head `h`, as the kernel scales it. -/
def scK (A : Arrs) (h : Fin 8) (p j : Fin 2048) : EReal := ∑ l : Fin 96, A.kR j h l * (A.qR p h l * kap)

theorem sco_at (c : Dev nD) (t t0 : Fin cfg0.N) (e : bt t0 = bt t) (r : Fin 1024) (h : Fin 8) (j : Fin 2048) :
    scoF (q1At m c t) (cosAt m c t) (sinAt m c t) (keysOf m c t0) r h j = scK (arrs m c (bt t)) h (rw' t r) j := by
  unfold scoF scK
  refine (Fin.sum_univ_add (a := 96) (b := 32) fun l : Fin (96 + 32) => (keysOf m c t0 (ix2 j ⟨128 * h.val + l.val, by omega⟩) : EReal) * qryF (q1At m c t) (cosAt m c t) (sinAt m c t) r ⟨128 * h.val + l.val, by omega⟩).trans ?_
  refine (congrArg₂ (· + ·) ?_ (Finset.sum_eq_zero fun l _ => ?_)).trans (add_zero _)
  · refine Finset.sum_congr rfl fun l _ => congrArg₂ (· * ·) ((key_at m c t0 j h l).trans (by rw [e])) (qry_at m c t r h l)
  · exact (congrArg₂ (· * ·) rfl (qry_zero m c t r h ⟨96 + l.val, by omega⟩ (by simp only; omega))).trans (mul_zero _)

/-- The head's output as the kernel computes it. -/
def outK (A : Arrs) (p : Fin 2048) (h : Fin 8) (d : Fin 64) : EReal :=
  Ideal.div (∑ j : Fin 2048, A.vR j h d * Ideal.exp2 (scK A h p j - partMax (scK A h p)))
    (∑ j : Fin 2048, 1 * Ideal.exp2 (scK A h p j - partMax (scK A h p)))

theorem hd_at (c : Dev nD) (t t0 : Fin cfg0.N) (e : bt t0 = bt t) (r : Fin 1024) (h : Fin 8) (d : Fin 64) :
    hdF (q1At m c t) (cosAt m c t) (sinAt m c t) (keysOf m c t0) (valsOf m c t0) r h d = outK (arrs m c (bt t)) (rw' t r) h d := by
  have es : scoF (q1At m c t) (cosAt m c t) (sinAt m c t) (keysOf m c t0) r h = scK (arrs m c (bt t)) h (rw' t r) :=
    funext fun j => sco_at m c t t0 e r h j
  unfold hdF outK
  rw [es]
  refine congrArg₂ Ideal.div (Finset.sum_congr rfl fun j _ => congrArg₂ (· * ·) ((val_at m c t0 h d j).trans (by rw [e])) rfl)
    (Finset.sum_congr rfl fun j _ => congrArg₂ (· * ·) (one_at m c t0 h j) rfl)

/-- The kernel's result at batch entry `b`, row `p`, head `h`, entry `d`. -/
theorem G9_at (c : Dev nD) (b : Fin 32) (p : Fin 2048) (h : Fin 8) (d : Fin 64) :
    G9 m c (ix3 b p ⟨64 * h.val + d.val, by omega⟩) = outK (arrs m c b) p h d := by
  have e : pt9Of (ix3 b p ⟨64 * h.val + d.val, by omega⟩) = 2 * b.val + p.val / 1024 := by
    show 2 * (b.val / 1 - 0) + 1 * (p.val / 1024 - 0) + 1 * ((64 * h.val + d.val) / 512 - 0) = _
    omega
  have hN : cfg0.N = 64 := N_0
  have el : loc9Of (ix3 b p ⟨64 * h.val + d.val, by omega⟩) = ix3 0 ⟨p.val % 1024, by omega⟩ ⟨64 * h.val + d.val, by omega⟩ := by
    funext a
    refine Fin.ext ?_
    fin_cases a
    · show b.val % 1 = 0; omega
    · rfl
    · show (64 * h.val + d.val) % 512 = 64 * h.val + d.val; omega
  have hlt : pt9Of (ix3 b p ⟨64 * h.val + d.val, by omega⟩) < cfg0.N := by omega
  unfold G9
  rw [dif_pos hlt]
  refine (congrFun (congrArg Prod.fst (outsAt0_sweep m c _ hlt).symm) _).trans ?_
  have hl := left_at m c b ⟨p.val / 1024, by omega⟩ ⟨_, hlt⟩ ⟨2 * b.val, by omega⟩ e rfl
  refine (congrFun hl _).trans ?_
  rw [el]
  refine (blockO_at _ _ _ _ _ ⟨p.val % 1024, by omega⟩ h d).trans ?_
  have eb : bt ⟨pt9Of (ix3 b p ⟨64 * h.val + d.val, by omega⟩), hlt⟩ = b := Fin.ext (by show pt9Of _ / 2 = _; omega)
  have eb0 : bt ⟨2 * b.val, by omega⟩ = b := Fin.ext (by show 2 * b.val / 2 = _; omega)
  have er : rw' ⟨pt9Of (ix3 b p ⟨64 * h.val + d.val, by omega⟩), hlt⟩ ⟨p.val % 1024, by omega⟩ = p :=
    Fin.ext (by show 1024 * (pt9Of _ % 2) + p.val % 1024 = _; omega)
  rw [hd_at m c _ _ (eb0.trans eb.symm), eb, er]

end Cert.KernelIdeal.Attn

end
-- ==== Proof.Ref.lean ====
/- The reference's attention, stage by stage. -/
module

public import proofs.«01_k».proof.Proof.Gen.ReferenceIdeal.Read
public import Idealize.ShloMosaic.Lib.Pointwise
public import Idealize.ShloMosaic.Lib.Claim
public import proofs.«01_k».proof.Proof.Spec

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Read

variable (x0 : (⟨S32x2048x384, .f32⟩ : BufTy).Contents (Elt Ideal)) (x1 : (⟨S32x2048x256, .f32⟩ : BufTy).Contents (Elt Ideal))
  (x2 : (⟨S32x2048x32, .f32⟩ : BufTy).Contents (Elt Ideal)) (x3 : (⟨S32x2048, .i32⟩ : BufTy).Contents (Elt Ideal))
  (x4 : (⟨S384, .f32⟩ : BufTy).Contents (Elt Ideal)) (x5 : (⟨S256, .f32⟩ : BufTy).Contents (Elt Ideal))
  (x6 : (⟨S384x768, .f32⟩ : BufTy).Contents (Elt Ideal)) (x7 : (⟨S256x1024, .f32⟩ : BufTy).Contents (Elt Ideal))

/-- The arrays of batch entry `b`. -/
def arrs (b : Fin 32) : Arrs where
  zq p k := x0 (ix3 b p k)
  zkv p k := x1 (ix3 b p k)
  zkr p k := x2 (ix3 b p k)
  pos p := FloatOps.sitofp (F := Ideal) FTy.f32 (x3 (ix2 b p))
  gq k := x4 (ix1 k)
  gk k := x5 (ix1 k)
  wq k c := x6 (ix2 k c)
  wkv k c := x7 (ix2 k c)

theorem v12_at (b : Fin 32) (p : Fin 2048) (k : Fin 384) : val_main_v12 x0 x4 (ix3 b p k) = (arrs x0 x1 x2 x3 x4 x5 x6 x7 b).nq p k := by
  unfold val_main_v12 val_main_v11 val_main_v10 val_main_v9 val_main_v8 val_main_v7 val_main_v6 val_main_v5 val_main_v4 val_main_v3 val_main_v2 val_main_v1 val_main_v0
  unfold val_main_cst val_main_cst_0 val_main_cst_1
  pointwise [arrs, Arrs.nq] <;> rfl

theorem v58_at (b : Fin 32) (p : Fin 2048) (k : Fin 256) : val_main_v58 x1 x5 (ix3 b p k) = (arrs x0 x1 x2 x3 x4 x5 x6 x7 b).nk p k := by
  unfold val_main_v58 val_main_v57 val_main_v56 val_main_v55 val_main_v54 val_main_v53 val_main_v52 val_main_v51 val_main_v50 val_main_v49 val_main_v48 val_main_v47 val_main_v46
  unfold val_main_cst_4 val_main_cst_5 val_main_cst_6
  pointwise [arrs, Arrs.nk] <;> rfl

theorem v13_at (b : Fin 32) (p : Fin 2048) (k : Fin 768) : val_main_v13 x0 x4 x6 (ix3 b p k) = (arrs x0 x1 x2 x3 x4 x5 x6 x7 b).qP p k := by
  unfold val_main_v13
  pointwise [Arrs.qP, v12_at x0 x1 x2 x3 x4 x5 x6 x7] <;> rfl

theorem v59_at (b : Fin 32) (p : Fin 2048) (k : Fin 1024) : val_main_v59 x1 x5 x7 (ix3 b p k) = (arrs x0 x1 x2 x3 x4 x5 x6 x7 b).kvP p k := by
  unfold val_main_v59
  pointwise [Arrs.kvP, v58_at x0 x1 x2 x3 x4 x5 x6 x7] <;> rfl

theorem v30_at (b : Fin 32) (p : Fin 2048) (k : Fin 16) : val_main_v30 (F := Ideal) x3 (ix4 b p 0 k) = (arrs x0 x1 x2 x3 x4 x5 x6 x7 b).co p k.val := by
  unfold val_main_v30 val_main_v29 val_main_v28 val_main_v27 val_main_v26 val_main_v25 val_main_v24 val_main_v23 val_main_v22 val_main_v21 val_main_v20 val_main_v19 val_main_v18 val_main_v17
  unfold val_main_cst_2 val_main_cst_3
  pointwise [arrs, Arrs.co, angF] <;> rfl

theorem v31_at (b : Fin 32) (p : Fin 2048) (k : Fin 16) : val_main_v31 (F := Ideal) x3 (ix4 b p 0 k) = (arrs x0 x1 x2 x3 x4 x5 x6 x7 b).si p k.val := by
  unfold val_main_v31 val_main_v29 val_main_v28 val_main_v27 val_main_v26 val_main_v25 val_main_v24 val_main_v23 val_main_v22 val_main_v21 val_main_v20 val_main_v19 val_main_v18 val_main_v17
  unfold val_main_cst_2 val_main_cst_3
  pointwise [arrs, Arrs.si, angF] <;> rfl

theorem v73_at (b : Fin 32) (p : Fin 2048) (k : Fin 16) : val_main_v73 (F := Ideal) x3 (ix3 b p k) = (arrs x0 x1 x2 x3 x4 x5 x6 x7 b).co p k.val := by
  unfold val_main_v73 val_main_v72 val_main_v71 val_main_v70 val_main_v69 val_main_v68 val_main_v67 val_main_v66 val_main_v65 val_main_v64 val_main_v63 val_main_v62 val_main_v61
  unfold val_main_cst_7 val_main_cst_8
  pointwise [arrs, Arrs.co, angF] <;> rfl

theorem v74_at (b : Fin 32) (p : Fin 2048) (k : Fin 16) : val_main_v74 (F := Ideal) x3 (ix3 b p k) = (arrs x0 x1 x2 x3 x4 x5 x6 x7 b).si p k.val := by
  unfold val_main_v74 val_main_v72 val_main_v71 val_main_v70 val_main_v69 val_main_v68 val_main_v67 val_main_v66 val_main_v65 val_main_v64 val_main_v63 val_main_v62 val_main_v61
  unfold val_main_cst_7 val_main_cst_8
  pointwise [arrs, Arrs.si, angF] <;> rfl

theorem v15_at (b : Fin 32) (p : Fin 2048) (h : Fin 8) (l : Fin 64) : val_main_v15 x0 x4 x6 (ix4 b p h l) = (arrs x0 x1 x2 x3 x4 x5 x6 x7 b).qP p ⟨h.val * 96 + l.val, by omega⟩ := by
  unfold val_main_v15 val_main_v14
  pointwise [v13_at x0 x1 x2 x3 x4 x5 x6 x7] <;> rfl

theorem v32_at (b : Fin 32) (p : Fin 2048) (h : Fin 8) (l : Fin 16) : val_main_v32 x0 x4 x6 (ix4 b p h l) = (arrs x0 x1 x2 x3 x4 x5 x6 x7 b).qP p ⟨h.val * 96 + (64 + l.val), by omega⟩ := by
  unfold val_main_v32 val_main_v16 val_main_v14
  pointwise [v13_at x0 x1 x2 x3 x4 x5 x6 x7] <;> rfl

theorem v33_at (b : Fin 32) (p : Fin 2048) (h : Fin 8) (l : Fin 16) : val_main_v33 x0 x4 x6 (ix4 b p h l) = (arrs x0 x1 x2 x3 x4 x5 x6 x7 b).qP p ⟨h.val * 96 + (80 + l.val), by omega⟩ := by
  unfold val_main_v33 val_main_v16 val_main_v14
  pointwise [v13_at x0 x1 x2 x3 x4 x5 x6 x7]
  refine congrArg _ (Fin.ext ?_)
  simp only
  omega

theorem v38_at (b : Fin 32) (p : Fin 2048) (h : Fin 8) (l : Fin 16) : val_main_v38 x0 x3 x4 x6 (ix4 b p h l) = (arrs x0 x1 x2 x3 x4 x5 x6 x7 b).qP p ⟨h.val * 96 + (64 + l.val), by omega⟩ * (arrs x0 x1 x2 x3 x4 x5 x6 x7 b).co p l.val - (arrs x0 x1 x2 x3 x4 x5 x6 x7 b).qP p ⟨h.val * 96 + (80 + l.val), by omega⟩ * (arrs x0 x1 x2 x3 x4 x5 x6 x7 b).si p l.val := by
  unfold val_main_v38 val_main_v37 val_main_v36 val_main_v35 val_main_v34
  pointwise [v32_at x0 x1 x2 x3 x4 x5 x6 x7, v33_at x0 x1 x2 x3 x4 x5 x6 x7, v30_at x0 x1 x2 x3 x4 x5 x6 x7, v31_at x0 x1 x2 x3 x4 x5 x6 x7] <;> rfl

theorem v43_at (b : Fin 32) (p : Fin 2048) (h : Fin 8) (l : Fin 16) : val_main_v43 x0 x3 x4 x6 (ix4 b p h l) = (arrs x0 x1 x2 x3 x4 x5 x6 x7 b).qP p ⟨h.val * 96 + (64 + l.val), by omega⟩ * (arrs x0 x1 x2 x3 x4 x5 x6 x7 b).si p l.val + (arrs x0 x1 x2 x3 x4 x5 x6 x7 b).qP p ⟨h.val * 96 + (80 + l.val), by omega⟩ * (arrs x0 x1 x2 x3 x4 x5 x6 x7 b).co p l.val := by
  unfold val_main_v43 val_main_v42 val_main_v41 val_main_v40 val_main_v39
  pointwise [v32_at x0 x1 x2 x3 x4 x5 x6 x7, v33_at x0 x1 x2 x3 x4 x5 x6 x7, v30_at x0 x1 x2 x3 x4 x5 x6 x7, v31_at x0 x1 x2 x3 x4 x5 x6 x7] <;> rfl

theorem v79_at (b : Fin 32) (p : Fin 2048) (l : Fin 16) : val_main_v79 x2 x3 (ix3 b p l) = (arrs x0 x1 x2 x3 x4 x5 x6 x7 b).zkr p ⟨l.val, by omega⟩ * (arrs x0 x1 x2 x3 x4 x5 x6 x7 b).co p l.val - (arrs x0 x1 x2 x3 x4 x5 x6 x7 b).zkr p ⟨16 + l.val, by omega⟩ * (arrs x0 x1 x2 x3 x4 x5 x6 x7 b).si p l.val := by
  unfold val_main_v79 val_main_v78 val_main_v77 val_main_v76 val_main_v75
  pointwise [v73_at x0 x1 x2 x3 x4 x5 x6 x7, v74_at x0 x1 x2 x3 x4 x5 x6 x7] <;> rfl

theorem v82_at (b : Fin 32) (p : Fin 2048) (l : Fin 16) : val_main_v82 x2 x3 (ix3 b p l) = (arrs x0 x1 x2 x3 x4 x5 x6 x7 b).zkr p ⟨l.val, by omega⟩ * (arrs x0 x1 x2 x3 x4 x5 x6 x7 b).si p l.val + (arrs x0 x1 x2 x3 x4 x5 x6 x7 b).zkr p ⟨16 + l.val, by omega⟩ * (arrs x0 x1 x2 x3 x4 x5 x6 x7 b).co p l.val := by
  unfold val_main_v82 val_main_v81 val_main_v80 val_main_v76 val_main_v75
  pointwise [v73_at x0 x1 x2 x3 x4 x5 x6 x7, v74_at x0 x1 x2 x3 x4 x5 x6 x7] <;> rfl

/-- Three pieces along a head's lanes: 64, 16 and 16. -/
theorem cat96_at (x : FVec Ideal S32x2048x8x64 .f32) (y z : FVec Ideal S32x2048x8x16 .f32) (b : Fin 32) (p : Fin 2048) (h : Fin 8) (l : Fin 96) :
    concatenate S32x2048x8x96 3 [⟨S32x2048x8x64, x⟩, ⟨S32x2048x8x32, concatenate S32x2048x8x32 3 [⟨S32x2048x8x16, y⟩, ⟨S32x2048x8x16, z⟩] concatenates_S32x2048x8x16_S32x2048x8x16_S32x2048x8x32_d3⟩] concatenates_S32x2048x8x64_S32x2048x8x32_S32x2048x8x96_d3 (ix4 b p h l)
      = if e : l.val < 64 then x (ix4 b p h ⟨l.val, e⟩) else if e : l.val < 80 then y (ix4 b p h ⟨l.val - 64, by omega⟩) else z (ix4 b p h ⟨l.val - 80, by omega⟩) := by
  pointwise
  repeat' split
  all_goals first | rfl | omega | (refine congrArg _ (congrArg (ix4 b p h) (Fin.ext ?_)); simp only; omega)

/-- The plain lanes and the shared rotated ones along a head's lanes. -/
theorem catK_at (x : FVec Ideal S32x2048x8x64 .f32) (w : FVec Ideal S32x2048x8x32 .f32) (b : Fin 32) (p : Fin 2048) (h : Fin 8) (l : Fin 96) :
    concatenate S32x2048x8x96 3 [⟨S32x2048x8x64, x⟩, ⟨S32x2048x8x32, w⟩] concatenates_S32x2048x8x64_S32x2048x8x32_S32x2048x8x96_d3 (ix4 b p h l)
      = if e : l.val < 64 then x (ix4 b p h ⟨l.val, e⟩) else w (ix4 b p h ⟨l.val - 64, by omega⟩) := by
  pointwise

theorem cat32_at (y z : FVec Ideal S32x2048x16 .f32) (b : Fin 32) (p : Fin 2048) (l : Fin 32) :
    concatenate S32x2048x32 2 [⟨S32x2048x16, y⟩, ⟨S32x2048x16, z⟩] concatenates_S32x2048x16_S32x2048x16_S32x2048x32_d2 (ix3 b p l)
      = if e : l.val < 16 then y (ix3 b p ⟨l.val, e⟩) else z (ix3 b p ⟨l.val - 16, by omega⟩) := by
  pointwise

theorem v45_at (b : Fin 32) (p : Fin 2048) (h : Fin 8) (l : Fin 96) : val_main_v45 x0 x3 x4 x6 (ix4 b p h l) = (arrs x0 x1 x2 x3 x4 x5 x6 x7 b).qR p h l := by
  unfold val_main_v45 val_main_v44
  refine (cat96_at _ _ _ b p h l).trans ?_
  unfold Arrs.qR
  by_cases h1 : l.val < 64
  · rw [dif_pos h1, if_pos h1, v15_at x0 x1 x2 x3 x4 x5 x6 x7]
  · rw [dif_neg h1, if_neg h1]
    by_cases h2 : l.val < 80
    · rw [dif_pos h2, dif_pos h2, v38_at x0 x1 x2 x3 x4 x5 x6 x7]
      have e : l.val - 64 = l.val % 16 := by omega
      exact congrArg₂ (· - ·) (congrArg₂ (· * ·) (congrArg _ (Fin.ext (by simp only; omega))) (congrArg _ e))
        (congrArg₂ (· * ·) (congrArg _ (Fin.ext (by simp only; omega))) (congrArg _ e))
    · rw [dif_neg h2, dif_neg h2, v43_at x0 x1 x2 x3 x4 x5 x6 x7]
      have e : l.val - 80 = l.val % 16 := by omega
      exact congrArg₂ (· + ·) (congrArg₂ (· * ·) (congrArg _ (Fin.ext (by simp only; omega))) (congrArg _ e))
        (congrArg₂ (· * ·) (congrArg _ (Fin.ext (by simp only; omega))) (congrArg _ e))

theorem v84_at (b : Fin 32) (p : Fin 2048) (h : Fin 8) (l : Fin 64) : val_main_v84 x1 x5 x7 (ix4 b p h l) = (arrs x0 x1 x2 x3 x4 x5 x6 x7 b).kvP p ⟨h.val * 128 + l.val, by omega⟩ := by
  unfold val_main_v84 val_main_v60
  pointwise [v59_at x0 x1 x2 x3 x4 x5 x6 x7]

theorem v88_at (b : Fin 32) (p : Fin 2048) (h : Fin 8) (l : Fin 64) : val_main_v88 x1 x5 x7 (ix4 b p h l) = (arrs x0 x1 x2 x3 x4 x5 x6 x7 b).vR p h l := by
  unfold val_main_v88 val_main_v60
  pointwise [v59_at x0 x1 x2 x3 x4 x5 x6 x7] <;> rfl

theorem v83_at (b : Fin 32) (p : Fin 2048) (l : Fin 32) : val_main_v83 x2 x3 (ix3 b p l) = if e : l.val < 16 then (arrs x0 x1 x2 x3 x4 x5 x6 x7 b).zkr p ⟨l.val, by omega⟩ * (arrs x0 x1 x2 x3 x4 x5 x6 x7 b).co p l.val - (arrs x0 x1 x2 x3 x4 x5 x6 x7 b).zkr p ⟨l.val + 16, by omega⟩ * (arrs x0 x1 x2 x3 x4 x5 x6 x7 b).si p l.val else (arrs x0 x1 x2 x3 x4 x5 x6 x7 b).zkr p ⟨l.val - 16, by omega⟩ * (arrs x0 x1 x2 x3 x4 x5 x6 x7 b).si p (l.val - 16) + (arrs x0 x1 x2 x3 x4 x5 x6 x7 b).zkr p ⟨l.val, by omega⟩ * (arrs x0 x1 x2 x3 x4 x5 x6 x7 b).co p (l.val - 16) := by
  unfold val_main_v83
  refine (cat32_at _ _ b p l).trans ?_
  by_cases h1 : l.val < 16
  · rw [dif_pos h1, dif_pos h1, v79_at x0 x1 x2 x3 x4 x5 x6 x7]
    have e : 16 + l.val = l.val + 16 := by omega
    simp only [e]
  · rw [dif_neg h1, dif_neg h1, v82_at x0 x1 x2 x3 x4 x5 x6 x7]
    have e : 16 + (l.val - 16) = l.val := by omega
    simp only [e]

theorem v86_at (b : Fin 32) (p : Fin 2048) (h : Fin 8) (l : Fin 32) : val_main_v86 x2 x3 (ix4 b p h l) = val_main_v83 x2 x3 (ix3 b p l) := by
  unfold val_main_v86 val_main_v85
  generalize val_main_v83 (F := Ideal) x2 x3 = y
  pointwise

theorem v87_at (b : Fin 32) (p : Fin 2048) (h : Fin 8) (l : Fin 96) : val_main_v87 x1 x2 x3 x5 x7 (ix4 b p h l) = (arrs x0 x1 x2 x3 x4 x5 x6 x7 b).kR p h l := by
  unfold val_main_v87
  refine (catK_at _ _ b p h l).trans ?_
  unfold Arrs.kR
  by_cases h1 : l.val < 64
  · rw [dif_pos h1, dif_pos h1, v84_at x0 x1 x2 x3 x4 x5 x6 x7]
  · rw [dif_neg h1, dif_neg h1]
    refine ((v86_at x2 x3 b p h _).trans (v83_at x0 x1 x2 x3 x4 x5 x6 x7 b p _)).trans ?_
    by_cases h2 : l.val < 80
    · have e : l.val - 64 = l.val % 16 := by omega
      rw [dif_pos (by simp only; omega), dif_pos h2]
      exact congrArg₂ (· - ·) (congrArg₂ (· * ·) rfl (congrArg _ e))
        (congrArg₂ (· * ·) (congrArg _ (Fin.ext (by simp only; omega))) (congrArg _ e))
    · have e : l.val - 64 - 16 = l.val % 16 := by omega
      rw [dif_neg (by simp only; omega), dif_neg h2]
      exact congrArg₂ (· + ·) (congrArg₂ (· * ·) (congrArg _ (Fin.ext (by simp only; omega))) (congrArg _ e))
        (congrArg₂ (· * ·) rfl (congrArg _ e))

/-- The reference's score. -/
def scR (A : Arrs) (h : Fin 8) (p j : Fin 2048) : EReal :=
  (∑ l : Fin 96, A.qR p h l * A.kR j h l) * Ideal.rsqrt (Ideal.ofBits .f32 0x42C00000#32)

theorem v92_at (b : Fin 32) (h : Fin 8) (p j : Fin 2048) : val_main_v92 x0 x1 x2 x3 x4 x5 x6 x7 (ix4 b h p j) = scR (arrs x0 x1 x2 x3 x4 x5 x6 x7 b) h p j := by
  unfold val_main_v92 val_main_v91 val_main_v90 val_main_v89
  unfold val_main_cst_9
  pointwise [scR, v45_at x0 x1 x2 x3 x4 x5 x6 x7, v87_at x0 x1 x2 x3 x4 x5 x6 x7]

/-- A maximum over the last axis is the fold along it. -/
theorem maxrow {n0 n1 n2 n3 : ℕ} {u : Shape} (y : FVec Ideal ⟨4, ![n0, n1, n2, n3]⟩ .f32) (a : FVec Ideal u .f32)
    (hr : (⟨4, ![n0, n1, n2, n3]⟩ : Shape).ReducesTo [3] ⟨3, ![n0, n1, n2]⟩) (hu : 0 < u.numel) (b : Fin n0) (h : Fin n1) (p : Fin n2) :
    (Host.reduce FloatOps.maximumf y a hr hu : FVec Ideal ⟨3, ![n0, n1, n2]⟩ .f32) (ix3 b h p)
      = Finset.univ.fold max (a (Shape.Idx.first hu)) fun j : Fin n3 => y (ix4 b h p j) := by
  pointwise

/-- The reference's shift. -/
def mxR (A : Arrs) (h : Fin 8) (p : Fin 2048) : EReal :=
  max (Ideal.ofBits .f32 0xFF800000#32) (Finset.univ.fold max (Ideal.ofBits .f32 0xFF800000#32) fun j : Fin 2048 => scR A h p j)

theorem v93_at (b : Fin 32) (h : Fin 8) (p : Fin 2048) : val_main_v93 x0 x1 x2 x3 x4 x5 x6 x7 (ix3 b h p) = Finset.univ.fold max (Ideal.ofBits .f32 0xFF800000#32) fun j : Fin 2048 => scR (arrs x0 x1 x2 x3 x4 x5 x6 x7 b) h p j := by
  unfold val_main_v93
  refine (maxrow _ _ _ _ b h p).trans ?_
  have e : (fun j : Fin 2048 => val_main_v92 (F := Ideal) x0 x1 x2 x3 x4 x5 x6 x7 (ix4 b h p j)) = fun j => scR (arrs x0 x1 x2 x3 x4 x5 x6 x7 b) h p j :=
    funext fun j => v92_at x0 x1 x2 x3 x4 x5 x6 x7 b h p j
  rw [e]
  rfl

end Cert.ReferenceIdeal.Attn

end
-- ==== Proof.RefOut.lean ====
/- The reference's attention, from the scores on. -/
module

public import proofs.«01_k».proof.Proof.Gen.ReferenceIdeal.Read
public import Idealize.ShloMosaic.Lib.Pointwise
public import Idealize.ShloMosaic.Lib.Claim
public import proofs.«01_k».proof.Proof.Ref

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Read

variable (x0 : (⟨S32x2048x384, .f32⟩ : BufTy).Contents (Elt Ideal)) (x1 : (⟨S32x2048x256, .f32⟩ : BufTy).Contents (Elt Ideal))
  (x2 : (⟨S32x2048x32, .f32⟩ : BufTy).Contents (Elt Ideal)) (x3 : (⟨S32x2048, .i32⟩ : BufTy).Contents (Elt Ideal))
  (x4 : (⟨S384, .f32⟩ : BufTy).Contents (Elt Ideal)) (x5 : (⟨S256, .f32⟩ : BufTy).Contents (Elt Ideal))
  (x6 : (⟨S384x768, .f32⟩ : BufTy).Contents (Elt Ideal)) (x7 : (⟨S256x1024, .f32⟩ : BufTy).Contents (Elt Ideal))

/-- The larger of a constant and an array, at an entry. -/
theorem maxc_at (y : FVec Ideal S32x8x2048 .f32) (b : Fin 32) (h : Fin 8) (p : Fin 2048) : (maximumf (broadcastInDim S32x8x2048 ![] bcast_S_S32x8x2048 (constant (F := Ideal) S_ .f32 0xFF800000#32)) y) (ix3 b h p) = max (Ideal.ofBits .f32 0xFF800000#32) (y (ix3 b h p)) := by
  pointwise

theorem v95_max (b : Fin 32) (h : Fin 8) (p : Fin 2048) : val_main_v95 x0 x1 x2 x3 x4 x5 x6 x7 (ix3 b h p) = max (Ideal.ofBits .f32 0xFF800000#32) (val_main_v93 x0 x1 x2 x3 x4 x5 x6 x7 (ix3 b h p)) := by
  unfold val_main_v95 val_main_v94 val_main_cst_11
  exact maxc_at _ b h p

theorem v95_at (b : Fin 32) (h : Fin 8) (p : Fin 2048) : val_main_v95 x0 x1 x2 x3 x4 x5 x6 x7 (ix3 b h p) = mxR (arrs x0 x1 x2 x3 x4 x5 x6 x7 b) h p :=
  (v95_max x0 x1 x2 x3 x4 x5 x6 x7 b h p).trans (congrArg (max _) (v93_at x0 x1 x2 x3 x4 x5 x6 x7 b h p))

theorem v99_at (b : Fin 32) (h : Fin 8) (p j : Fin 2048) : val_main_v99 x0 x1 x2 x3 x4 x5 x6 x7 (ix4 b h p j) = Ideal.exp (scR (arrs x0 x1 x2 x3 x4 x5 x6 x7 b) h p j - mxR (arrs x0 x1 x2 x3 x4 x5 x6 x7 b) h p) := by
  unfold val_main_v99 val_main_v98 val_main_v97 val_main_v96
  pointwise [v92_at x0 x1 x2 x3 x4 x5 x6 x7, v95_at x0 x1 x2 x3 x4 x5 x6 x7]

theorem v103_at (b : Fin 32) (h : Fin 8) (p j : Fin 2048) : val_main_v103 x0 x1 x2 x3 x4 x5 x6 x7 (ix4 b h p j) = Ideal.div (Ideal.exp (scR (arrs x0 x1 x2 x3 x4 x5 x6 x7 b) h p j - mxR (arrs x0 x1 x2 x3 x4 x5 x6 x7 b) h p)) (∑ i : Fin 2048, Ideal.exp (scR (arrs x0 x1 x2 x3 x4 x5 x6 x7 b) h p i - mxR (arrs x0 x1 x2 x3 x4 x5 x6 x7 b) h p)) := by
  unfold val_main_v103 val_main_v102 val_main_v101 val_main_v100
  unfold val_main_cst_12
  pointwise [v99_at x0 x1 x2 x3 x4 x5 x6 x7]

/-- The reference's result at head `h`, value lane `d`. -/
def outR (A : Arrs) (p : Fin 2048) (h : Fin 8) (d : Fin 64) : EReal :=
  ∑ j : Fin 2048, A.vR j h d * Ideal.div (Ideal.exp (scR A h p j - mxR A h p)) (∑ i : Fin 2048, Ideal.exp (scR A h p i - mxR A h p))

theorem v107_at (b : Fin 32) (p : Fin 2048) (h : Fin 8) (d : Fin 64) : val_main_v107 x0 x1 x2 x3 x4 x5 x6 x7 (ix3 b p ⟨64 * h.val + d.val, by omega⟩) = outR (arrs x0 x1 x2 x3 x4 x5 x6 x7 b) p h d := by
  unfold val_main_v107 val_main_v106 val_main_v105 val_main_v104
  pointwise [outR, v103_at x0 x1 x2 x3 x4 x5 x6 x7, v88_at x0 x1 x2 x3 x4 x5 x6 x7]

end Cert.ReferenceIdeal.Attn

end
-- ==== Proof.Final.lean ====
/- The attention's two forms agree: on real rotary keys, gains, weights and positions, the kernel's powers of two of the
   scaled scores and the reference's exponentials give one softmax. -/
module

public import proofs.«01_k».proof.Proof.Math
public import proofs.«01_k».proof.Proof.KerOut
public import proofs.«01_k».proof.Proof.RefOut

@[expose] public section

set_option maxRecDepth 16384

noncomputable section

open Idealize.ShloMosaic

namespace Cert

/-- The angle at a whole position is real. -/
theorem ang_real (z : BitVec 32) (k : ℕ) : IsR (angF (FloatOps.sitofp (F := Ideal) FTy.f32 z) k) := by
  unfold angF
  have e : ∀ w : BitVec 32, (FloatOps.sitofp (F := Ideal) FTy.f32 w : EReal) = (((w.toInt : ℤ) : ℝ) : EReal) := fun _ => rfl
  rw [e, e, c10000, c16, ← EReal.coe_neg, div_coe _ _ (by norm_num)]
  exact (IsR.coe _).mul (IsR.coe _)

theorem cos_real {x : EReal} (h : IsR x) : IsR (Ideal.cos x) := by
  obtain ⟨r, rfl⟩ := h; exact ⟨Real.cos r, rfl⟩

theorem sin_real {x : EReal} (h : IsR x) : IsR (Ideal.sin x) := by
  obtain ⟨r, rfl⟩ := h; exact ⟨Real.sin r, rfl⟩

/-- The arrays whose entries must be real are. -/
structure Arrs.Real' (A : Arrs) : Prop where
  zkr : ∀ p k, IsR (A.zkr p k)
  gq : ∀ k, IsR (A.gq k)
  gk : ∀ k, IsR (A.gk k)
  wq : ∀ k l, IsR (A.wq k l)
  wkv : ∀ k l, IsR (A.wkv k l)
  pos : ∀ p, ∃ z : BitVec 32, A.pos p = FloatOps.sitofp (F := Ideal) FTy.f32 z

namespace Arrs

variable {A : Arrs} (H : A.Real')

include H

theorem co_real (p : Fin 2048) (i : ℕ) : IsR (A.co p i) := by
  obtain ⟨z, hz⟩ := H.pos p
  unfold co; rw [hz]; exact cos_real (ang_real z i)

theorem si_real (p : Fin 2048) (i : ℕ) : IsR (A.si p i) := by
  obtain ⟨z, hz⟩ := H.pos p
  unfold si; rw [hz]; exact sin_real (ang_real z i)

theorem qP_real (p : Fin 2048) (c : Fin 768) : IsR (A.qP p c) := by
  unfold qP nq
  refine IsR.sum _ _ fun k => IsR.mul (IsR.mul ?_ (H.gq k)) (H.wq k c)
  rw [c384, cEps]
  exact rms_real _ _ _ (by norm_num) (by positivity) k

theorem kvP_real (p : Fin 2048) (c : Fin 1024) : IsR (A.kvP p c) := by
  unfold kvP nk
  refine IsR.sum _ _ fun k => IsR.mul (IsR.mul ?_ (H.gk k)) (H.wkv k c)
  rw [c256, cEps]
  exact rms_real _ _ _ (by norm_num) (by positivity) k

theorem qR_real (p : Fin 2048) (h : Fin 8) (l : Fin 96) : IsR (A.qR p h l) := by
  unfold qR
  split
  · exact qP_real H _ _
  · split
    · exact ((qP_real H _ _).mul (co_real H _ _)).sub ((qP_real H _ _).mul (si_real H _ _))
    · exact ((qP_real H _ _).mul (si_real H _ _)).add ((qP_real H _ _).mul (co_real H _ _))

theorem kR_real (p : Fin 2048) (h : Fin 8) (l : Fin 96) : IsR (A.kR p h l) := by
  unfold kR
  split
  · exact kvP_real H _ _
  · split
    · exact ((H.zkr _ _).mul (co_real H _ _)).sub ((H.zkr _ _).mul (si_real H _ _))
    · exact ((H.zkr _ _).mul (si_real H _ _)).add ((H.zkr _ _).mul (co_real H _ _))

theorem vR_real (p : Fin 2048) (h : Fin 8) (d : Fin 64) : IsR (A.vR p h d) := kvP_real H _ _

end Arrs

/-- The reference's scores as real numbers. -/
theorem scR_coe {A : Arrs} (h : Fin 8) (p j : Fin 2048) (q k : Fin 96 → ℝ) (hq : ∀ l, A.qR p h l = (q l : EReal))
    (hk : ∀ l, A.kR j h l = (k l : EReal)) :
    ReferenceIdeal.Attn.scR A h p j = (((∑ l, q l * k l) * (Real.sqrt 96)⁻¹ : ℝ) : EReal) := by
  unfold ReferenceIdeal.Attn.scR
  have e : ∑ l : Fin 96, A.qR p h l * A.kR j h l = ((∑ l, q l * k l : ℝ) : EReal) := by
    rw [← coe_sum]; exact Finset.sum_congr rfl fun l _ => by rw [hq, hk, EReal.coe_mul]
  rw [e, c96, Ideal.rsqrt_coe, if_neg (by norm_num), if_neg (by norm_num), ← EReal.coe_mul]

/-- The kernel's scores as real numbers. -/
theorem scK_coe {A : Arrs} (h : Fin 8) (p j : Fin 2048) (q k : Fin 96 → ℝ) (hq : ∀ l, A.qR p h l = (q l : EReal))
    (hk : ∀ l, A.kR j h l = (k l : EReal)) :
    KernelIdeal.Attn.scK A h p j = (((∑ l, q l * k l) * (Real.sqrt 96)⁻¹ * (Real.log 2)⁻¹ : ℝ) : EReal) := by
  unfold KernelIdeal.Attn.scK KernelIdeal.Attn.kap
  have e : ∑ l : Fin 96, A.kR j h l * (A.qR p h l * (((Real.sqrt 96)⁻¹ * (Real.log 2)⁻¹ : ℝ) : EReal))
      = ((∑ l, k l * (q l * ((Real.sqrt 96)⁻¹ * (Real.log 2)⁻¹)) : ℝ) : EReal) := by
    rw [← coe_sum]; exact Finset.sum_congr rfl fun l _ => by rw [hq, hk, ← EReal.coe_mul, ← EReal.coe_mul]
  rw [e]
  refine congrArg _ ?_
  rw [Finset.sum_mul, Finset.sum_mul]
  exact Finset.sum_congr rfl fun l _ => by ring

/-- The kernel's head output is the reference's. -/
theorem out_eq {A : Arrs} (H : A.Real') (p : Fin 2048) (h : Fin 8) (d : Fin 64) :
    KernelIdeal.Attn.outK A p h d = ReferenceIdeal.Attn.outR A p h d := by
  choose q hq using A.qR_real H p h
  choose k hk using fun j => A.kR_real H j h
  choose v hv using fun j => A.vR_real H j h d
  have eR : ∀ j, ReferenceIdeal.Attn.scR A h p j = (((∑ l, q l * k j l) * (Real.sqrt 96)⁻¹ : ℝ) : EReal) :=
    fun j => scR_coe h p j q (k j) hq (hk j)
  have eK : ∀ j, KernelIdeal.Attn.scK A h p j = (((∑ l, q l * k j l) * (Real.sqrt 96)⁻¹ * (Real.log 2)⁻¹ : ℝ) : EReal) :=
    fun j => scK_coe h p j q (k j) hq (hk j)
  have mR : IsR (ReferenceIdeal.Attn.mxR A h p) := by
    unfold ReferenceIdeal.Attn.mxR
    rw [show ∀ x : EReal, max (Ideal.ofBits .f32 0xFF800000#32) x = x from fun x => by rw [cBot, max_bot_left]]
    exact fold_max_real (by norm_num) _ fun j => ⟨_, eR j⟩
  have mK : IsR (KernelIdeal.Attn.partMax (KernelIdeal.Attn.scK A h p)) := by
    unfold KernelIdeal.Attn.partMax
    exact (((fold_max_real (by norm_num) _ fun j => ⟨_, eK _⟩).max (fold_max_real (by norm_num) _ fun j => ⟨_, eK _⟩)).max
      (fold_max_real (by norm_num) _ fun j => ⟨_, eK _⟩)).max (fold_max_real (by norm_num) _ fun j => ⟨_, eK _⟩)
  obtain ⟨cR, hR⟩ := mR
  obtain ⟨cK, hK⟩ := mK
  have e1 : ∀ j, Ideal.exp2 (KernelIdeal.Attn.scK A h p j - KernelIdeal.Attn.partMax (KernelIdeal.Attn.scK A h p))
      = ((Real.exp ((∑ l, q l * k j l) * (Real.sqrt 96)⁻¹ - cK * Real.log 2) : ℝ) : EReal) := fun j => by
    rw [hK, eK, exp2_scaled]
  have e2 : ∀ j, Ideal.exp (ReferenceIdeal.Attn.scR A h p j - ReferenceIdeal.Attn.mxR A h p)
      = ((Real.exp ((∑ l, q l * k j l) * (Real.sqrt 96)⁻¹ - cR) : ℝ) : EReal) := fun j => by
    rw [hR, eR, ← EReal.coe_sub, Ideal.exp_coe]
  unfold KernelIdeal.Attn.outK ReferenceIdeal.Attn.outR
  simp only [e1, e2, hv]
  exact (soft_quot (by norm_num) _ v _).trans (soft_sum (by norm_num) _ v _).symm

end Cert

end
-- ==== Proof.Claims.lean ====
/- The claims: the frames, the sanctioned rewriting, and the equality of the two programs' results. -/
module

public import proofs.«01_k».proof.Defs
public import proofs.«01_k».proof.Proof.Gen.Kernel.Frame
public import proofs.«01_k».proof.Proof.Gen.ReferenceIdeal.Run
public import proofs.«01_k».proof.Proof.Gen.ReferenceIdeal.Read
public import proofs.«01_k».proof.Proof.Final
public import Idealize.ShloMosaic.Adequacy
public import Idealize.ShloMosaic.Init

@[expose] public section

set_option maxRecDepth 16384

noncomputable section

open Idealize.ShloMosaic Idealize.ShloMosaic.TcCoe Idealize.SL.Sem

namespace Cert.Proof

/-- The side conditions of the precondition's broadcasts. -/
theorem preFacts : Cert.Pre_finite.Facts where
  bcast_S_S32x2048x32 := by decide
  bcast_S_S384 := by decide
  bcast_S_S256 := by decide
  bcast_S_S384x768 := by decide
  bcast_S_S256x1024 := by decide

/-- A number whose magnitude is below +∞ is real. -/
theorem real_of_lt (y : EReal) (e : BitVec.ofBool (decide (max y (-y) < Ideal.ofBits .f32 0x7F800000#32)) = 1#1) : IsR y := by
  rw [cTop] at e
  induction y with
  | bot => simp at e
  | top => simp at e
  | coe r => exact IsR.coe r

/-- An array whose magnitudes are all below +∞ holds real numbers. -/
theorem real_of_finite {s : Shape} (x : FVec Ideal s .f32) (h : Cert.Pre_finite.S_.BroadcastsInDim s (![] : Fin 0 → Fin s.rank))
    (e : cmpf .olt (Host.absf x) (broadcastInDim s ![] h (constant Cert.Pre_finite.S_ .f32 0x7F800000#32 : FVec Ideal Cert.Pre_finite.S_ .f32)) = fun _ => 1#1)
    (i : s.Idx) : IsR (x i) := by
  have e1 : BitVec.ofBool (decide (max (x i : EReal) (-(x i : EReal)) < Ideal.ofBits .f32 0x7F800000#32)) = 1#1 := congrFun e i
  exact real_of_lt _ e1

theorem frame_Kernel : Cert.quiescent_Kernel (hKernel := Cert.Kernel.Gen.facts) := fun m ρ _ => Cert.Kernel.Gen.frame m ρ

theorem frame_KernelIdeal : Cert.quiescent_KernelIdeal (hKernelIdeal := Cert.KernelIdeal.Gen.facts) := fun m ρ _ => Cert.KernelIdeal.Gen.frame m ρ

theorem frame_KernelIdeal_finite :
    Cert.quiescent_KernelIdeal_pre_finite (hKernelIdeal := Cert.KernelIdeal.Gen.facts) (hPre_finite := preFacts) :=
  fun m ρ _ => Cert.KernelIdeal.Gen.frame m ρ

theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ReferenceIdeal_finite :
    Cert.quiescent_ReferenceIdeal_pre_finite (hReferenceIdeal := Cert.ReferenceIdeal.Gen.facts) (hPre_finite := preFacts) :=
  fun m ρ _ => frame_ReferenceIdeal m ρ trivial

theorem preserves : Cert.preserves_Kernel_KernelIdeal :=
  IdealRules.named_const.statement Cert.KernelIdeal.κ "score_scale" .f32 0x3E16C740#32 _ rfl

/-- The kernel's batch arrays are real where the precondition says so. -/
theorem arrs_real (m : (ℓ : Loc Cert.KernelIdeal.nD Cert.KernelIdeal.τ Cert.KernelIdeal.sig) → Buf (Elt Ideal) ℓ)
    (hp : Cert.Pre_KernelIdeal_finite (hPre_finite := preFacts) m) (c : Dev Cert.KernelIdeal.nD) (b : Fin 32) :
    (Cert.KernelIdeal.Attn.arrs m c b).Real' := by
  obtain ⟨h2, h4, h5, h6, h7⟩ := hp c
  exact
    { zkr := fun p k => real_of_finite _ preFacts.bcast_S_S32x2048x32 h2 _
      gq := fun k => real_of_finite _ preFacts.bcast_S_S384 h4 _
      gk := fun k => real_of_finite _ preFacts.bcast_S_S256 h5 _
      wq := fun k l => real_of_finite _ preFacts.bcast_S_S384x768 h6 _
      wkv := fun k l => real_of_finite _ preFacts.bcast_S_S256x1024 h7 _
      pos := fun p => ⟨_, rfl⟩ }

/-- The reference's result on the kernel's arguments is the kernel's. -/
theorem value_eq (m : (ℓ : Loc Cert.KernelIdeal.nD Cert.KernelIdeal.τ Cert.KernelIdeal.sig) → Buf (Elt Ideal) ℓ)
    (hp : Cert.Pre_KernelIdeal_finite (hPre_finite := preFacts) m) (c : Dev Cert.KernelIdeal.nD) :
    Cert.ReferenceIdeal.Read.val_main_v107 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.KernelIdeal.Value.G9 m c := by
  funext i
  obtain ⟨b, p, n, rfl⟩ : ∃ (b : Fin 32) (p : Fin 2048) (n : Fin 512), i = ix3 b p n :=
    ⟨i 0, i 1, i 2, by funext a; fin_cases a <;> rfl⟩
  obtain ⟨h, d, rfl⟩ : ∃ (h : Fin 8) (d : Fin 64), n = ⟨64 * h.val + d.val, by omega⟩ :=
    ⟨⟨n.val / 64, by omega⟩, ⟨n.val % 64, by omega⟩, Fin.ext (by simp only; omega)⟩
  rw [Cert.KernelIdeal.Attn.G9_at m c b p h d, out_eq (arrs_real m hp c b) p h d]
  exact Cert.ReferenceIdeal.Attn.v107_at _ _ _ _ _ _ _ _ b p h d

/-- The two programs' results are equal. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hp ha
  refine ⟨fun c => Cert.KernelIdeal.Value.G9 m c, Cert.KernelIdeal.Value.run (F := Ideal) m g, ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5, e6, e7⟩ := ha c
  rw [Cert.ReferenceIdeal.Read.val_main_v107_eq, e0, e1, e2, e3, e4, e5, e6, e7]
  exact value_eq m hp c

end Cert.Proof

end
-- ==== Proof.Layer.lean ====
/- The layer's row operations as plain functions: the layer norm over 1024 lanes and the feed-forward residual row. -/
module

public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Layer

/-- The mean of a row of 1024 numbers. -/
def mean (t : Fin 1024 → EReal) : EReal := Ideal.div (∑ k, t k) (Ideal.ofBits .f32 0x44800000#32)

/-- The layer norm of a row, at one lane, with its gain and its offset. -/
def lnorm (t g b : Fin 1024 → EReal) (n : Fin 1024) : EReal :=
  (t n - mean t) * Ideal.rsqrt (mean (fun k => (t k - mean t) * (t k - mean t)) + Ideal.ofBits .f32 0x3727C5AC#32) * g n + b n

theorem lnorm_congr {t t' g g' b b' : Fin 1024 → EReal} (ht : ∀ k, t k = t' k) (hg : ∀ k, g k = g' k) (hb : ∀ k, b k = b' k) (n : Fin 1024) :
    lnorm t g b n = lnorm t' g' b' n := by
  obtain rfl : t = t' := funext ht
  obtain rfl : g = g' := funext hg
  obtain rfl : b = b' := funext hb
  rfl

/-- The residual row: the scaled input plus the gated update. -/
def resid (x gate u : Fin 1024 → EReal) (n : Fin 1024) : EReal :=
  Ideal.ofBits .f32 0x3F9837F0#32 * x n + (1 + gate n) * u n

/-- A modulated row times a matrix, at one column. -/
def modDot {N : ℕ} (x shift scale : Fin 1024 → EReal) (w : Fin 1024 → Fin N → EReal) (j : Fin N) : EReal :=
  ∑ k : Fin 1024, (x k * (1 + scale k) + shift k) * w k j

/-- One hidden lane of the feed-forward: the squared positive part. -/
def hid (x shift scale : Fin 1024 → EReal) (w1 : Fin 1024 → Fin 4096 → EReal) (j : Fin 4096) : EReal :=
  max (modDot x shift scale w1 j) 0 * max (modDot x shift scale w1 j) 0

/-- The feed-forward of a row, at one lane. -/
def ffn (x shift scale : Fin 1024 → EReal) (w1 : Fin 1024 → Fin 4096 → EReal) (w2 : Fin 4096 → Fin 1024 → EReal) (n : Fin 1024) : EReal :=
  ∑ j : Fin 4096, hid x shift scale w1 j * w2 j n

/-- The feed-forward is four partial sums of 1024 hidden lanes, added one after the other. -/
theorem ffn_parts (x shift scale : Fin 1024 → EReal) (w1 : Fin 1024 → Fin 4096 → EReal) (w2 : Fin 4096 → Fin 1024 → EReal) (n : Fin 1024)
    (f : Fin 4 → Fin 1024 → EReal) (hf : ∀ a t, f a t = hid x shift scale w1 ⟨a.val * 1024 + t.val, by omega⟩ * w2 ⟨a.val * 1024 + t.val, by omega⟩ n) :
    (∑ t, f 0 t) + (∑ t, f 1 t) + (∑ t, f 2 t) + (∑ t, f 3 t) = ffn x shift scale w1 w2 n := by
  unfold ffn
  rw [Fin.sum_univ_tiles 4 1024 rfl (fun j : Fin 4096 => hid x shift scale w1 j * w2 j n), Fin.sum_univ_four]
  simp only [hf]

end Cert.Layer

end
-- ==== Proof.FfnRef.lean ====
/- The reference's feed-forward sub-layer, entry by entry. -/
module

public import proofs.«01_k».proof.Proof.Gen.Reference2Ideal.Read
public import proofs.«01_k».proof.Proof.Layer

@[expose] public section

set_option maxRecDepth 16384

noncomputable section

open Idealize.ShloMosaic Idealize.ShloMosaic.TcCoe Idealize.SL.Sem

namespace Cert.Reference2Ideal.Ffn

open Cert.Reference2Ideal Cert.Reference2Ideal.Gen Cert.Reference2Ideal.Read Cert.Layer

variable (x0 : (⟨S32x2048x1024, .f32⟩ : BufTy).Contents (Elt Ideal)) (x1 : (⟨S32x6144, .f32⟩ : BufTy).Contents (Elt Ideal))
  (x2 : (⟨S1024x4096, .f32⟩ : BufTy).Contents (Elt Ideal)) (x3 : (⟨S4096x1024, .f32⟩ : BufTy).Contents (Elt Ideal))
  (x4 : (⟨S1024, .f32⟩ : BufTy).Contents (Elt Ideal)) (x5 : (⟨S1024, .f32⟩ : BufTy).Contents (Elt Ideal))

theorem v13_at (b : Fin 32) (p : Fin 2048) (j : Fin 4096) :
    val_main_v13 x0 x1 x2 (ix3 b p j)
      = modDot (fun k => x0 (ix3 b p k)) (fun k => x1 (ix2 b ⟨3072 + k.val, by omega⟩)) (fun k => x1 (ix2 b ⟨4096 + k.val, by omega⟩)) (fun k j => x2 (ix2 k j)) j := by
  unfold val_main_v13 val_main_v12 val_main_v11 val_main_v10 val_main_v9 val_main_v8 val_main_v7 val_main_v5 val_main_v4 val_main_v0 val_main_cst
  pointwise [modDot] <;> rfl

theorem v15_at (b : Fin 32) (p : Fin 2048) (j : Fin 4096) :
    val_main_v15 x0 x1 x2 (ix3 b p j)
      = hid (fun k => x0 (ix3 b p k)) (fun k => x1 (ix2 b ⟨3072 + k.val, by omega⟩)) (fun k => x1 (ix2 b ⟨4096 + k.val, by omega⟩)) (fun k j => x2 (ix2 k j)) j := by
  unfold val_main_v15 val_main_v14 val_main_call0_v0 val_main_call0_cst
  pointwise [hid, v13_at] <;> rfl

theorem v16_at (b : Fin 32) (p : Fin 2048) (n : Fin 1024) :
    val_main_v16 x0 x1 x2 x3 (ix3 b p n)
      = ffn (fun k => x0 (ix3 b p k)) (fun k => x1 (ix2 b ⟨3072 + k.val, by omega⟩)) (fun k => x1 (ix2 b ⟨4096 + k.val, by omega⟩)) (fun k j => x2 (ix2 k j)) (fun j n => x3 (ix2 j n)) n := by
  unfold val_main_v16
  pointwise [ffn, v15_at] <;> rfl

theorem v23_at (b : Fin 32) (p : Fin 2048) (n : Fin 1024) :
    val_main_v23 x0 x1 x2 x3 (ix3 b p n)
      = resid (fun k => x0 (ix3 b p k)) (fun k => x1 (ix2 b ⟨5120 + k.val, by omega⟩)) (ffn (fun k => x0 (ix3 b p k)) (fun k => x1 (ix2 b ⟨3072 + k.val, by omega⟩)) (fun k => x1 (ix2 b ⟨4096 + k.val, by omega⟩)) (fun k j => x2 (ix2 k j)) (fun j n => x3 (ix2 j n))) n := by
  unfold val_main_v23 val_main_v22 val_main_v21 val_main_v20 val_main_v19 val_main_v18 val_main_v17 val_main_v6 val_main_v0 val_main_cst_0 val_main_cst_1
  pointwise [resid, v16_at] <;> rfl

theorem v27_at (b : Fin 32) (p : Fin 2048) :
    val_main_v27 x0 x1 x2 x3 (ix3 b p 0) = mean (fun k => val_main_v23 x0 x1 x2 x3 (ix3 b p k)) := by
  unfold val_main_v27 val_main_v26 val_main_v25 val_main_v24 val_main_cst_2 val_main_cst_3
  pointwise [mean] <;> rfl

theorem v34_at (b : Fin 32) (p : Fin 2048) :
    val_main_v34 x0 x1 x2 x3 (ix3 b p 0)
      = mean (fun k => (val_main_v23 x0 x1 x2 x3 (ix3 b p k) - mean (fun k => val_main_v23 x0 x1 x2 x3 (ix3 b p k)))
          * (val_main_v23 x0 x1 x2 x3 (ix3 b p k) - mean (fun k => val_main_v23 x0 x1 x2 x3 (ix3 b p k)))) := by
  unfold val_main_v34 val_main_v33 val_main_v32 val_main_v31 val_main_v30 val_main_v29 val_main_v28 val_main_cst_4 val_main_cst_5
  rw [← v27_at]
  pointwise [mean] <;> rfl

/-- The reference's result is the layer norm of the residual row. -/
theorem v47_at (b : Fin 32) (p : Fin 2048) (n : Fin 1024) :
    val_main_v47 x0 x1 x2 x3 x4 x5 (ix3 b p n)
      = lnorm (resid (fun k => x0 (ix3 b p k)) (fun k => x1 (ix2 b ⟨5120 + k.val, by omega⟩)) (ffn (fun k => x0 (ix3 b p k)) (fun k => x1 (ix2 b ⟨3072 + k.val, by omega⟩)) (fun k => x1 (ix2 b ⟨4096 + k.val, by omega⟩)) (fun k j => x2 (ix2 k j)) (fun j n => x3 (ix2 j n))))
          (fun k => x4 (ix1 k)) (fun k => x5 (ix1 k)) n := by
  have e : val_main_v47 x0 x1 x2 x3 x4 x5 (ix3 b p n)
      = lnorm (fun k => val_main_v23 x0 x1 x2 x3 (ix3 b p k)) (fun k => x4 (ix1 k)) (fun k => x5 (ix1 k)) n := by
    unfold lnorm
    rw [← v34_at, ← v27_at]
    unfold val_main_v47 val_main_v46 val_main_v45 val_main_v44 val_main_v43 val_main_v42 val_main_v41 val_main_v40 val_main_v39 val_main_v38 val_main_v37 val_main_v36 val_main_v35 val_main_cst_6
    pointwise <;> rfl
  rw [e]
  exact lnorm_congr (fun k => v23_at x0 x1 x2 x3 b p k) (fun _ => rfl) (fun _ => rfl) n

end Cert.Reference2Ideal.Ffn

end
-- ==== Proof.FfnKer.lean ====
/- The feed-forward kernel's block, entry by entry, and its whole result. -/
module

public import proofs.«01_k».proof.Proof.Gen.Kernel2Ideal.Frame
public import Idealize.ShloMosaic.Lib.Pipeline.ValueKit
public import proofs.«01_k».proof.Proof.Layer

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Layer

/-- The stored row is the layer norm of the residual row. -/
theorem pay1_at (v66 : FVec Ideal S512x1024 .f32) (v68 : FVec Ideal S1x1024 .f32) (v69 : Vec Ideal S1x1024 .f32) (r : Fin 512) (n : Fin 1024) :
    k0_pay1 v66 v68 v69 (ix3 0 r n) = lnorm (fun k => v66 (ix2 r k)) (fun k => v68 (ix2 0 k)) (fun k => v69 (ix2 0 k)) n := by
  pointwise [k0_pay1, lnorm, mean] <;> rfl

theorem pay4_at (v0 v2 : Vec Ideal S1x1x1024 .f32) (v6 : Vec Ideal S1x512x1024 .f32) (r : Fin 512) (k : Fin 1024) :
    k0_pay4 v0 v2 v6 (ix2 r k) = (v6 (ix3 0 r k) : EReal) * (1 + v2 (ix3 0 0 k)) + v0 (ix3 0 0 k) := by
  pointwise [k0_pay4, k0_pay3] <;> rfl

/-- One chunk's hidden lane from the modulated rows and the chunk's weights. -/
def chunk (v14 : FVec Ideal S512x1024 .bf16) (w : Vec Ideal S1024x1024 .bf16) (r : Fin 512) (t : Fin 1024) : EReal :=
  max (∑ k : Fin 1024, (v14 (ix2 r k) : EReal) * w (ix2 k t)) 0 * max (∑ k : Fin 1024, (v14 (ix2 r k) : EReal) * w (ix2 k t)) 0

theorem pay5_at (v0 v2 : Vec Ideal S1x1x1024 .f32) (v6 : Vec Ideal S1x512x1024 .f32) (w1 w2 : Vec Ideal S1024x1024 .bf16) (r : Fin 512) (n : Fin 1024) :
    k0_pay5 v0 v2 v6 w1 w2 (ix2 r n) = ∑ t : Fin 1024, chunk (k0_pay4 v0 v2 v6) w1 r t * (w2 (ix2 t n) : EReal) := by
  pointwise [k0_pay5, chunk] <;> rfl

theorem pay6_at (v0 v2 : Vec Ideal S1x1x1024 .f32) (v6 : Vec Ideal S1x512x1024 .f32) (w1 : Vec Ideal S1024x1024 .bf16) (r : Fin 512) (t : Fin 1024) :
    k0_pay6 v0 v2 v6 w1 (ix2 r t) = chunk (k0_pay4 v0 v2 v6) w1 r t := by
  pointwise [k0_pay6, chunk] <;> rfl

theorem pay7_at (v5 : FVec Ideal S1x1024 .f32) (v7 : FVec Ideal S512x1024 .f32) (v14 : FVec Ideal S512x1024 .bf16) (v26 v32 : FVec Ideal S512x1024 .f32)
    (v34 v38 v45 v49 v56 : Vec Ideal S1024x1024 .bf16) (r : Fin 512) (n : Fin 1024) :
    k0_pay7 v5 v7 v14 v26 v32 v34 v38 v45 v49 v56 (ix2 r n)
      = resid (fun k => v7 (ix2 r k)) (fun k => v5 (ix2 0 k))
          (fun n => v26 (ix2 r n) + (∑ t : Fin 1024, v32 (ix2 r t) * (v34 (ix2 t n) : EReal)) + (∑ t : Fin 1024, chunk v14 v38 r t * (v45 (ix2 t n) : EReal))
            + ∑ t : Fin 1024, chunk v14 v49 r t * (v56 (ix2 t n) : EReal)) n := by
  pointwise [k0_pay7, chunk, resid] <;> rfl

/-- The residual row over the loaded parts. -/
theorem row_at (v0 v2 v4 : Vec Ideal S1x1x1024 .f32) (v6 : Vec Ideal S1x512x1024 .f32) (a0 a1 a2 a3 b0 b1 b2 b3 : Vec Ideal S1024x1024 .bf16)
    (r : Fin 512) (n : Fin 1024) (x shift scale gate : Fin 1024 → EReal) (w1 : Fin 1024 → Fin 4096 → EReal) (w2 : Fin 4096 → Fin 1024 → EReal)
    (hx : ∀ k, v6 (ix3 0 r k) = x k) (hs : ∀ k, v0 (ix3 0 0 k) = shift k) (hc : ∀ k, v2 (ix3 0 0 k) = scale k) (hg : ∀ k, v4 (ix3 0 0 k) = gate k)
    (ha0 : ∀ k t : Fin 1024, a0 (ix2 k t) = w1 k ⟨0 * 1024 + t.val, by omega⟩) (ha1 : ∀ k t : Fin 1024, a1 (ix2 k t) = w1 k ⟨1 * 1024 + t.val, by omega⟩)
    (ha2 : ∀ k t : Fin 1024, a2 (ix2 k t) = w1 k ⟨2 * 1024 + t.val, by omega⟩) (ha3 : ∀ k t : Fin 1024, a3 (ix2 k t) = w1 k ⟨3 * 1024 + t.val, by omega⟩)
    (hb0 : ∀ t n : Fin 1024, b0 (ix2 t n) = w2 ⟨0 * 1024 + t.val, by omega⟩ n) (hb1 : ∀ t n : Fin 1024, b1 (ix2 t n) = w2 ⟨1 * 1024 + t.val, by omega⟩ n)
    (hb2 : ∀ t n : Fin 1024, b2 (ix2 t n) = w2 ⟨2 * 1024 + t.val, by omega⟩ n) (hb3 : ∀ t n : Fin 1024, b3 (ix2 t n) = w2 ⟨3 * 1024 + t.val, by omega⟩ n) :
    k0_pay7 (k0_pay2 v4) (k0_pay3 v6) (k0_pay4 v0 v2 v6) (k0_pay5 v0 v2 v6 a0 b0) (k0_pay6 v0 v2 v6 a1) b1 a2 b2 a3 b3 (ix2 r n)
      = resid x gate (ffn x shift scale w1 w2) n := by
  have hch : ∀ (a : Vec Ideal S1024x1024 .bf16) (i : Fin 4) (h : ∀ k t : Fin 1024, a (ix2 k t) = w1 k ⟨i.val * 1024 + t.val, by omega⟩) (t : Fin 1024),
      chunk (k0_pay4 v0 v2 v6) a r t = hid x shift scale w1 ⟨i.val * 1024 + t.val, by omega⟩ := by
    intro a i h t
    have e : (∑ k : Fin 1024, (k0_pay4 v0 v2 v6 (ix2 r k) : EReal) * a (ix2 k t)) = modDot x shift scale w1 ⟨i.val * 1024 + t.val, by omega⟩ := by
      unfold modDot
      refine Finset.sum_congr rfl fun k _ => ?_
      rw [pay4_at, hx, hs, hc, h]
    unfold chunk hid
    rw [e]
  rw [pay7_at]
  have ex : (fun k => k0_pay3 v6 (ix2 r k)) = x := by
    funext k
    rw [← hx]
    pointwise [k0_pay3] <;> rfl
  have eg : (fun k => k0_pay2 v4 (ix2 0 k)) = gate := by
    funext k
    rw [← hg]
    pointwise [k0_pay2] <;> rfl
  rw [ex, eg]
  refine congrArg (fun u => resid x gate u n) (funext fun n => ?_)
  rw [pay5_at]
  rw [← ffn_parts x shift scale w1 w2 n (fun i t => ![chunk (k0_pay4 v0 v2 v6) a0 r t * (b0 (ix2 t n) : EReal), chunk (k0_pay4 v0 v2 v6) a1 r t * (b1 (ix2 t n) : EReal),
    chunk (k0_pay4 v0 v2 v6) a2 r t * (b2 (ix2 t n) : EReal), chunk (k0_pay4 v0 v2 v6) a3 r t * (b3 (ix2 t n) : EReal)] i)]
  · refine congrArg₂ (fun a b : EReal => a + b) (congrArg₂ (fun a b : EReal => a + b) (congrArg₂ (fun a b : EReal => a + b) rfl ?_) rfl) rfl
    refine Finset.sum_congr rfl fun t _ => ?_
    rw [pay6_at]
    rfl
  · intro i t
    match i with
    | ⟨0, _⟩ => exact congrArg₂ (fun a b : EReal => a * b) (hch a0 0 ha0 t) (hb0 t n)
    | ⟨1, _⟩ => exact congrArg₂ (fun a b : EReal => a * b) (hch a1 1 ha1 t) (hb1 t n)
    | ⟨2, _⟩ => exact congrArg₂ (fun a b : EReal => a * b) (hch a2 2 ha2 t) (hb2 t n)
    | ⟨3, _⟩ => exact congrArg₂ (fun a b : EReal => a * b) (hch a3 3 ha3 t) (hb3 t n)

end Cert.Kernel2Ideal.Ffn

end
-- ==== Proof.FfnOut.lean ====
/- The feed-forward kernel's whole result, entry by entry, in terms of the arrays the call is given. -/
module

public import proofs.«01_k».proof.Proof.FfnKer
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Layer

variable (m : (ℓ : Loc nD τ sig) → Buf (Elt Ideal) ℓ) (c : Dev nD)

/-- The call's result: the layer norm of the residual row, over the arguments. -/
def G (i : S32x2048x1024.Idx) : EReal :=
  lnorm (resid (fun k => m ((c : Thread nD τ).loc main_arg0) (ix3 (i 0) (i 1) k)) (fun k => m ((c : Thread nD τ).loc main_arg1) (ix2 (i 0) ⟨5120 + k.val, by omega⟩))
      (ffn (fun k => m ((c : Thread nD τ).loc main_arg0) (ix3 (i 0) (i 1) k)) (fun k => m ((c : Thread nD τ).loc main_arg1) (ix2 (i 0) ⟨3072 + k.val, by omega⟩))
        (fun k => m ((c : Thread nD τ).loc main_arg1) (ix2 (i 0) ⟨4096 + k.val, by omega⟩))
        (fun k j => m ((c : Thread nD τ).loc main_arg2) (ix2 k j)) (fun j n => m ((c : Thread nD τ).loc main_arg3) (ix2 j n))))
    (fun k => m ((c : Thread nD τ).loc main_arg4) (ix1 k)) (fun k => m ((c : Thread nD τ).loc main_arg5) (ix1 k)) (i 2)

/-- The modulation rows the call stages. -/
theorem v0_at (b : Fin 32) (l : Fin 6) (k : Fin 1024) : V m c main_v0 (ix3 b l k) = m ((c : Thread nD τ).loc main_arg1) (ix2 b ⟨l.val * 1024 + k.val, by omega⟩) := by
  entry_read
  pointwise

theorem v1_at (k : Fin 1024) (j : Fin 4096) : V m c main_v1 (ix2 k j) = m ((c : Thread nD τ).loc main_arg2) (ix2 k j) := by
  entry_read
  pointwise

theorem v2_at (j : Fin 4096) (n : Fin 1024) : V m c main_v2 (ix2 j n) = m ((c : Thread nD τ).loc main_arg3) (ix2 j n) := by
  entry_read
  pointwise

theorem v5_0_at (k : Fin 1024) : V m c main_v5 (ix2 0 k) = m ((c : Thread nD τ).loc main_arg4) (ix1 k) := by
  entry_read
  pointwise

theorem v5_1_at (k : Fin 1024) : V m c main_v5 (ix2 1 k) = m ((c : Thread nD τ).loc main_arg5) (ix1 k) := by
  entry_read
  pointwise

/-- The printed index maps over the grid. -/
theorem idx : ∀ t : Fin cfg0.N,
    win0_0.index t = ![t.val / 4, t.val % 4, 0] ∧ win0_1.index t = ![t.val / 4, 0, 0] ∧ win0_2.index t = ![0, 0]
      ∧ win0_3.index t = ![0, 0] ∧ win0_4.index t = ![0, 0] ∧ win0_5.index t = ![t.val / 4, t.val % 4, 0] ∧ t.val < 128 :=
  (by decide +kernel : ∀ t : Fin grid0.N, _)

theorem blk0 (t : Fin cfg0.N) (r : Fin 512) (k : Fin 1024) :
    iblk m c 0 t (ix3 0 r k) = V m c main_arg0 (ix3 ⟨t.val / 4, by have := (idx t).2.2.2.2.2.2; omega⟩ ⟨512 * (t.val % 4) + r.val, by omega⟩ k) := by
  have h := (idx t).2.2.2.2.2.2
  blk_ext [iblk, idx t]

theorem blk1 (t : Fin cfg0.N) (l : Fin 6) (k : Fin 1024) :
    iblk m c 1 t (ix3 0 l k) = V m c main_v0 (ix3 ⟨t.val / 4, by have := (idx t).2.2.2.2.2.2; omega⟩ l k) := by
  have h := (idx t).2.2.2.2.2.2
  blk_ext [iblk, idx t]

theorem blk2 (t : Fin cfg0.N) (k : Fin 1024) (j : Fin 4096) : iblk m c 2 t (ix2 k j) = V m c main_v1 (ix2 k j) := by
  have h := (idx t).2.2.2.2.2.2
  blk_ext [iblk, idx t]

theorem blk3 (t : Fin cfg0.N) (j : Fin 4096) (n : Fin 1024) : iblk m c 3 t (ix2 j n) = V m c main_v2 (ix2 j n) := by
  have h := (idx t).2.2.2.2.2.2
  blk_ext [iblk, idx t]

theorem blk4 (t : Fin cfg0.N) (l : Fin 2) (k : Fin 1024) : iblk m c 4 t (ix2 l k) = V m c main_v5 (ix2 l k) := by
  have h := (idx t).2.2.2.2.2.2
  blk_ext [iblk, idx t]

/-- The array index under a block index of the result. -/
theorem emb5 (t : Fin cfg0.N) (r : Fin 512) (n : Fin 1024) :
    ((cfg0.win 5).blk t).view.emb (ix3 0 r n) = (ix3 ⟨t.val / 4, by have := (idx t).2.2.2.2.2.2; omega⟩ ⟨512 * (t.val % 4) + r.val, by omega⟩ n : S32x2048x1024.Idx) := by
  have h := (idx t).2.2.2.2.2.2
  blk_ext [idx t]

/-- What a grid point stores. -/
theorem point (t : Fin cfg0.N) (r : Fin 512) (n : Fin 1024) :
    out0_5 (iblk m c 0 t) (iblk m c 1 t) (iblk m c 2 t) (iblk m c 3 t) (iblk m c 4 t) (ix3 0 r n)
      = G m c (ix3 ⟨t.val / 4, by have := (idx t).2.2.2.2.2.2; omega⟩ ⟨512 * (t.val % 4) + r.val, by omega⟩ n) := by
  have h := (idx t).2.2.2.2.2.2
  unfold out0_5
  rw [View.canon_unit_zero (S := S1x512x1024) (by funext a; fin_cases a <;> rfl)]
  refine (pay1_at _ _ _ r n).trans ?_
  unfold G
  refine lnorm_congr (fun k => ?_) (fun k => ?_) (fun k => ?_) n
  · refine row_at _ _ _ _ _ _ _ _ _ _ _ _ r k _ _ _ _ _ _ ?_ ?_ ?_ ?_ ?_ ?_ ?_ ?_ ?_ ?_ ?_ ?_
    · intro k; pointwise; exact (congrArg _ (by blk_ext)).trans ((blk0 m c t r k).trans (congrFun (V_main_arg0 m c) _))
    · intro k; pointwise; exact (congrArg _ (by blk_ext)).trans ((blk1 m c t 3 k).trans (v0_at m c _ 3 k))
    · intro k; pointwise; exact (congrArg _ (by blk_ext)).trans ((blk1 m c t 4 k).trans (v0_at m c _ 4 k))
    · intro k; pointwise; exact (congrArg _ (by blk_ext)).trans ((blk1 m c t 5 k).trans (v0_at m c _ 5 k))
    · intro k j; pointwise; exact (congrArg _ (by blk_ext)).trans ((blk2 m c t k ⟨0 * 1024 + j.val, by omega⟩).trans ((v1_at m c k ⟨0 * 1024 + j.val, by omega⟩).trans (congrArg _ (congrArg (ix2 k) (Fin.ext (by simp))))))
    · intro k j; pointwise; exact (congrArg _ (by blk_ext)).trans ((blk2 m c t k ⟨1 * 1024 + j.val, by omega⟩).trans (v1_at m c _ _))
    · intro k j; pointwise; exact (congrArg _ (by blk_ext)).trans ((blk2 m c t k ⟨2 * 1024 + j.val, by omega⟩).trans (v1_at m c _ _))
    · intro k j; pointwise; exact (congrArg _ (by blk_ext)).trans ((blk2 m c t k ⟨3 * 1024 + j.val, by omega⟩).trans (v1_at m c _ _))
    · intro j n; pointwise; exact (congrArg _ (by blk_ext)).trans ((blk3 m c t ⟨0 * 1024 + j.val, by omega⟩ n).trans ((v2_at m c ⟨0 * 1024 + j.val, by omega⟩ n).trans (congrArg _ (congrArg (fun a => ix2 a n) (Fin.ext (by simp))))))
    · intro j n; pointwise; exact (congrArg _ (by blk_ext)).trans ((blk3 m c t ⟨1 * 1024 + j.val, by omega⟩ n).trans (v2_at m c _ _))
    · intro j n; pointwise; exact (congrArg _ (by blk_ext)).trans ((blk3 m c t ⟨2 * 1024 + j.val, by omega⟩ n).trans (v2_at m c _ _))
    · intro j n; pointwise; exact (congrArg _ (by blk_ext)).trans ((blk3 m c t ⟨3 * 1024 + j.val, by omega⟩ n).trans (v2_at m c _ _))
  · pointwise [k0_pay8]; exact (congrArg _ (by blk_ext)).trans ((blk4 m c t 0 k).trans (v5_0_at m c k))
  · pointwise; exact (congrArg _ (by blk_ext)).trans ((blk4 m c t 1 k).trans (v5_1_at m c k))

/-- The result array after the run. -/
theorem final : (dats m 0 c).arrAt 5 (cfgs 0).N = G m c := by
  refine (dats m 0 c).arrAt_eq_of_covers 5 _ (by decide +kernel) fun t _ y => ?_
  blk_simp
  rw [after0_5]
  obtain ⟨r, n, rfl⟩ : ∃ (r : Fin 512) (n : Fin 1024), y = (ix3 0 r n : S1x512x1024.Idx) :=
    ⟨y 1, y 2, by funext a; fin_cases a <;> first | rfl | exact Fin.ext (by have := (y 0).isLt; simp at this ⊢ <;> omega)⟩
  rw [emb5]
  exact point m c t r n

end Cert.Kernel2Ideal.Ffn

end
-- ==== Proof.FfnClaims.lean ====
/- The claims about the feed-forward call. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.FfnRef
public import proofs.«01_k».proof.Proof.FfnOut
public import Idealize.ShloMosaic.Adequacy
public import Idealize.ShloMosaic.Init

@[expose] public section

set_option maxRecDepth 16384

noncomputable section

open Idealize.ShloMosaic Idealize.ShloMosaic.TcCoe Idealize.SL.Sem

namespace Cert.Proof.Ffn

theorem frame_Kernel2 : Cert.quiescent_Kernel2 (hKernel2 := Cert.Kernel2.Gen.facts) := fun m ρ _ => Cert.Kernel2.Gen.frame m ρ

theorem frame_Kernel2Ideal : Cert.quiescent_Kernel2Ideal (hKernel2Ideal := Cert.Kernel2Ideal.Gen.facts) := fun m ρ _ => Cert.Kernel2Ideal.Gen.frame m ρ

theorem frame_Reference2Ideal : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves2 : Cert.preserves_Kernel2_Kernel2Ideal := trivial

/-- The reference's result on the kernel's arguments is the kernel's. -/
theorem value_eq (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v47 (F := Ideal)
        (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))
        (m ((c.tc : Thread Cert.Kernel2Ideal.nD Cert.Kernel2Ideal.τ).loc Cert.Kernel2Ideal.main_arg5))
      = Cert.Kernel2Ideal.Ffn.G m c := by
  funext i
  obtain ⟨b, p, n, rfl⟩ : ∃ (b : Fin 32) (p : Fin 2048) (n : Fin 1024), i = ix3 b p n :=
    ⟨i 0, i 1, i 2, by funext a; fin_cases a <;> rfl⟩
  exact Cert.Reference2Ideal.Ffn.v47_at _ _ _ _ _ _ b p n

/-- The two programs' results are equal. -/
theorem algebraic2 : Cert.algebraic_Kernel2Ideal_Reference2Ideal (hKernel2Ideal := Cert.Kernel2Ideal.Gen.facts)
    (hReference2Ideal := Cert.Reference2Ideal.Gen.facts) := by
  intro m g m' g' _ ha
  refine ⟨fun c => Cert.Kernel2Ideal.Ffn.G m c, ?_, ?_⟩
  · exact (θ_run Cert.Kernel2Ideal.defs _ _).mono (fun r h c => ⟨(h c).1.trans (Cert.Kernel2Ideal.Ffn.final m c), (h c).2⟩)
      (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    obtain ⟨e0, e1, e2, e3, e4, e5⟩ := ha c
    rw [Cert.Reference2Ideal.Read.val_main_v47_eq, e0, e1, e2, e3, e4, e5]
    exact value_eq m c

end Cert.Proof.Ffn

end
-- ==== Proof.MixRow.lean ====
/- The branch-mixing sub-layer's row operations as plain functions, and the two forms of its gate. -/
module

public import proofs.«01_k».proof.Proof.Layer

@[expose] public section

set_option maxRecDepth 16384

noncomputable section

open Idealize.ShloMosaic Idealize.ShloMosaic.TcCoe Idealize.SL.Sem

namespace Cert.Layer

theorem half_val : Ideal.ofBits .f32 0x3F000000#32 = ((1 / 2 : ℝ) : EReal) := by
  simp [Ideal.ofBits, Ideal.ieee, -EReal.coe_mul]; norm_num

/-- The gate's form with a hyperbolic tangent is the logistic function, at the infinities too. -/
theorem gate_eq (z : EReal) :
    Ideal.ofBits .f32 0x3F000000#32 + Ideal.ofBits .f32 0x3F000000#32 * Ideal.tanh (Ideal.ofBits .f32 0x3F000000#32 * z) = Ideal.logistic z := by
  rw [half_val]
  induction z with
  | bot =>
    rw [EReal.coe_mul_bot_of_pos (by norm_num), Ideal.tanh_bot, Ideal.logistic_bot]
    rw [show (-1 : EReal) = ((-1 : ℝ) : EReal) from by norm_num, ← EReal.coe_mul, ← EReal.coe_add]
    norm_num
  | top =>
    rw [EReal.coe_mul_top_of_pos (by norm_num), Ideal.tanh_top, Ideal.logistic_top]
    rw [show (1 : EReal) = ((1 : ℝ) : EReal) from by norm_num, ← EReal.coe_mul, ← EReal.coe_add]
    norm_num
  | coe r =>
    rw [← EReal.coe_mul, Ideal.tanh_coe, ← EReal.coe_mul, ← EReal.coe_add, Ideal.logistic_coe]
    refine congrArg _ ?_
    have e1 : Real.exp (-r) = Real.exp (-(r / 2)) * Real.exp (-(r / 2)) := by rw [← Real.exp_add]; ring_nf
    have e2 : Real.exp (r / 2) * Real.exp (-(r / 2)) = 1 := by rw [← Real.exp_add]; simp
    have p1 := Real.exp_pos (r / 2)
    have p2 := Real.exp_pos (-(r / 2))
    rw [show 1 / 2 * r = r / 2 from by ring, Real.tanh_eq_sinh_div_cosh, Real.sinh_eq, Real.cosh_eq, e1]
    generalize Real.exp (r / 2) = a at *
    generalize Real.exp (-(r / 2)) = b at *
    have h1 : a + b ≠ 0 := by positivity
    have h2 : 1 + b * b ≠ 0 := by positivity
    field_simp
    nlinarith [e2]

/-- A row of 512 numbers times a matrix, at one column. -/
def branch (y : Fin 512 → EReal) (w : Fin 512 → Fin 1024 → EReal) (n : Fin 1024) : EReal := ∑ k : Fin 512, y k * w k n

/-- The two branches, each gated, added. -/
def mixed (ya yb : Fin 512 → EReal) (za zb : Fin 1024 → EReal) (wa wb : Fin 512 → Fin 1024 → EReal) (n : Fin 1024) : EReal :=
  Ideal.logistic (za n) * branch ya wa n + Ideal.logistic (zb n) * branch yb wb n

/-- The mixed row times the output matrix. -/
def outp (u : Fin 1024 → EReal) (w : Fin 1024 → Fin 1024 → EReal) (n : Fin 1024) : EReal := ∑ k : Fin 1024, u k * w k n

end Cert.Layer

end
-- ==== Proof.MixRef.lean ====
/- The reference's branch-mixing sub-layer, entry by entry. -/
module

public import proofs.«01_k».proof.Proof.Gen.Reference3Ideal.Read
public import proofs.«01_k».proof.Proof.MixRow

@[expose] public section

set_option maxRecDepth 16384

noncomputable section

open Idealize.ShloMosaic Idealize.ShloMosaic.TcCoe Idealize.SL.Sem

namespace Cert.Reference3Ideal.Mix

open Cert.Reference3Ideal Cert.Reference3Ideal.Gen Cert.Reference3Ideal.Read Cert.Layer

variable (x0 x1 : (⟨S32x2048x512, .bf16⟩ : BufTy).Contents (Elt Ideal)) (x2 : (⟨S32x2048x2048, .bf16⟩ : BufTy).Contents (Elt Ideal))
  (x3 : (⟨S32x2048x1024, .f32⟩ : BufTy).Contents (Elt Ideal)) (x4 : (⟨S32x6144, .f32⟩ : BufTy).Contents (Elt Ideal))
  (x5 x6 : (⟨S512x1024, .f32⟩ : BufTy).Contents (Elt Ideal)) (x7 : (⟨S1024x1024, .f32⟩ : BufTy).Contents (Elt Ideal))
  (x8 x9 : (⟨S1024, .f32⟩ : BufTy).Contents (Elt Ideal))

theorem v17_at (b : Fin 32) (p : Fin 2048) (n : Fin 1024) :
    val_main_v17 x0 x5 (ix3 b p n) = branch (fun k => x0 (ix3 b p k)) (fun k n => x5 (ix2 k n)) n := by
  unfold val_main_v17 val_main_v16
  pointwise [branch] <;> rfl

theorem v27_at (b : Fin 32) (p : Fin 2048) (n : Fin 1024) :
    val_main_v27 x1 x6 (ix3 b p n) = branch (fun k => x1 (ix3 b p k)) (fun k n => x6 (ix2 k n)) n := by
  unfold val_main_v27 val_main_v26
  pointwise [branch] <;> rfl

theorem v15_at (b : Fin 32) (p : Fin 2048) (n : Fin 1024) :
    val_main_v15 x2 (ix3 b p n) = Ideal.logistic (x2 (ix3 b p ⟨n.val, by omega⟩)) := by
  unfold val_main_v15 val_main_v14 val_main_v13 val_main_v12 val_main_v11 val_main_v10 val_main_v9 val_main_v7 val_main_cst val_main_cst_0
  pointwise [Ideal.logistic] <;> rfl

theorem v25_at (b : Fin 32) (p : Fin 2048) (n : Fin 1024) :
    val_main_v25 x2 (ix3 b p n) = Ideal.logistic (x2 (ix3 b p ⟨1024 + n.val, by omega⟩)) := by
  unfold val_main_v25 val_main_v24 val_main_v23 val_main_v22 val_main_v21 val_main_v20 val_main_v19 val_main_v8 val_main_cst_1 val_main_cst_2
  pointwise [Ideal.logistic] <;> rfl

theorem v29_at (b : Fin 32) (p : Fin 2048) (n : Fin 1024) :
    val_main_v29 x0 x1 x2 x5 x6 (ix3 b p n)
      = mixed (fun k => x0 (ix3 b p k)) (fun k => x1 (ix3 b p k)) (fun n => x2 (ix3 b p ⟨n.val, by omega⟩)) (fun n => x2 (ix3 b p ⟨1024 + n.val, by omega⟩))
          (fun k n => x5 (ix2 k n)) (fun k n => x6 (ix2 k n)) n := by
  unfold val_main_v29 val_main_v28 val_main_v18
  pointwise [mixed, v15_at, v25_at, v17_at, v27_at] <;> rfl

/-- The reference's residual row. -/
def row (b : Fin 32) (p : Fin 2048) : Fin 1024 → EReal :=
  resid (fun k => x3 (ix3 b p k)) (fun k => x4 (ix2 b ⟨2048 + k.val, by omega⟩))
    (outp (mixed (fun k => x0 (ix3 b p k)) (fun k => x1 (ix3 b p k)) (fun n => x2 (ix3 b p ⟨n.val, by omega⟩)) (fun n => x2 (ix3 b p ⟨1024 + n.val, by omega⟩))
          (fun k n => x5 (ix2 k n)) (fun k n => x6 (ix2 k n))) (fun k n => x7 (ix2 k n)))

theorem v37_at (b : Fin 32) (p : Fin 2048) (n : Fin 1024) :
    val_main_v37 x0 x1 x2 x3 x4 x5 x6 x7 (ix3 b p n) = row x0 x1 x2 x3 x4 x5 x6 x7 b p n := by
  unfold val_main_v37 val_main_v36 val_main_v35 val_main_v34 val_main_v33 val_main_v32 val_main_v31 val_main_v30 val_main_v3 val_main_v0 val_main_cst_3 val_main_cst_4
  pointwise [row, resid, outp, v29_at] <;> rfl

theorem v41_at (b : Fin 32) (p : Fin 2048) :
    val_main_v41 x0 x1 x2 x3 x4 x5 x6 x7 (ix3 b p 0) = mean (fun k => val_main_v37 x0 x1 x2 x3 x4 x5 x6 x7 (ix3 b p k)) := by
  unfold val_main_v41 val_main_v40 val_main_v39 val_main_v38 val_main_cst_5 val_main_cst_6
  pointwise [mean] <;> rfl

theorem v48_at (b : Fin 32) (p : Fin 2048) :
    val_main_v48 x0 x1 x2 x3 x4 x5 x6 x7 (ix3 b p 0)
      = mean (fun k => (val_main_v37 x0 x1 x2 x3 x4 x5 x6 x7 (ix3 b p k) - mean (fun k => val_main_v37 x0 x1 x2 x3 x4 x5 x6 x7 (ix3 b p k)))
          * (val_main_v37 x0 x1 x2 x3 x4 x5 x6 x7 (ix3 b p k) - mean (fun k => val_main_v37 x0 x1 x2 x3 x4 x5 x6 x7 (ix3 b p k)))) := by
  unfold val_main_v48 val_main_v47 val_main_v46 val_main_v45 val_main_v44 val_main_v43 val_main_v42 val_main_cst_7 val_main_cst_8
  rw [← v41_at]
  pointwise [mean] <;> rfl

/-- The reference's result is the layer norm of the residual row. -/
theorem v61_at (b : Fin 32) (p : Fin 2048) (n : Fin 1024) :
    val_main_v61 x0 x1 x2 x3 x4 x5 x6 x7 x8 x9 (ix3 b p n)
      = lnorm (row x0 x1 x2 x3 x4 x5 x6 x7 b p) (fun k => x8 (ix1 k)) (fun k => x9 (ix1 k)) n := by
  have e : val_main_v61 x0 x1 x2 x3 x4 x5 x6 x7 x8 x9 (ix3 b p n)
      = lnorm (fun k => val_main_v37 x0 x1 x2 x3 x4 x5 x6 x7 (ix3 b p k)) (fun k => x8 (ix1 k)) (fun k => x9 (ix1 k)) n := by
    unfold lnorm
    rw [← v48_at, ← v41_at]
    unfold val_main_v61 val_main_v60 val_main_v59 val_main_v58 val_main_v57 val_main_v56 val_main_v55 val_main_v54 val_main_v53 val_main_v52 val_main_v51 val_main_v50 val_main_v49 val_main_cst_9
    pointwise <;> rfl
  rw [e]
  exact lnorm_congr (fun k => v37_at x0 x1 x2 x3 x4 x5 x6 x7 b p k) (fun _ => rfl) (fun _ => rfl) n

end Cert.Reference3Ideal.Mix

end
-- ==== Proof.MixKer.lean ====
/- The branch-mixing kernel's block, entry by entry. -/
module

public import proofs.«01_k».proof.Proof.Gen.Kernel3Ideal.Frame
public import Idealize.ShloMosaic.Lib.Pipeline.ValueKit
public import proofs.«01_k».proof.Proof.MixRow

@[expose] public section

set_option maxRecDepth 16384

noncomputable section

open Idealize.ShloMosaic Idealize.ShloMosaic.TcCoe Idealize.SL.Sem
open Idealize.ShloMosaic.Pipeline (Dat)

namespace Cert.Kernel3Ideal.Mix

open Cert.Kernel3Ideal Cert.Kernel3Ideal.Gen Cert.Layer

theorem pay1_at (v71 : FVec Ideal S512x1024 .f32) (r : Fin 512) (n : Fin 1024) : k0_pay1 v71 (ix3 0 r n) = v71 (ix2 r n) := by
  pointwise [k0_pay1] <;> rfl

theorem pay2_at (v0 : Vec Ideal S1x1x1024 .f32) (k : Fin 1024) : k0_pay2 v0 (ix2 0 k) = v0 (ix3 0 0 k) := by
  pointwise [k0_pay2] <;> rfl

theorem pay3_at (v7 : Vec Ideal S1x512x512 .bf16) (v9 : Vec Ideal S512x1024 .bf16) (r : Fin 512) (n : Fin 1024) :
    k0_pay3 v7 v9 (ix2 r n) = branch (fun k => v7 (ix3 0 r k)) (fun k n => v9 (ix2 k n)) n := by
  pointwise [k0_pay3, branch] <;> rfl

theorem pay4_at (v2 : Vec Ideal S1x512x512 .bf16) (v4 : Vec Ideal S512x1024 .bf16) (v12 : Vec Ideal S1x512x1024 .bf16) (r : Fin 512) (n : Fin 1024) :
    k0_pay4 v2 v4 v12 (ix2 r n) = Ideal.logistic (v12 (ix3 0 r n)) * branch (fun k => v2 (ix3 0 r k)) (fun k n => v4 (ix2 k n)) n := by
  rw [← gate_eq]
  pointwise [k0_pay4, branch] <;> rfl

theorem pay5_at (v23 : Vec Ideal S1x512x1024 .bf16) (r : Fin 512) (n : Fin 1024) :
    k0_pay5 v23 (ix2 r n) = Ideal.ofBits .f32 0x3F000000#32 * Ideal.tanh (Ideal.ofBits .f32 0x3F000000#32 * v23 (ix3 0 r n)) := by
  pointwise [k0_pay5] <;> rfl

theorem pay6_at (v1 : FVec Ideal S1x1024 .f32) (v11 v22 v30 : FVec Ideal S512x1024 .f32) (cst : Ideal .f32) (v36 : Vec Ideal S1024x1024 .bf16)
    (v39 : Vec Ideal S1x512x1024 .f32) (v48 v50 : Vec Ideal S1x1024 .f32) (r : Fin 512) (n : Fin 1024) :
    k0_pay6 v1 v11 v22 v30 cst v36 v39 v48 v50 (ix2 r n)
      = lnorm (resid (fun k => v39 (ix3 0 r k)) (fun k => v1 (ix2 0 k))
          (outp (fun k => v22 (ix2 r k) + ((cst : EReal) + v30 (ix2 r k)) * v11 (ix2 r k)) (fun k n => v36 (ix2 k n))))
          (fun k => v48 (ix2 0 k)) (fun k => v50 (ix2 0 k)) n := by
  pointwise [k0_pay6, lnorm, mean, resid, outp] <;> rfl

/-- The stored row over the loaded parts. -/
theorem row_at (g : Vec Ideal S1x1x1024 .f32) (ya yb : Vec Ideal S1x512x512 .bf16) (wa wb : Vec Ideal S512x1024 .bf16) (za zb : Vec Ideal S1x512x1024 .bf16)
    (wo : Vec Ideal S1024x1024 .bf16) (x : Vec Ideal S1x512x1024 .f32) (lg lb : Vec Ideal S1x1024 .f32) (r : Fin 512) (n : Fin 1024) :
    k0_pay1 (k0_pay6 (k0_pay2 g) (k0_pay3 yb wb) (k0_pay4 ya wa za) (k0_pay5 zb) (Scalar.ofBits .f32 0x3F000000#32) wo x lg lb) (ix3 0 r n)
      = lnorm (resid (fun k => x (ix3 0 r k)) (fun k => g (ix3 0 0 k))
          (outp (mixed (fun k => ya (ix3 0 r k)) (fun k => yb (ix3 0 r k)) (fun k => za (ix3 0 r k)) (fun k => zb (ix3 0 r k))
            (fun k n => wa (ix2 k n)) (fun k n => wb (ix2 k n))) (fun k n => wo (ix2 k n))))
          (fun k => lg (ix2 0 k)) (fun k => lb (ix2 0 k)) n := by
  rw [pay1_at, pay6_at]
  have e1 : (fun k => k0_pay2 g (ix2 0 k)) = fun k => g (ix3 0 0 k) := funext fun k => pay2_at g k
  have e2 : (fun k => k0_pay4 ya wa za (ix2 r k) + ((Scalar.ofBits .f32 0x3F000000#32 : Ideal .f32) + k0_pay5 zb (ix2 r k) : EReal) * k0_pay3 yb wb (ix2 r k))
      = mixed (fun k => ya (ix3 0 r k)) (fun k => yb (ix3 0 r k)) (fun k => za (ix3 0 r k)) (fun k => zb (ix3 0 r k))
            (fun k n => wa (ix2 k n)) (fun k n => wb (ix2 k n)) := by
    funext k
    rw [pay4_at, pay5_at, pay3_at]
    unfold mixed
    rw [← gate_eq (zb (ix3 0 r k))]
    rfl
  rw [e1, e2]

end Cert.Kernel3Ideal.Mix

end
-- ==== Proof.MixOut.lean ====
/- The branch-mixing kernel's whole result, entry by entry, in terms of the arrays the call is given. -/
module

public import proofs.«01_k».proof.Proof.MixKer
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Mix

open Cert.Kernel3Ideal Cert.Kernel3Ideal.Gen Cert.Layer

variable (m : (ℓ : Loc nD τ sig) → Buf (Elt Ideal) ℓ) (c : Dev nD)

/-- The call's result: the layer norm of the residual row, over the arguments. -/
def G (i : S32x2048x1024.Idx) : EReal :=
  lnorm (resid (fun k => m ((c : Thread nD τ).loc main_arg3) (ix3 (i 0) (i 1) k)) (fun k => m ((c : Thread nD τ).loc main_arg4) (ix2 (i 0) ⟨2048 + k.val, by omega⟩))
      (outp (mixed (fun k => m ((c : Thread nD τ).loc main_arg0) (ix3 (i 0) (i 1) k)) (fun k => m ((c : Thread nD τ).loc main_arg1) (ix3 (i 0) (i 1) k))
          (fun n => m ((c : Thread nD τ).loc main_arg2) (ix3 (i 0) (i 1) ⟨n.val, by omega⟩)) (fun n => m ((c : Thread nD τ).loc main_arg2) (ix3 (i 0) (i 1) ⟨1024 + n.val, by omega⟩))
          (fun k n => m ((c : Thread nD τ).loc main_arg5) (ix2 k n)) (fun k n => m ((c : Thread nD τ).loc main_arg6) (ix2 k n)))
        (fun k n => m ((c : Thread nD τ).loc main_arg7) (ix2 k n))))
    (fun k => m ((c : Thread nD τ).loc main_arg8) (ix1 k)) (fun k => m ((c : Thread nD τ).loc main_arg9) (ix1 k)) (i 2)

/-- The modulation rows the call stages. -/
theorem v0_at (b : Fin 32) (l : Fin 6) (k : Fin 1024) : V m c main_v0 (ix3 b l k) = m ((c : Thread nD τ).loc main_arg4) (ix2 b ⟨l.val * 1024 + k.val, by omega⟩) := by
  entry_read
  pointwise

theorem v1_at (k : Fin 512) (j : Fin 1024) : V m c main_v1 (ix2 k j) = m ((c : Thread nD τ).loc main_arg5) (ix2 k j) := by
  entry_read
  pointwise

theorem v2_at (k : Fin 512) (j : Fin 1024) : V m c main_v2 (ix2 k j) = m ((c : Thread nD τ).loc main_arg6) (ix2 k j) := by
  entry_read
  pointwise

theorem v3_at (k : Fin 1024) (j : Fin 1024) : V m c main_v3 (ix2 k j) = m ((c : Thread nD τ).loc main_arg7) (ix2 k j) := by
  entry_read
  pointwise

theorem v6_0_at (k : Fin 1024) : V m c main_v6 (ix2 0 k) = m ((c : Thread nD τ).loc main_arg8) (ix1 k) := by
  entry_read
  pointwise

theorem v6_1_at (k : Fin 1024) : V m c main_v6 (ix2 1 k) = m ((c : Thread nD τ).loc main_arg9) (ix1 k) := by
  entry_read
  pointwise

/-- The printed index maps over the grid. -/
theorem idx : ∀ t : Fin cfg0.N,
    win0_0.index t = ![t.val / 4, t.val % 4, 0] ∧ win0_1.index t = ![t.val / 4, t.val % 4, 0] ∧ win0_2.index t = ![t.val / 4, t.val % 4, 0]
      ∧ win0_3.index t = ![t.val / 4, t.val % 4, 1] ∧ win0_4.index t = ![t.val / 4, t.val % 4, 0] ∧ win0_5.index t = ![t.val / 4, 0, 0]
      ∧ win0_6.index t = ![0, 0] ∧ win0_7.index t = ![0, 0] ∧ win0_8.index t = ![0, 0] ∧ win0_9.index t = ![0, 0]
      ∧ win0_10.index t = ![t.val / 4, t.val % 4, 0] ∧ t.val < 128 :=
  (by decide +kernel : ∀ t : Fin grid0.N, _)

theorem lt (t : Fin cfg0.N) : t.val < 128 := (idx t).2.2.2.2.2.2.2.2.2.2.2

theorem blk0 (t : Fin cfg0.N) (r : Fin 512) (k : Fin 512) :
    iblk m c 0 t (ix3 0 r k) = V m c main_arg0 (ix3 ⟨t.val / 4, by have := lt t; omega⟩ ⟨512 * (t.val % 4) + r.val, by omega⟩ k) := by
  have h := lt t
  blk_ext [iblk, idx t]

theorem blk1 (t : Fin cfg0.N) (r : Fin 512) (k : Fin 512) :
    iblk m c 1 t (ix3 0 r k) = V m c main_arg1 (ix3 ⟨t.val / 4, by have := lt t; omega⟩ ⟨512 * (t.val % 4) + r.val, by omega⟩ k) := by
  have h := lt t
  blk_ext [iblk, idx t]

theorem blk2 (t : Fin cfg0.N) (r : Fin 512) (k : Fin 1024) :
    iblk m c 2 t (ix3 0 r k) = V m c main_arg2 (ix3 ⟨t.val / 4, by have := lt t; omega⟩ ⟨512 * (t.val % 4) + r.val, by omega⟩ ⟨k.val, by omega⟩) := by
  have h := lt t
  blk_ext [iblk, idx t]

theorem blk3 (t : Fin cfg0.N) (r : Fin 512) (k : Fin 1024) :
    iblk m c 3 t (ix3 0 r k) = V m c main_arg2 (ix3 ⟨t.val / 4, by have := lt t; omega⟩ ⟨512 * (t.val % 4) + r.val, by omega⟩ ⟨1024 + k.val, by omega⟩) := by
  have h := lt t
  blk_ext [iblk, idx t]

theorem blk4 (t : Fin cfg0.N) (r : Fin 512) (k : Fin 1024) :
    iblk m c 4 t (ix3 0 r k) = V m c main_arg3 (ix3 ⟨t.val / 4, by have := lt t; omega⟩ ⟨512 * (t.val % 4) + r.val, by omega⟩ k) := by
  have h := lt t
  blk_ext [iblk, idx t]

theorem blk5 (t : Fin cfg0.N) (l : Fin 6) (k : Fin 1024) :
    iblk m c 5 t (ix3 0 l k) = V m c main_v0 (ix3 ⟨t.val / 4, by have := lt t; omega⟩ l k) := by
  have h := lt t
  blk_ext [iblk, idx t]

theorem blk6 (t : Fin cfg0.N) (k : Fin 512) (j : Fin 1024) : iblk m c 6 t (ix2 k j) = V m c main_v1 (ix2 k j) := by
  have h := lt t
  blk_ext [iblk, idx t]

theorem blk7 (t : Fin cfg0.N) (k : Fin 512) (j : Fin 1024) : iblk m c 7 t (ix2 k j) = V m c main_v2 (ix2 k j) := by
  have h := lt t
  blk_ext [iblk, idx t]

theorem blk8 (t : Fin cfg0.N) (k : Fin 1024) (j : Fin 1024) : iblk m c 8 t (ix2 k j) = V m c main_v3 (ix2 k j) := by
  have h := lt t
  blk_ext [iblk, idx t]

theorem blk9 (t : Fin cfg0.N) (l : Fin 2) (k : Fin 1024) : iblk m c 9 t (ix2 l k) = V m c main_v6 (ix2 l k) := by
  have h := lt t
  blk_ext [iblk, idx t]

/-- The array index under a block index of the result. -/
theorem emb10 (t : Fin cfg0.N) (r : Fin 512) (n : Fin 1024) :
    ((cfg0.win 10).blk t).view.emb (ix3 0 r n) = (ix3 ⟨t.val / 4, by have := lt t; omega⟩ ⟨512 * (t.val % 4) + r.val, by omega⟩ n : S32x2048x1024.Idx) := by
  have h := lt t
  blk_ext [idx t]

/-- What a grid point stores. -/
theorem point (t : Fin cfg0.N) (r : Fin 512) (n : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix3 0 r n)
      = G m c (ix3 ⟨t.val / 4, by have := lt t; omega⟩ ⟨512 * (t.val % 4) + r.val, by omega⟩ n) := by
  have h := lt t
  unfold out0_10
  rw [View.canon_unit_zero (S := S1x512x1024) (by funext a; fin_cases a <;> rfl)]
  refine (row_at _ _ _ _ _ _ _ _ _ _ _ r n).trans ?_
  unfold G
  refine lnorm_congr (fun k => ?_) (fun k => ?_) (fun k => ?_) n
  · refine congrFun (congr (congrArg₂ resid (funext fun k => ?_) (funext fun k => ?_)) (congrArg₂ outp ?_ (funext fun k => funext fun j => ?_))) k
    · pointwise; exact (congrArg _ (by blk_ext)).trans ((blk4 m c t r k).trans (congrFun (V_main_arg3 m c) _))
    · pointwise; exact (congrArg _ (by blk_ext)).trans ((blk5 m c t 2 k).trans (v0_at m c _ 2 k))
    · refine congr (congr (congr (congr (congrArg₂ mixed (funext fun k => ?_) (funext fun k => ?_)) (funext fun k => ?_)) (funext fun k => ?_)) (funext fun k => funext fun j => ?_)) (funext fun k => funext fun j => ?_)
      · pointwise; exact (congrArg _ (by blk_ext)).trans ((blk0 m c t r k).trans (congrFun (V_main_arg0 m c) _))
      · pointwise; exact (congrArg _ (by blk_ext)).trans ((blk1 m c t r k).trans (congrFun (V_main_arg1 m c) _))
      · pointwise; exact (congrArg _ (by blk_ext)).trans ((blk2 m c t r k).trans (congrFun (V_main_arg2 m c) _))
      · pointwise; exact (congrArg _ (by blk_ext)).trans ((blk3 m c t r k).trans (congrFun (V_main_arg2 m c) _))
      · pointwise; exact (congrArg _ (by blk_ext)).trans ((blk6 m c t k j).trans (v1_at m c k j))
      · pointwise; exact (congrArg _ (by blk_ext)).trans ((blk7 m c t k j).trans (v2_at m c k j))
    · pointwise; exact (congrArg _ (by blk_ext)).trans ((blk8 m c t k j).trans (v3_at m c k j))
  · pointwise; exact (congrArg _ (by blk_ext)).trans ((blk9 m c t 0 k).trans (v6_0_at m c k))
  · pointwise; exact (congrArg _ (by blk_ext)).trans ((blk9 m c t 1 k).trans (v6_1_at m c k))

/-- The result array after the run. -/
theorem final : (dats m 0 c).arrAt 10 (cfgs 0).N = G m c := by
  refine (dats m 0 c).arrAt_eq_of_covers 10 _ (by decide +kernel) fun t _ y => ?_
  blk_simp
  rw [after0_10]
  obtain ⟨r, n, rfl⟩ : ∃ (r : Fin 512) (n : Fin 1024), y = (ix3 0 r n : S1x512x1024.Idx) :=
    ⟨y 1, y 2, by funext a; fin_cases a <;> first | rfl | exact Fin.ext (by have := (y 0).isLt; simp at this ⊢ <;> omega)⟩
  rw [emb10]
  exact point m c t r n

end Cert.Kernel3Ideal.Mix

end
-- ==== Proof.MixClaims.lean ====
/- The claims about the branch-mixing call. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.MixRef
public import proofs.«01_k».proof.Proof.MixOut
public import Idealize.ShloMosaic.Adequacy
public import Idealize.ShloMosaic.Init

@[expose] public section

set_option maxRecDepth 16384

noncomputable section

open Idealize.ShloMosaic Idealize.ShloMosaic.TcCoe Idealize.SL.Sem

namespace Cert.Proof.Mix

theorem frame_Kernel3 : Cert.quiescent_Kernel3 (hKernel3 := Cert.Kernel3.Gen.facts) := fun m ρ _ => Cert.Kernel3.Gen.frame m ρ

theorem frame_Kernel3Ideal : Cert.quiescent_Kernel3Ideal (hKernel3Ideal := Cert.Kernel3Ideal.Gen.facts) := fun m ρ _ => Cert.Kernel3Ideal.Gen.frame m ρ

theorem frame_Reference3Ideal : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves3 : Cert.preserves_Kernel3_Kernel3Ideal := trivial

/-- The reference's result on the kernel's arguments is the kernel's. -/
theorem value_eq (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v61 (F := Ideal)
        (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
        (m ((c.tc : Thread Cert.Kernel3Ideal.nD Cert.Kernel3Ideal.τ).loc Cert.Kernel3Ideal.main_arg4))
        (m ((c.tc : Thread Cert.Kernel3Ideal.nD Cert.Kernel3Ideal.τ).loc Cert.Kernel3Ideal.main_arg5))
        (m ((c.tc : Thread Cert.Kernel3Ideal.nD Cert.Kernel3Ideal.τ).loc Cert.Kernel3Ideal.main_arg6))
        (m ((c.tc : Thread Cert.Kernel3Ideal.nD Cert.Kernel3Ideal.τ).loc Cert.Kernel3Ideal.main_arg7))
        (m ((c.tc : Thread Cert.Kernel3Ideal.nD Cert.Kernel3Ideal.τ).loc Cert.Kernel3Ideal.main_arg8))
        (m ((c.tc : Thread Cert.Kernel3Ideal.nD Cert.Kernel3Ideal.τ).loc Cert.Kernel3Ideal.main_arg9))
      = Cert.Kernel3Ideal.Mix.G m c := by
  funext i
  obtain ⟨b, p, n, rfl⟩ : ∃ (b : Fin 32) (p : Fin 2048) (n : Fin 1024), i = ix3 b p n :=
    ⟨i 0, i 1, i 2, by funext a; fin_cases a <;> rfl⟩
  exact Cert.Reference3Ideal.Mix.v61_at _ _ _ _ _ _ _ _ _ _ b p n

/-- The two programs' results are equal. -/
theorem algebraic3 : Cert.algebraic_Kernel3Ideal_Reference3Ideal (hKernel3Ideal := Cert.Kernel3Ideal.Gen.facts)
    (hReference3Ideal := Cert.Reference3Ideal.Gen.facts) := by
  intro m g m' g' _ ha
  refine ⟨fun c => Cert.Kernel3Ideal.Mix.G m c, ?_, ?_⟩
  · exact (θ_run Cert.Kernel3Ideal.defs _ _).mono (fun r h c => ⟨(h c).1.trans (Cert.Kernel3Ideal.Mix.final m c), (h c).2⟩)
      (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    obtain ⟨e0, e1, e2, e3, e4, e5, e6, e7, e8, e9⟩ := ha c
    rw [Cert.Reference3Ideal.Read.val_main_v61_eq, e0, e1, e2, e3, e4, e5, e6, e7, e8, e9]
    exact value_eq m c

end Cert.Proof.Mix

end
-- ==== Proof.InprojRow.lean ====
/- The input projection's row operations as plain functions: the layout of the keys-and-values stream and the three-row
   weighting. -/
module

public import proofs.«01_k».proof.Proof.Layer
public import proofs.«01_k».proof.Proof.Math

@[expose] public section

set_option maxRecDepth 16384

noncomputable section

open Idealize.ShloMosaic Idealize.ShloMosaic.TcCoe Idealize.SL.Sem

namespace Cert.Layer

/-- Thirty-two lanes set at lane 64 of 128, zeros around them. -/
def padded (f : Fin 32 → EReal) (k : Fin 128) : EReal :=
  if e : 64 ≤ k.val ∧ k.val < 96 then f ⟨k.val - 64, by omega⟩ else 0

/-- The quarter turn of thirty-two lanes: the second half negated, then the first half. -/
def turn (f : Fin 32 → EReal) (k : Fin 32) : EReal :=
  if e : k.val < 16 then -f ⟨k.val + 16, by omega⟩ else f ⟨k.val - 16, by omega⟩

/-- The keys-and-values stream from a projected row: the latent lanes, the rotary key and its quarter turn. -/
def kv (s : Fin 4640 → EReal) (k : Fin 512) : EReal :=
  if e : k.val < 256 then s ⟨2304 + k.val, by omega⟩
  else if e : k.val < 384 then padded (fun j => s ⟨2560 + j.val, by omega⟩) ⟨k.val - 256, by omega⟩
  else padded (turn fun j => s ⟨2560 + j.val, by omega⟩) ⟨k.val - 384, by omega⟩

/-- The row before, zero before the first. -/
def before (z : Fin 2048 → EReal) (p : Fin 2048) : EReal := if e : 0 < p.val then z ⟨p.val - 1, by omega⟩ else 0

/-- The row after, zero after the last. -/
def after (z : Fin 2048 → EReal) (p : Fin 2048) : EReal := if e : p.val < 2047 then z ⟨p.val + 1, by omega⟩ else 0

/-- A weighted sum of a row's neighbours and itself. -/
def conv3 (w : Fin 3 → EReal) (z : Fin 2048 → EReal) (p : Fin 2048) : EReal :=
  w 0 * before z p + w 1 * z p + w 2 * after z p

/-- Of real numbers, negating the second factors negates the sum. -/
theorem sum_mul_neg (h w : Fin 1024 → EReal) (hh : ∀ k, IsR (h k)) (hw : ∀ k, IsR (w k)) :
    ∑ k, h k * -w k = -∑ k, h k * w k := by
  choose a ha using hh
  choose b hb using hw
  have e1 : ∀ k, h k * -w k = ((-(a k * b k) : ℝ) : EReal) := fun k => by
    rw [ha, hb, ← EReal.coe_neg, ← EReal.coe_mul, mul_neg]
  have e2 : ∀ k, h k * w k = ((a k * b k : ℝ) : EReal) := fun k => by rw [ha, hb, ← EReal.coe_mul]
  rw [Finset.sum_congr rfl fun k _ => e1 k, Finset.sum_congr rfl fun k _ => e2 k, coe_sum, coe_sum, ← EReal.coe_neg, Finset.sum_neg_distrib]

/-- Laying out the weights' columns and projecting gives the layout of the projected row. -/
theorem modDot_kv (x shift scale : Fin 1024 → EReal) (w : Fin 1024 → Fin 4640 → EReal) (j : Fin 512)
    (hx : ∀ k, IsR (x k)) (hs : ∀ k, IsR (shift k)) (hc : ∀ k, IsR (scale k)) (hw : ∀ k (j : Fin 16), IsR (w k ⟨2576 + j.val, by omega⟩)) :
    modDot x shift scale (fun k => kv (w k)) j = kv (modDot x shift scale w) j := by
  unfold modDot
  have h1 : IsR (1 : EReal) := ⟨1, EReal.coe_one.symm⟩
  unfold kv padded turn
  by_cases e0 : j.val < 256
  · simp only [dif_pos e0]
  by_cases e1 : j.val < 384
  · simp only [dif_neg e0, dif_pos e1]
    by_cases e2 : 64 ≤ j.val - 256 ∧ j.val - 256 < 96
    · simp only [dif_pos e2]
    · simp only [dif_neg e2, mul_zero, Finset.sum_const_zero]
  · simp only [dif_neg e0, dif_neg e1]
    by_cases e2 : 64 ≤ j.val - 384 ∧ j.val - 384 < 96
    · simp only [dif_pos e2]
      by_cases e3 : j.val - 384 - 64 < 16
      · simp only [dif_pos e3]
        refine sum_mul_neg _ _ (fun k => ((hx k).mul (h1.add (hc k))).add (hs k)) fun k => ?_
        have := hw k ⟨j.val - 384 - 64, e3⟩
        have e : (⟨2560 + (j.val - 384 - 64 + 16), by omega⟩ : Fin 4640) = ⟨2576 + (j.val - 384 - 64), by omega⟩ := Fin.ext (by simp only; omega)
        rw [e]
        exact this
      · simp only [dif_neg e3]
    · simp only [dif_neg e2, mul_zero, Finset.sum_const_zero]

end Cert.Layer

end
-- ==== Proof.InprojRef.lean ====
/- The reference's input projection, entry by entry. -/
module

public import proofs.«01_k».proof.Proof.Gen.Reference4Ideal.Read
public import proofs.«01_k».proof.Proof.InprojRow

@[expose] public section

set_option maxRecDepth 16384

noncomputable section

open Idealize.ShloMosaic Idealize.ShloMosaic.TcCoe Idealize.SL.Sem

namespace Cert.Reference4Ideal.Inproj

open Cert.Reference4Ideal Cert.Reference4Ideal.Gen Cert.Reference4Ideal.Read Cert.Layer

variable (x0 : (⟨S32x2048x1024, .f32⟩ : BufTy).Contents (Elt Ideal)) (x1 : (⟨S32x6144, .f32⟩ : BufTy).Contents (Elt Ideal))
  (x2 : (⟨S1024x4640, .f32⟩ : BufTy).Contents (Elt Ideal)) (x3 : (⟨S3x1920, .f32⟩ : BufTy).Contents (Elt Ideal))

/-- A projected row: the modulated row times the projection. -/
def proj (b : Fin 32) (p : Fin 2048) (j : Fin 4640) : EReal :=
  modDot (fun k => x0 (ix3 b p k)) (fun k => x1 (ix2 b ⟨k.val, by omega⟩)) (fun k => x1 (ix2 b ⟨1024 + k.val, by omega⟩)) (fun k j => x2 (ix2 k j)) j

theorem v13_at (b : Fin 32) (p : Fin 2048) (j : Fin 4640) : val_main_v13 x0 x1 x2 (ix3 b p j) = proj x0 x1 x2 b p j := by
  unfold val_main_v13 val_main_v12 val_main_v11 val_main_v10 val_main_v9 val_main_v8 val_main_v7 val_main_v2 val_main_v1 val_main_v0 val_main_cst
  pointwise [proj, modDot] <;> rfl

theorem v14_at (b : Fin 32) (p : Fin 2048) (j : Fin 1920) : val_main_v14 x0 x1 x2 (ix3 b p j) = proj x0 x1 x2 b p ⟨j.val, by omega⟩ := by
  unfold val_main_v14
  pointwise [v13_at] <;> rfl

theorem v15_at (b : Fin 32) (p : Fin 2048) (j : Fin 384) : val_main_v15 x0 x1 x2 (ix3 b p j) = proj x0 x1 x2 b p ⟨1920 + j.val, by omega⟩ := by
  unfold val_main_v15
  pointwise [v13_at] <;> rfl

theorem v16_at (b : Fin 32) (p : Fin 2048) (j : Fin 256) : val_main_v16 x0 x1 x2 (ix3 b p j) = proj x0 x1 x2 b p ⟨2304 + j.val, by omega⟩ := by
  unfold val_main_v16
  pointwise [v13_at] <;> rfl

theorem v17_at (b : Fin 32) (p : Fin 2048) (j : Fin 32) : val_main_v17 x0 x1 x2 (ix3 b p j) = proj x0 x1 x2 b p ⟨2560 + j.val, by omega⟩ := by
  unfold val_main_v17
  pointwise [v13_at] <;> rfl

theorem v18_at (b : Fin 32) (p : Fin 2048) (j : Fin 2048) : val_main_v18 x0 x1 x2 (ix3 b p j) = proj x0 x1 x2 b p ⟨2592 + j.val, by omega⟩ := by
  unfold val_main_v18
  pointwise [v13_at] <;> rfl

theorem v24_at (b : Fin 32) (p : Fin 2048) (j : Fin 32) : val_main_v24 x0 x1 x2 (ix3 b p j) = turn (fun j => proj x0 x1 x2 b p ⟨2560 + j.val, by omega⟩) j := by
  unfold val_main_v24 val_main_v23 val_main_v22 val_main_v21
  pointwise [v17_at, turn]
  split
  · refine congrArg (fun a : EReal => -a) (congrArg _ (Fin.ext ?_)); simp only; omega
  · rfl

theorem v19_at (b : Fin 32) (p : Fin 2048) (j : Fin 64) : val_main_v19 (F := Ideal) (ix3 b p j) = (0 : EReal) := by
  unfold val_main_v19 val_main_cst_0
  pointwise

theorem v20_at (b : Fin 32) (p : Fin 2048) (j : Fin 32) : val_main_v20 (F := Ideal) (ix3 b p j) = (0 : EReal) := by
  unfold val_main_v20 val_main_cst_1
  pointwise

theorem v25_at (b : Fin 32) (p : Fin 2048) (j : Fin 512) : val_main_v25 x0 x1 x2 (ix3 b p j) = kv (proj x0 x1 x2 b p) j := by
  unfold val_main_v25
  pointwise
  simp only [v16_at, v17_at, v19_at, v20_at, v24_at]
  unfold kv padded
  repeat' split
  all_goals first | rfl | (exfalso; simp only at *; omega) | (refine congrArg _ (Fin.ext ?_); simp only; omega)

theorem v26_at (b : Fin 32) (p : Fin 2050) (j : Fin 1920) :
    val_main_v26 x0 x1 x2 (ix3 b p j) = if e : 0 < p.val ∧ p.val < 2049 then proj x0 x1 x2 b ⟨p.val - 1, by omega⟩ ⟨j.val, by omega⟩ else 0 := by
  unfold val_main_v26 val_main_call0_v0 val_main_c
  pointwise
  have z : (FloatOps.sitofp (F := Ideal) FTy.f32 (0#32) : EReal) = 0 := by
    show (((0#32 : BitVec 32).toInt : ℝ) : EReal) = 0
    simp
  simp only [z, v14_at]
  by_cases e : 0 < p.val ∧ p.val < 2049
  · rw [dif_pos e, dif_pos (by omega)]
  · rw [dif_neg e, dif_neg (by omega)]

theorem v29_at (b : Fin 32) (p : Fin 2048) (j : Fin 1920) :
    val_main_v29 x0 x1 x2 (ix3 b p j) = before (fun p => proj x0 x1 x2 b p ⟨j.val, by omega⟩) p := by
  have e : val_main_v29 x0 x1 x2 (ix3 b p j) = val_main_v26 x0 x1 x2 (ix3 b ⟨p.val, by omega⟩ j) := by
    unfold val_main_v29
    pointwise <;> rfl
  rw [e, v26_at]
  unfold before
  by_cases h : 0 < p.val
  · rw [dif_pos h, dif_pos (by simp only; omega)]
  · rw [dif_neg h, dif_neg (by simp only; omega)]

theorem v35_at (b : Fin 32) (p : Fin 2048) (j : Fin 1920) :
    val_main_v35 x0 x1 x2 (ix3 b p j) = proj x0 x1 x2 b p ⟨j.val, by omega⟩ := by
  have e : val_main_v35 x0 x1 x2 (ix3 b p j) = val_main_v26 x0 x1 x2 (ix3 b ⟨1 + p.val, by omega⟩ j) := by
    unfold val_main_v35
    pointwise <;> rfl
  rw [e, v26_at, dif_pos (by simp only; omega)]
  exact congrArg (fun q => proj x0 x1 x2 b q ⟨j.val, by omega⟩) (Fin.ext (by simp only; omega))

theorem v42_at (b : Fin 32) (p : Fin 2048) (j : Fin 1920) :
    val_main_v42 x0 x1 x2 (ix3 b p j) = after (fun p => proj x0 x1 x2 b p ⟨j.val, by omega⟩) p := by
  have e : val_main_v42 x0 x1 x2 (ix3 b p j) = val_main_v26 x0 x1 x2 (ix3 b ⟨2 + p.val, by omega⟩ j) := by
    unfold val_main_v42
    pointwise <;> rfl
  rw [e, v26_at]
  unfold after
  by_cases h : p.val < 2047
  · rw [dif_pos h, dif_pos (by simp only; omega)]
    exact congrArg (fun q => proj x0 x1 x2 b q ⟨j.val, by omega⟩) (Fin.ext (by simp only; omega))
  · rw [dif_neg h, dif_neg (by simp only; omega)]

/-- The first result: the weighted sum of each row with its neighbours. -/
theorem v47_at (b : Fin 32) (p : Fin 2048) (j : Fin 1920) :
    val_main_v47 x0 x1 x2 x3 (ix3 b p j) = conv3 (fun l => x3 (ix2 l j)) (fun p => proj x0 x1 x2 b p ⟨j.val, by omega⟩) p := by
  unfold val_main_v47 val_main_v46 val_main_v45 val_main_v44 val_main_v43 val_main_v41 val_main_v40 val_main_v39 val_main_v38 val_main_v37 val_main_v36 val_main_v34 val_main_v33 val_main_v32 val_main_v31 val_main_v30 val_main_v28 val_main_v27
  pointwise [conv3, v29_at, v35_at, v42_at] <;> rfl

/-- The second result: the keys-and-values stream. -/
theorem v48_at (b : Fin 32) (p : Fin 2048) (j : Fin 512) : val_main_v48 x0 x1 x2 (ix3 b p j) = kv (proj x0 x1 x2 b p) j := by
  unfold val_main_v48
  pointwise [v25_at] <;> rfl

/-- The third result: the query latents. -/
theorem v49_at (b : Fin 32) (p : Fin 2048) (j : Fin 384) : val_main_v49 x0 x1 x2 (ix3 b p j) = proj x0 x1 x2 b p ⟨1920 + j.val, by omega⟩ := by
  unfold val_main_v49
  pointwise [v15_at] <;> rfl

/-- The fourth result: the gate. -/
theorem v50_at (b : Fin 32) (p : Fin 2048) (j : Fin 2048) : val_main_v50 x0 x1 x2 (ix3 b p j) = proj x0 x1 x2 b p ⟨2592 + j.val, by omega⟩ := by
  unfold val_main_v50
  pointwise [v18_at] <;> rfl

end Cert.Reference4Ideal.Inproj

end
-- ==== Proof.InprojKer.lean ====
/- The input projection kernel's block, entry by entry. -/
module

public import proofs.«01_k».proof.Proof.Gen.Kernel4Ideal.Frame
public import Idealize.ShloMosaic.Lib.Pipeline.ValueKit
public import proofs.«01_k».proof.Proof.InprojRow

@[expose] public section

set_option maxRecDepth 16384

noncomputable section

open Idealize.ShloMosaic Idealize.ShloMosaic.TcCoe Idealize.SL.Sem
open Idealize.ShloMosaic.Pipeline (Dat)

namespace Cert.Kernel4Ideal.Inproj

open Cert.Kernel4Ideal Cert.Kernel4Ideal.Gen Cert.Layer

theorem pay4_at (v0 v2 : Vec Ideal S1x1x1024 .f32) (v4 : Vec Ideal S1x512x1024 .f32) (r : Fin 512) (k : Fin 1024) :
    k0_pay4 v0 v2 v4 (ix2 r k) = (v4 (ix3 0 r k) : EReal) * (1 + v2 (ix3 0 0 k)) + v0 (ix3 0 0 k) := by
  pointwise [k0_pay4, k0_pay3, k0_pay2] <;> rfl

theorem pay5_at (v0 v2 : Vec Ideal S1x1x1024 .f32) (v4 : Vec Ideal S1x512x1024 .f32) (w : Vec Ideal S1024x512 .bf16) (r : Fin 512) (j : Fin 512) :
    k0_pay5 v0 v2 v4 w (ix3 0 r j)
      = modDot (fun k => v4 (ix3 0 r k)) (fun k => v0 (ix3 0 0 k)) (fun k => v2 (ix3 0 0 k)) (fun k j => w (ix2 k j)) j := by
  pointwise [k0_pay5, pay4_at, modDot] <;> rfl

theorem pay6_at (v0 v2 : Vec Ideal S1x1x1024 .f32) (v4 : Vec Ideal S1x512x1024 .f32) (w : Vec Ideal S1024x384 .bf16) (r : Fin 512) (j : Fin 384) :
    k0_pay6 v0 v2 v4 w (ix3 0 r j)
      = modDot (fun k => v4 (ix3 0 r k)) (fun k => v0 (ix3 0 0 k)) (fun k => v2 (ix3 0 0 k)) (fun k j => w (ix2 k j)) j := by
  pointwise [k0_pay6, pay4_at, modDot] <;> rfl

theorem pay8_at (v0 v2 : Vec Ideal S1x1x1024 .f32) (v4 : Vec Ideal S1x512x1024 .f32) (w : Vec Ideal S1024x2048 .bf16) (r : Fin 512) (j : Fin 2048) :
    k0_pay8 (k0_pay7 v0 v2 v4 w) (ix3 0 r j)
      = modDot (fun k => v4 (ix3 0 r k)) (fun k => v0 (ix3 0 0 k)) (fun k => v2 (ix3 0 0 k)) (fun k j => w (ix2 k j)) j := by
  pointwise [k0_pay8, k0_pay7, pay4_at, modDot] <;> rfl

theorem pay9_at (v0 v2 : Vec Ideal S1x1x1024 .f32) (v4 : Vec Ideal S1x512x1024 .f32) (w : Vec Ideal S1024x1920 .bf16) (r : Fin 512) (j : Fin 1920) :
    k0_pay9 (k0_pay4 v0 v2 v4) w (ix2 r j)
      = modDot (fun k => v4 (ix3 0 r k)) (fun k => v0 (ix3 0 0 k)) (fun k => v2 (ix3 0 0 k)) (fun k j => w (ix2 k j)) j := by
  pointwise [k0_pay9, pay4_at, modDot] <;> rfl

theorem sel1 {α : Type} (x y : α) : Scalar.select (1#1) x y = x := rfl
theorem sel0 {α : Type} (x y : α) : Scalar.select (0#1) x y = y := rfl

theorem flag_sgt : ∀ i : Fin 4, Scalar.cmpi .sgt (BitVec.ofNat 32 i.val) 0#32 = if 0 < i.val then 1#1 else 0#1 := by decide +kernel
theorem flag_slt : ∀ i : Fin 4, Scalar.cmpi .slt (BitVec.ofNat 32 i.val) 3#32 = if i.val < 3 then 1#1 else 0#1 := by decide +kernel
theorem flag_first : ∀ r : Fin 512, IntOp.cmpi .eq (BitVec.ofNat 32 r.val) 0#32 = if 0 < r.val then 0#1 else 1#1 := by decide +kernel
theorem flag_last : ∀ r : Fin 512, IntOp.cmpi .eq (BitVec.ofNat 32 r.val) 511#32 = if r.val < 511 then 0#1 else 1#1 := by decide +kernel

/-- The projected row above the tile, zero for the first tile. -/
theorem pay11_at (i : Fin 4) (v0 v2 : Vec Ideal S1x1x1024 .f32) (u v : Vec Ideal S1x8x1024 .f32) (w : Vec Ideal S1024x1920 .bf16) (j : Fin 1920) :
    k0_pay11 (BitVec.ofNat 32 i.val) (k0_pay2 v0) (k0_pay3 v2) u v w (ix2 0 j)
      = if 0 < i.val then modDot (fun k => u (ix3 0 7 k)) (fun k => v0 (ix3 0 0 k)) (fun k => v2 (ix3 0 0 k)) (fun k j => w (ix2 k j)) j else 0 := by
  pointwise [k0_pay11, k0_pay10, k0_pay2, k0_pay3, modDot]
  rw [flag_sgt]
  by_cases e : 0 < i.val
  · rw [if_pos e, if_pos e, sel1]
  · rw [if_neg e, if_neg e, sel0]

/-- The projected row below the tile, zero for the last tile. -/
theorem pay12_at (i : Fin 4) (v0 v2 : Vec Ideal S1x1x1024 .f32) (u v : Vec Ideal S1x8x1024 .f32) (w : Vec Ideal S1024x1920 .bf16) (j : Fin 1920) :
    k0_pay12 (BitVec.ofNat 32 i.val) (k0_pay2 v0) (k0_pay3 v2) u v w (ix2 0 j)
      = if i.val < 3 then modDot (fun k => v (ix3 0 0 k)) (fun k => v0 (ix3 0 0 k)) (fun k => v2 (ix3 0 0 k)) (fun k j => w (ix2 k j)) j else 0 := by
  pointwise [k0_pay12, k0_pay10, k0_pay2, k0_pay3, modDot]
  rw [flag_slt]
  by_cases e : i.val < 3
  · rw [if_pos e, if_pos e, sel1]
  · rw [if_neg e, if_neg e, sel0]

/-- The stored row: the weighted sum of the tile's rows r-1, r and r+1, with the given rows past the tile's ends. -/
theorem pay1_at (z : FVec Ideal S512x1920 .f32) (h : FVec Ideal S512x1024 .bf16) (w : Vec Ideal S1024x1920 .bf16) (hz : k0_pay9 h w = z)
    (u v : FVec Ideal S1x1920 .f32) (w0 w1 w2 : Vec Ideal S1x1920 .f32) (r : Fin 512) (j : Fin 1920) :
    k0_pay1 z u v (iota .tc S512x1 32 [0] iota_S512x1_d0_w32) k0_pay13 (k0_pay14 h w) w0 w1 w2 (ix3 0 r j)
      = (w0 (ix2 0 j) : EReal) * (if e : 0 < r.val then z (ix2 ⟨r.val - 1, by omega⟩ j) else u (ix2 0 j))
        + w1 (ix2 0 j) * z (ix2 r j)
        + w2 (ix2 0 j) * (if e : r.val < 511 then z (ix2 ⟨r.val + 1, by omega⟩ j) else v (ix2 0 j)) := by
  pointwise [k0_pay1, k0_pay13, k0_pay14, hz]
  rw [flag_first, flag_last]
  have e1 : Scalar.select (if 0 < r.val then 0#1 else 1#1) (u (ix2 0 j)) (z (ix2 ⟨(r.val + 512 - 1) % 512, Nat.mod_lt _ (by omega)⟩ j))
      = if e : 0 < r.val then z (ix2 ⟨r.val - 1, by omega⟩ j) else u (ix2 0 j) := by
    by_cases e : 0 < r.val
    · rw [if_pos e, dif_pos e, sel0]
      exact congrArg (fun a => z (ix2 a j)) (Fin.ext (by simp only; omega))
    · rw [if_neg e, dif_neg e, sel1]
  have e2 : Scalar.select (if r.val < 511 then 0#1 else 1#1) (v (ix2 0 j)) (z (ix2 ⟨(r.val + 512 - 511) % 512, Nat.mod_lt _ (by omega)⟩ j))
      = if e : r.val < 511 then z (ix2 ⟨r.val + 1, by omega⟩ j) else v (ix2 0 j) := by
    by_cases e : r.val < 511
    · rw [if_pos e, dif_pos e, sel0]
      exact congrArg (fun a => z (ix2 a j)) (Fin.ext (by simp only; omega))
    · rw [if_neg e, dif_neg e, sel1]
  rw [e1, e2]

end Cert.Kernel4Ideal.Inproj

end
-- ==== Proof.InprojHost.lean ====
/- The arrays the input projection call is given, entry by entry, from the arguments. -/
module

public import proofs.«01_k».proof.Proof.Gen.Kernel4Ideal.Frame
public import Idealize.ShloMosaic.Lib.Pointwise
public import Idealize.ShloMosaic.Lib.Claim
public import proofs.«01_k».proof.Proof.InprojRow

@[expose] public section

set_option maxRecDepth 16384

noncomputable section

open Idealize.ShloMosaic Idealize.ShloMosaic.TcCoe Idealize.SL.Sem

namespace Cert.Kernel4Ideal.Inproj

open Cert.Kernel4Ideal Cert.Kernel4Ideal.Gen Cert.Layer

variable (m : (ℓ : Loc nD τ sig) → Buf (Elt Ideal) ℓ) (c : Dev nD)

/-- The host operations before the call, in order, as one list. -/
abbrev ops {F : FTy → Type} [FloatOps F] : List (HloOp τ sig (Elt F)) :=
  [ StableHlo.reshape main_arg1 main_v0 (rfl : (.f32 : EltTy) = .f32) shapeCasts_S32x6144_S32x6x1024,
    StableHlo.unary main_arg2 main_v1 ((extractStridedSlice S1024x1920 ![0, 0] · slices_S1024x4640_S1024x1920_0_0) : (⟨S1024x4640, .f32⟩ : BufTy).Contents (Elt F) → (⟨S1024x1920, .f32⟩ : BufTy).Contents (Elt F)),
    StableHlo.unary main_arg2 main_v2 ((extractStridedSlice S1024x384 ![0, 1920] · slices_S1024x4640_S1024x384_0_1920) : (⟨S1024x4640, .f32⟩ : BufTy).Contents (Elt F) → (⟨S1024x384, .f32⟩ : BufTy).Contents (Elt F)),
    StableHlo.unary main_arg2 main_v3 ((extractStridedSlice S1024x256 ![0, 2304] · slices_S1024x4640_S1024x256_0_2304) : (⟨S1024x4640, .f32⟩ : BufTy).Contents (Elt F) → (⟨S1024x256, .f32⟩ : BufTy).Contents (Elt F)),
    StableHlo.unary main_arg2 main_v4 ((extractStridedSlice S1024x32 ![0, 2560] · slices_S1024x4640_S1024x32_0_2560) : (⟨S1024x4640, .f32⟩ : BufTy).Contents (Elt F) → (⟨S1024x32, .f32⟩ : BufTy).Contents (Elt F)),
    StableHlo.unary main_arg2 main_v5 ((extractStridedSlice S1024x2048 ![0, 2592] · slices_S1024x4640_S1024x2048_0_2592) : (⟨S1024x4640, .f32⟩ : BufTy).Contents (Elt F) → (⟨S1024x2048, .f32⟩ : BufTy).Contents (Elt F)),
    StableHlo.unary main_v4 main_v6 ((extractStridedSlice S1024x16 ![0, 16] · slices_S1024x32_S1024x16_0_16) : (⟨S1024x32, .f32⟩ : BufTy).Contents (Elt F) → (⟨S1024x16, .f32⟩ : BufTy).Contents (Elt F)),
    StableHlo.unary main_v6 main_v7 (Host.negf : (⟨S1024x16, .f32⟩ : BufTy).Contents (Elt F) → (⟨S1024x16, .f32⟩ : BufTy).Contents (Elt F)),
    StableHlo.unary main_v4 main_v8 ((extractStridedSlice S1024x16 ![0, 0] · slices_S1024x32_S1024x16_0_0) : (⟨S1024x32, .f32⟩ : BufTy).Contents (Elt F) → (⟨S1024x16, .f32⟩ : BufTy).Contents (Elt F)),
    StableHlo.binary main_v7 main_v8 main_v9 ((fun a b => concatenate S1024x32 1 [⟨S1024x16, a⟩, ⟨S1024x16, b⟩] concatenates_S1024x16_S1024x16_S1024x32_d1) : (⟨S1024x16, .f32⟩ : BufTy).Contents (Elt F) → (⟨S1024x16, .f32⟩ : BufTy).Contents (Elt F) → (⟨S1024x32, .f32⟩ : BufTy).Contents (Elt F)),
    StableHlo.nullary main_c (constantI S_ 32 0#32),
    StableHlo.unary main_c main_call0_v0 (sitofp .f32 : (⟨S_, .i32⟩ : BufTy).Contents (Elt F) → (⟨S_, .f32⟩ : BufTy).Contents (Elt F)),
    StableHlo.binary main_v4 main_call0_v0 main_v10 ((fun x v => pad S1024x128 ![0, 64] ![0, 32] ![0, 0] x v pads_S1024x32_S1024x128_000_64320 h_S_) : (⟨S1024x32, .f32⟩ : BufTy).Contents (Elt F) → (⟨S_, .f32⟩ : BufTy).Contents (Elt F) → (⟨S1024x128, .f32⟩ : BufTy).Contents (Elt F)),
    StableHlo.nullary main_c_0 (constantI S_ 32 0#32),
    StableHlo.unary main_c_0 main_call1_v0 (sitofp .f32 : (⟨S_, .i32⟩ : BufTy).Contents (Elt F) → (⟨S_, .f32⟩ : BufTy).Contents (Elt F)),
    StableHlo.binary main_v9 main_call1_v0 main_v11 ((fun x v => pad S1024x128 ![0, 64] ![0, 32] ![0, 0] x v pads_S1024x32_S1024x128_000_64320 h_S_) : (⟨S1024x32, .f32⟩ : BufTy).Contents (Elt F) → (⟨S_, .f32⟩ : BufTy).Contents (Elt F) → (⟨S1024x128, .f32⟩ : BufTy).Contents (Elt F)),
    StableHlo.nary ![main_v1, main_v3, main_v10, main_v11, main_v2, main_v5] main_v12 (fun u => (concatenate S1024x4864 1 [⟨S1024x1920, (u 0 : (⟨S1024x1920, .f32⟩ : BufTy).Contents (Elt F))⟩, ⟨S1024x256, (u 1 : (⟨S1024x256, .f32⟩ : BufTy).Contents (Elt F))⟩, ⟨S1024x128, (u 2 : (⟨S1024x128, .f32⟩ : BufTy).Contents (Elt F))⟩, ⟨S1024x128, (u 3 : (⟨S1024x128, .f32⟩ : BufTy).Contents (Elt F))⟩, ⟨S1024x384, (u 4 : (⟨S1024x384, .f32⟩ : BufTy).Contents (Elt F))⟩, ⟨S1024x2048, (u 5 : (⟨S1024x2048, .f32⟩ : BufTy).Contents (Elt F))⟩] concatenates_S1024x1920_S1024x256_S1024x128_S1024x128_S1024x384_S1024x2048_S1024x4864_d1 : (⟨S1024x4864, .f32⟩ : BufTy).Contents (Elt F))),
    StableHlo.unary main_v12 main_v13 ((truncf .bf16 · bitsLt_bf16_f32) : (⟨S1024x4864, .f32⟩ : BufTy).Contents (Elt F) → (⟨S1024x4864, .bf16⟩ : BufTy).Contents (Elt F)) ]

theorem V_ops (b : Ref sig .tc) : V m c b = StableHlo.after (ops (F := Ideal)) (fun b => m (c, b)) b := rfl

/-- The modulation rows the call stages. -/
theorem v0_at (b : Fin 32) (l : Fin 6) (k : Fin 1024) : V m c main_v0 (ix3 b l k) = m ((c : Thread nD τ).loc main_arg1) (ix2 b ⟨l.val * 1024 + k.val, by omega⟩) := by
  rw [V_ops]
  entry_read
  pointwise

theorem v1_at (k : Fin 1024) (j : Fin 1920) : V m c main_v1 (ix2 k j) = m ((c : Thread nD τ).loc main_arg2) (ix2 k ⟨j.val, by omega⟩) := by
  rw [V_ops]
  entry_read
  pointwise

theorem v2_at (k : Fin 1024) (j : Fin 384) : V m c main_v2 (ix2 k j) = m ((c : Thread nD τ).loc main_arg2) (ix2 k ⟨1920 + j.val, by omega⟩) := by
  rw [V_ops]
  entry_read
  pointwise

theorem v3_at (k : Fin 1024) (j : Fin 256) : V m c main_v3 (ix2 k j) = m ((c : Thread nD τ).loc main_arg2) (ix2 k ⟨2304 + j.val, by omega⟩) := by
  rw [V_ops]
  entry_read
  pointwise

theorem v5_at (k : Fin 1024) (j : Fin 2048) : V m c main_v5 (ix2 k j) = m ((c : Thread nD τ).loc main_arg2) (ix2 k ⟨2592 + j.val, by omega⟩) := by
  rw [V_ops]
  entry_read
  pointwise

theorem sitofp_zero : (FloatOps.sitofp (F := Ideal) FTy.f32 (0#32) : EReal) = 0 := by
  show (((0#32 : BitVec 32).toInt : ℝ) : EReal) = 0
  simp

/-- The rotary key's columns with zeros around them. -/
theorem v10_at (k : Fin 1024) (j : Fin 128) :
    V m c main_v10 (ix2 k j) = padded (fun j => m ((c : Thread nD τ).loc main_arg2) (ix2 k ⟨2560 + j.val, by omega⟩)) j := by
  rw [V_ops]
  entry_read
  pointwise [padded, sitofp_zero]
  by_cases e : 64 ≤ j.val ∧ j.val < 96
  · rw [dif_pos e, dif_pos (by omega)]
  · rw [dif_neg e, dif_neg (by omega)]

/-- The rotary key's columns turned, with zeros around them. -/
theorem v11_at (k : Fin 1024) (j : Fin 128) :
    V m c main_v11 (ix2 k j) = padded (turn fun j => m ((c : Thread nD τ).loc main_arg2) (ix2 k ⟨2560 + j.val, by omega⟩)) j := by
  rw [V_ops]
  entry_read
  pointwise [padded, turn, sitofp_zero]
  by_cases e : 64 ≤ j.val ∧ j.val < 96
  · rw [dif_pos e, dif_pos (by omega)]
    by_cases e' : j.val - 64 < 16
    · rw [dif_pos e', dif_pos e']
      exact congrArg (fun a : EReal => -a) (congrArg (m ((c : Thread nD τ).loc main_arg2)) (congrArg (ix2 k) (Fin.ext (by simp only; omega))))
    · rw [dif_neg e', dif_neg e']
  · rw [dif_neg e, dif_neg (by omega)]

/-- Six pieces along the columns of the weights. -/
def catA (x0 : FVec Ideal S1024x1920 .f32) (x1 : FVec Ideal S1024x256 .f32) (x2 x3 : FVec Ideal S1024x128 .f32) (x4 : FVec Ideal S1024x384 .f32) (x5 : FVec Ideal S1024x2048 .f32) : FVec Ideal S1024x4864 .f32 :=
  concatenate S1024x4864 1 [⟨S1024x1920, x0⟩, ⟨S1024x256, x1⟩, ⟨S1024x128, x2⟩, ⟨S1024x128, x3⟩, ⟨S1024x384, x4⟩, ⟨S1024x2048, x5⟩] concatenates_S1024x1920_S1024x256_S1024x128_S1024x128_S1024x384_S1024x2048_S1024x4864_d1

theorem catA_eq {x0 y0 : FVec Ideal S1024x1920 .f32} {x1 y1 : FVec Ideal S1024x256 .f32} {x2 x3 y2 y3 : FVec Ideal S1024x128 .f32} {x4 y4 : FVec Ideal S1024x384 .f32} {x5 y5 : FVec Ideal S1024x2048 .f32}
    (h0 : x0 = y0) (h1 : x1 = y1) (h2 : x2 = y2) (h3 : x3 = y3) (h4 : x4 = y4) (h5 : x5 = y5) :
    concatenate S1024x4864 1 [⟨S1024x1920, x0⟩, ⟨S1024x256, x1⟩, ⟨S1024x128, x2⟩, ⟨S1024x128, x3⟩, ⟨S1024x384, x4⟩, ⟨S1024x2048, x5⟩] concatenates_S1024x1920_S1024x256_S1024x128_S1024x128_S1024x384_S1024x2048_S1024x4864_d1
      = catA y0 y1 y2 y3 y4 y5 := by subst h0; subst h1; subst h2; subst h3; subst h4; subst h5; rfl

/-- The weights' columns as a concatenation. -/
theorem v12_cat : V m c main_v12 = catA (V m c main_v1) (V m c main_v3) (V m c main_v10) (V m c main_v11) (V m c main_v2) (V m c main_v5) := by
  rw [V_ops m c main_v12, V_ops m c main_v1, V_ops m c main_v3, V_ops m c main_v10, V_ops m c main_v11, V_ops m c main_v2, V_ops m c main_v5]
  after_results
  refine catA_eq ?_ ?_ ?_ ?_ ?_ ?_ <;> (beta_reduce; after_results_steps; rfl)

theorem v13_v12 (k : Fin 1024) (j : Fin 4864) : V m c main_v13 (ix2 k j) = V m c main_v12 (ix2 k j) := by
  rw [V_ops m c main_v13, V_ops m c main_v12]
  after_results
  pointwise

/-- Which piece a column of the concatenation reads. -/
theorem catA_at (x0 : FVec Ideal S1024x1920 .f32) (x1 : FVec Ideal S1024x256 .f32) (x2 x3 : FVec Ideal S1024x128 .f32) (x4 : FVec Ideal S1024x384 .f32) (x5 : FVec Ideal S1024x2048 .f32) (r : Fin 1024) (k : Fin 4864) :
    catA x0 x1 x2 x3 x4 x5 (ix2 r k) = if e : k.val < 1920 then x0 (ix2 r ⟨k.val, e⟩) else if e : k.val < 2176 then x1 (ix2 r ⟨k.val - 1920, by omega⟩) else if e : k.val < 2304 then x2 (ix2 r ⟨k.val - 2176, by omega⟩) else if e : k.val < 2432 then x3 (ix2 r ⟨k.val - 2304, by omega⟩) else if e : k.val < 2816 then x4 (ix2 r ⟨k.val - 2432, by omega⟩) else x5 (ix2 r ⟨k.val - 2816, by omega⟩) := by
  unfold catA
  pointwise
  repeat' split
  all_goals first | rfl | omega | (refine congrArg _ (congrArg (ix2 r) (Fin.ext ?_)); simp only; omega)

theorem w_rw (k : Fin 1024) (j : Fin 1920) : V m c main_v13 (ix2 k ⟨j.val, by omega⟩) = m ((c : Thread nD τ).loc main_arg2) (ix2 k ⟨j.val, by omega⟩) := by
  rw [v13_v12, v12_cat, catA_at, dif_pos (by simp only; omega)]
  exact v1_at m c k j

theorem w_kv (k : Fin 1024) (j : Fin 512) : V m c main_v13 (ix2 k ⟨1920 + j.val, by omega⟩) = kv (fun n => m ((c : Thread nD τ).loc main_arg2) (ix2 k n)) j := by
  rw [v13_v12, v12_cat, catA_at, dif_neg (by simp only; omega)]
  unfold kv
  by_cases e0 : j.val < 256
  · rw [dif_pos (by simp only; omega), dif_pos e0, v3_at]
    exact congrArg _ (congrArg (ix2 k) (Fin.ext (by simp only; omega)))
  by_cases e1 : j.val < 384
  · rw [dif_neg (by simp only; omega), dif_pos (by simp only; omega), dif_neg e0, dif_pos e1, v10_at]
    exact congrArg _ (Fin.ext (by simp only; omega))
  · rw [dif_neg (by simp only; omega), dif_neg (by simp only; omega), dif_pos (by simp only; omega), dif_neg e0, dif_neg e1, v11_at]
    exact congrArg _ (Fin.ext (by simp only; omega))

theorem w_q (k : Fin 1024) (j : Fin 384) : V m c main_v13 (ix2 k ⟨2432 + j.val, by omega⟩) = m ((c : Thread nD τ).loc main_arg2) (ix2 k ⟨1920 + j.val, by omega⟩) := by
  rw [v13_v12, v12_cat, catA_at, dif_neg (by simp only; omega), dif_neg (by simp only; omega), dif_neg (by simp only; omega), dif_neg (by simp only; omega), dif_pos (by simp only; omega), v2_at]
  exact congrArg _ (congrArg (ix2 k) (Fin.ext (by simp only; omega)))

theorem w_g (k : Fin 1024) (j : Fin 2048) : V m c main_v13 (ix2 k ⟨2816 + j.val, by omega⟩) = m ((c : Thread nD τ).loc main_arg2) (ix2 k ⟨2592 + j.val, by omega⟩) := by
  rw [v13_v12, v12_cat, catA_at, dif_neg (by simp only; omega), dif_neg (by simp only; omega), dif_neg (by simp only; omega), dif_neg (by simp only; omega), dif_neg (by simp only; omega), v5_at]
  exact congrArg _ (congrArg (ix2 k) (Fin.ext (by simp only; omega)))

end Cert.Kernel4Ideal.Inproj

end
-- ==== Proof.InprojOut.lean ====
/- The input projection kernel's four results, entry by entry, in terms of the arguments. -/
module

public import proofs.«01_k».proof.Proof.InprojKer
public import proofs.«01_k».proof.Proof.InprojHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Inproj

open Cert.Kernel4Ideal Cert.Kernel4Ideal.Gen Cert.Layer

variable (m : (ℓ : Loc nD τ sig) → Buf (Elt Ideal) ℓ) (c : Dev nD)

/-- A modulated row times a matrix, over the arguments. -/
def dot {N : ℕ} (b : Fin 32) (p : Fin 2048) (w : Fin 1024 → Fin N → EReal) (j : Fin N) : EReal :=
  modDot (fun k => m ((c : Thread nD τ).loc main_arg0) (ix3 b p k)) (fun k => m ((c : Thread nD τ).loc main_arg1) (ix2 b ⟨k.val, by omega⟩))
    (fun k => m ((c : Thread nD τ).loc main_arg1) (ix2 b ⟨1024 + k.val, by omega⟩)) w j

/-- The projection's entry. -/
def W (k : Fin 1024) (n : Fin 4640) : EReal := m ((c : Thread nD τ).loc main_arg2) (ix2 k n)

/-- The call's results over the arguments: the weighted rows, the keys-and-values stream, the query latents and the gate. -/
def G6 (i : S32x2048x1920.Idx) : EReal :=
  conv3 (fun l => m ((c : Thread nD τ).loc main_arg3) (ix2 l (i 2))) (fun p => dot m c (i 0) p (W m c) ⟨(i 2).val, Nat.lt_trans (i 2).isLt (by decide)⟩) (i 1)
def G7 (i : S32x2048x512.Idx) : EReal := dot m c (i 0) (i 1) (fun k => kv (W m c k)) (i 2)
def G8 (i : S32x2048x384.Idx) : EReal := dot m c (i 0) (i 1) (W m c) ⟨1920 + (i 2).val, by have : (i 2).val < 384 := (i 2).isLt; omega⟩
def G9 (i : S32x2048x2048.Idx) : EReal := dot m c (i 0) (i 1) (W m c) ⟨2592 + (i 2).val, by have : (i 2).val < 2048 := (i 2).isLt; omega⟩

/-- The printed index maps over the grid. -/
theorem idx : ∀ t : Fin cfg0.N,
    win0_0.index t = ![t.val / 4, t.val % 4, 0] ∧ win0_1.index t = ![t.val / 4, t.val % 4 * 64 - 1, 0]
      ∧ win0_2.index t = ![t.val / 4, min ((t.val % 4 + 1) * 64) 255, 0] ∧ win0_3.index t = ![t.val / 4, 0, 0]
      ∧ win0_4.index t = ![0, 0] ∧ win0_5.index t = ![0, 0] ∧ win0_6.index t = ![t.val / 4, t.val % 4, 0]
      ∧ win0_7.index t = ![t.val / 4, t.val % 4, 0] ∧ win0_8.index t = ![t.val / 4, t.val % 4, 0] ∧ win0_9.index t = ![t.val / 4, t.val % 4, 0] :=
  (by decide +kernel : ∀ t : Fin grid0.N, _)

theorem lt (t : Fin cfg0.N) : t.val < 128 := t.isLt

theorem coord : ∀ t : Fin cfg0.N, (grid0.coords t 1).val = t.val % 4 := (by decide +kernel : ∀ t : Fin grid0.N, _)

theorem blk0 (t : Fin cfg0.N) (r : Fin 512) (k : Fin 1024) :
    iblk m c 0 t (ix3 0 r k) = V m c main_arg0 (ix3 ⟨t.val / 4, by have := lt t; omega⟩ ⟨512 * (t.val % 4) + r.val, by omega⟩ k) := by
  have h := lt t
  blk_ext [iblk, idx t]

theorem blk1 (t : Fin cfg0.N) (k : Fin 1024) :
    iblk m c 1 t (ix3 0 7 k) = V m c main_arg0 (ix3 ⟨t.val / 4, by have := lt t; omega⟩ ⟨8 * (t.val % 4 * 64 - 1) + 7, by omega⟩ k) := by
  have h := lt t
  blk_ext [iblk, idx t]

theorem blk2 (t : Fin cfg0.N) (k : Fin 1024) :
    iblk m c 2 t (ix3 0 0 k) = V m c main_arg0 (ix3 ⟨t.val / 4, by have := lt t; omega⟩ ⟨8 * min ((t.val % 4 + 1) * 64) 255, by omega⟩ k) := by
  have h := lt t
  blk_ext [iblk, idx t]

theorem blk3 (t : Fin cfg0.N) (l : Fin 6) (k : Fin 1024) :
    iblk m c 3 t (ix3 0 l k) = V m c main_v0 (ix3 ⟨t.val / 4, by have := lt t; omega⟩ l k) := by
  have h := lt t
  blk_ext [iblk, idx t]

theorem blk4 (t : Fin cfg0.N) (k : Fin 1024) (j : Fin 4864) : iblk m c 4 t (ix2 k j) = V m c main_v13 (ix2 k j) := by
  have h := lt t
  blk_ext [iblk, idx t]

theorem blk5 (t : Fin cfg0.N) (l : Fin 3) (j : Fin 1920) : iblk m c 5 t (ix2 l j) = V m c main_arg3 (ix2 l j) := by
  have h := lt t
  blk_ext [iblk, idx t]

/-- The array index under a block index of each result. -/
theorem emb6 (t : Fin cfg0.N) (r : Fin 512) (n : Fin 1920) :
    ((cfg0.win 6).blk t).view.emb (ix3 0 r n) = (ix3 ⟨t.val / 4, by have := lt t; omega⟩ ⟨512 * (t.val % 4) + r.val, by omega⟩ n : S32x2048x1920.Idx) := by
  have h := lt t
  blk_ext [idx t]
theorem emb7 (t : Fin cfg0.N) (r : Fin 512) (n : Fin 512) :
    ((cfg0.win 7).blk t).view.emb (ix3 0 r n) = (ix3 ⟨t.val / 4, by have := lt t; omega⟩ ⟨512 * (t.val % 4) + r.val, by omega⟩ n : S32x2048x512.Idx) := by
  have h := lt t
  blk_ext [idx t]
theorem emb8 (t : Fin cfg0.N) (r : Fin 512) (n : Fin 384) :
    ((cfg0.win 8).blk t).view.emb (ix3 0 r n) = (ix3 ⟨t.val / 4, by have := lt t; omega⟩ ⟨512 * (t.val % 4) + r.val, by omega⟩ n : S32x2048x384.Idx) := by
  have h := lt t
  blk_ext [idx t]
theorem emb9 (t : Fin cfg0.N) (r : Fin 512) (n : Fin 2048) :
    ((cfg0.win 9).blk t).view.emb (ix3 0 r n) = (ix3 ⟨t.val / 4, by have := lt t; omega⟩ ⟨512 * (t.val % 4) + r.val, by omega⟩ n : S32x2048x2048.Idx) := by
  have h := lt t
  blk_ext [idx t]

/-- The loaded rows of a grid point: the tile, the rows above and below it, the shift and the scale. -/
theorem ld_x (t : Fin cfg0.N) (r : Fin 512) (k : Fin 1024) :
    View.ld (iblk m c 0 t) r0_2 (ix3 0 r k) = m ((c : Thread nD τ).loc main_arg0) (ix3 ⟨t.val / 4, by have := lt t; omega⟩ ⟨512 * (t.val % 4) + r.val, by omega⟩ k) := by
  pointwise
  exact (congrArg _ (by blk_ext)).trans ((blk0 m c t r k).trans (congrFun (V_main_arg0 m c) _))
theorem ld_up (t : Fin cfg0.N) (k : Fin 1024) :
    View.ld (iblk m c 1 t) r0_10 (ix3 0 7 k) = m ((c : Thread nD τ).loc main_arg0) (ix3 ⟨t.val / 4, by have := lt t; omega⟩ ⟨8 * (t.val % 4 * 64 - 1) + 7, by omega⟩ k) := by
  pointwise
  exact (congrArg _ (by blk_ext)).trans ((blk1 m c t k).trans (congrFun (V_main_arg0 m c) _))
theorem ld_down (t : Fin cfg0.N) (k : Fin 1024) :
    View.ld (iblk m c 2 t) r0_10 (ix3 0 0 k) = m ((c : Thread nD τ).loc main_arg0) (ix3 ⟨t.val / 4, by have := lt t; omega⟩ ⟨8 * min ((t.val % 4 + 1) * 64) 255, by omega⟩ k) := by
  pointwise
  exact (congrArg _ (by blk_ext)).trans ((blk2 m c t k).trans (congrFun (V_main_arg0 m c) _))
theorem ld_shift (t : Fin cfg0.N) (k : Fin 1024) :
    View.ld (iblk m c 3 t) r0_0 (ix3 0 0 k) = m ((c : Thread nD τ).loc main_arg1) (ix2 ⟨t.val / 4, by have := lt t; omega⟩ ⟨k.val, by omega⟩) := by
  pointwise
  exact (congrArg _ (by blk_ext)).trans ((blk3 m c t 0 k).trans ((v0_at m c _ 0 k).trans (congrArg _ (congrArg (ix2 _) (Fin.ext (by simp))))))
theorem ld_scale (t : Fin cfg0.N) (k : Fin 1024) :
    View.ld (iblk m c 3 t) r0_1 (ix3 0 0 k) = m ((c : Thread nD τ).loc main_arg1) (ix2 ⟨t.val / 4, by have := lt t; omega⟩ ⟨1024 + k.val, by omega⟩) := by
  pointwise
  exact (congrArg _ (by blk_ext)).trans ((blk3 m c t 1 k).trans ((v0_at m c _ 1 k).trans (congrArg _ (congrArg (ix2 _) (Fin.ext (by simp))))))

/-- The loaded weights: each store's columns. -/
theorem ld_rw (t : Fin cfg0.N) (k : Fin 1024) (j : Fin 1920) : View.ld (iblk m c 4 t) r0_9 (ix2 k j) = W m c k ⟨j.val, by omega⟩ := by
  pointwise
  exact (congrArg _ (by blk_ext)).trans ((blk4 m c t k ⟨j.val, by omega⟩).trans (w_rw m c k j))
theorem ld_kv (t : Fin cfg0.N) (k : Fin 1024) (j : Fin 512) : View.ld (iblk m c 4 t) r0_3 (ix2 k j) = kv (W m c k) j := by
  pointwise
  exact (congrArg _ (by blk_ext)).trans ((blk4 m c t k ⟨1920 + j.val, by omega⟩).trans (w_kv m c k j))
theorem ld_q (t : Fin cfg0.N) (k : Fin 1024) (j : Fin 384) : View.ld (iblk m c 4 t) r0_5 (ix2 k j) = W m c k ⟨1920 + j.val, by omega⟩ := by
  pointwise
  exact (congrArg _ (by blk_ext)).trans ((blk4 m c t k ⟨2432 + j.val, by omega⟩).trans (w_q m c k j))
theorem ld_g (t : Fin cfg0.N) (k : Fin 1024) (j : Fin 2048) : View.ld (iblk m c 4 t) r0_7 (ix2 k j) = W m c k ⟨2592 + j.val, by omega⟩ := by
  pointwise
  exact (congrArg _ (by blk_ext)).trans ((blk4 m c t k ⟨2816 + j.val, by omega⟩).trans (w_g m c k j))

theorem ld_w0 (t : Fin cfg0.N) (j : Fin 1920) : View.ld (iblk m c 5 t) r0_11 (ix2 0 j) = m ((c : Thread nD τ).loc main_arg3) (ix2 0 j) := by
  pointwise
  exact (congrArg _ (by blk_ext)).trans ((blk5 m c t 0 j).trans (congrFun (V_main_arg3 m c) _))
theorem ld_w1 (t : Fin cfg0.N) (j : Fin 1920) : View.ld (iblk m c 5 t) r0_12 (ix2 0 j) = m ((c : Thread nD τ).loc main_arg3) (ix2 1 j) := by
  pointwise
  exact (congrArg _ (by blk_ext)).trans ((blk5 m c t 1 j).trans (congrFun (V_main_arg3 m c) _))
theorem ld_w2 (t : Fin cfg0.N) (j : Fin 1920) : View.ld (iblk m c 5 t) r0_13 (ix2 0 j) = m ((c : Thread nD τ).loc main_arg3) (ix2 2 j) := by
  pointwise
  exact (congrArg _ (by blk_ext)).trans ((blk5 m c t 2 j).trans (congrFun (V_main_arg3 m c) _))

/-- The modulated product depends on its parts entry by entry. -/
theorem modDot_congr {N N' : ℕ} {x x' s s' d d' : Fin 1024 → EReal} {w : Fin 1024 → Fin N → EReal} {w' : Fin 1024 → Fin N' → EReal} {j : Fin N} {j' : Fin N'}
    (hx : ∀ k, x k = x' k) (hs : ∀ k, s k = s' k) (hd : ∀ k, d k = d' k) (hw : ∀ k, w k j = w' k j') : modDot x s d w j = modDot x' s' d' w' j' := by
  unfold modDot
  refine Finset.sum_congr rfl fun k _ => ?_
  rw [hx, hs, hd, hw]

theorem point7 (t : Fin cfg0.N) (r : Fin 512) (n : Fin 512) :
    out0_7 (grid0.coords t) (iblk m c 0 t) (iblk m c 1 t) (iblk m c 2 t) (iblk m c 3 t) (iblk m c 4 t) (iblk m c 5 t) (ix3 0 r n)
      = G7 m c (ix3 ⟨t.val / 4, by have := lt t; omega⟩ ⟨512 * (t.val % 4) + r.val, by omega⟩ n) := by
  unfold out0_7
  rw [View.canon_unit_zero (S := S1x512x512) (by funext a; fin_cases a <;> rfl)]
  refine (pay5_at _ _ _ _ r n).trans ?_
  exact modDot_congr (w' := fun k => kv (W m c k)) (j' := n) (ld_x m c t r) (ld_shift m c t) (ld_scale m c t) fun k => ld_kv m c t k n

theorem point8 (t : Fin cfg0.N) (r : Fin 512) (n : Fin 384) :
    out0_8 (grid0.coords t) (iblk m c 0 t) (iblk m c 1 t) (iblk m c 2 t) (iblk m c 3 t) (iblk m c 4 t) (iblk m c 5 t) (ix3 0 r n)
      = G8 m c (ix3 ⟨t.val / 4, by have := lt t; omega⟩ ⟨512 * (t.val % 4) + r.val, by omega⟩ n) := by
  unfold out0_8
  rw [View.canon_unit_zero (S := S1x512x384) (by funext a; fin_cases a <;> rfl)]
  refine (pay6_at _ _ _ _ r n).trans ?_
  exact modDot_congr (ld_x m c t r) (ld_shift m c t) (ld_scale m c t) fun k => ld_q m c t k n

theorem point9 (t : Fin cfg0.N) (r : Fin 512) (n : Fin 2048) :
    out0_9 (grid0.coords t) (iblk m c 0 t) (iblk m c 1 t) (iblk m c 2 t) (iblk m c 3 t) (iblk m c 4 t) (iblk m c 5 t) (ix3 0 r n)
      = G9 m c (ix3 ⟨t.val / 4, by have := lt t; omega⟩ ⟨512 * (t.val % 4) + r.val, by omega⟩ n) := by
  unfold out0_9
  rw [View.canon_unit_zero (S := S1x512x2048) (by funext a; fin_cases a <;> rfl)]
  refine (pay8_at _ _ _ _ r n).trans ?_
  exact modDot_congr (ld_x m c t r) (ld_shift m c t) (ld_scale m c t) fun k => ld_g m c t k n

/-- The projected rows of a tile, and the rows above and below it. -/
theorem z_at (t : Fin cfg0.N) (r : Fin 512) (j : Fin 1920) :
    k0_pay9 (k0_pay4 (View.ld (iblk m c 3 t) r0_0) (View.ld (iblk m c 3 t) r0_1) (View.ld (iblk m c 0 t) r0_2)) (View.ld (iblk m c 4 t) r0_9) (ix2 r j)
      = dot m c ⟨t.val / 4, by have := lt t; omega⟩ ⟨512 * (t.val % 4) + r.val, by omega⟩ (W m c) ⟨j.val, by omega⟩ := by
  refine (pay9_at _ _ _ _ r j).trans ?_
  exact modDot_congr (ld_x m c t r) (ld_shift m c t) (ld_scale m c t) fun k => ld_rw m c t k j

theorem up_at (t : Fin cfg0.N) (j : Fin 1920) :
    k0_pay11 (BitVec.ofNat 32 (grid0.coords t 1).val) (k0_pay2 (View.ld (iblk m c 3 t) r0_0)) (k0_pay3 (View.ld (iblk m c 3 t) r0_1)) (View.ld (iblk m c 1 t) r0_10)
        (View.ld (iblk m c 2 t) r0_10) (View.ld (iblk m c 4 t) r0_9) (ix2 0 j)
      = before (fun p => dot m c ⟨t.val / 4, by have := lt t; omega⟩ p (W m c) ⟨j.val, by omega⟩) ⟨512 * (t.val % 4), by omega⟩ := by
  rw [coord]
  refine (pay11_at ⟨t.val % 4, by omega⟩ _ _ _ _ _ j).trans ?_
  unfold before
  by_cases e : 0 < t.val % 4
  · rw [if_pos e, dif_pos (by simp only; omega)]
    refine modDot_congr (fun k => (ld_up m c t k).trans ?_) (ld_shift m c t) (ld_scale m c t) fun k => ld_rw m c t k j
    exact congrArg (fun p => m ((c : Thread nD τ).loc main_arg0) (ix3 _ p k)) (Fin.ext (by simp only; omega))
  · rw [if_neg e, dif_neg (by simp only; omega)]

theorem down_at (t : Fin cfg0.N) (j : Fin 1920) :
    k0_pay12 (BitVec.ofNat 32 (grid0.coords t 1).val) (k0_pay2 (View.ld (iblk m c 3 t) r0_0)) (k0_pay3 (View.ld (iblk m c 3 t) r0_1)) (View.ld (iblk m c 1 t) r0_10)
        (View.ld (iblk m c 2 t) r0_10) (View.ld (iblk m c 4 t) r0_9) (ix2 0 j)
      = after (fun p => dot m c ⟨t.val / 4, by have := lt t; omega⟩ p (W m c) ⟨j.val, by omega⟩) ⟨512 * (t.val % 4) + 511, by omega⟩ := by
  rw [coord]
  refine (pay12_at ⟨t.val % 4, by omega⟩ _ _ _ _ _ j).trans ?_
  unfold after
  by_cases e : t.val % 4 < 3
  · rw [if_pos e, dif_pos (by simp only; omega)]
    refine modDot_congr (fun k => (ld_down m c t k).trans ?_) (ld_shift m c t) (ld_scale m c t) fun k => ld_rw m c t k j
    exact congrArg (fun p => m ((c : Thread nD τ).loc main_arg0) (ix3 _ p k)) (Fin.ext (by simp only; omega))
  · rw [if_neg e, dif_neg (by simp only; omega)]

theorem point6 (t : Fin cfg0.N) (r : Fin 512) (n : Fin 1920) :
    out0_6 (grid0.coords t) (iblk m c 0 t) (iblk m c 1 t) (iblk m c 2 t) (iblk m c 3 t) (iblk m c 4 t) (iblk m c 5 t) (ix3 0 r n)
      = G6 m c (ix3 ⟨t.val / 4, by have := lt t; omega⟩ ⟨512 * (t.val % 4) + r.val, by omega⟩ n) := by
  unfold out0_6
  rw [View.canon_unit_zero (S := S1x512x1920) (by funext a; fin_cases a <;> rfl)]
  unfold k0_pay15 k0_pay16 k0_pay17
  refine (pay1_at _ _ _ rfl _ _ _ _ _ r n).trans ?_
  have e0 := up_at m c t n
  have e2 := down_at m c t n
  have e1 := fun r => z_at m c t r n
  rw [ld_w0, ld_w1, ld_w2]
  show _ = conv3 (fun l => m ((c : Thread nD τ).loc main_arg3) (ix2 l n))
    (fun p => dot m c ⟨t.val / 4, by have := lt t; omega⟩ p (W m c) ⟨n.val, by omega⟩) ⟨512 * (t.val % 4) + r.val, by omega⟩
  unfold conv3
  refine congrArg₂ (fun a b : EReal => a + b) (congrArg₂ (fun a b : EReal => a + b) (congrArg (fun a : EReal => _ * a) ?_) (congrArg (fun a : EReal => _ * a) (e1 r))) (congrArg (fun a : EReal => _ * a) ?_)
  · by_cases h : 0 < r.val
    · rw [dif_pos h]
      refine (e1 _).trans ?_
      unfold before
      rw [dif_pos (by simp only; omega)]
      exact congrArg (fun p => dot m c _ p (W m c) _) (Fin.ext (by simp only; omega))
    · rw [dif_neg h]
      refine e0.trans ?_
      exact congrArg (before _) (Fin.ext (by simp only; omega))
  · by_cases h : r.val < 511
    · rw [dif_pos h]
      refine (e1 _).trans ?_
      unfold after
      rw [dif_pos (by simp only; omega)]
      exact congrArg (fun p => dot m c _ p (W m c) _) (Fin.ext (by simp only; omega))
    · rw [dif_neg h]
      refine e2.trans ?_
      exact congrArg (after _) (Fin.ext (by simp only; omega))

/-- The result arrays after the run. -/
theorem final6 : (dats m 0 c).arrAt 6 (cfgs 0).N = G6 m c := by
  refine (dats m 0 c).arrAt_eq_of_covers 6 _ (by decide +kernel) fun t _ y => ?_
  blk_simp
  rw [after0_6]
  obtain ⟨r, n, rfl⟩ : ∃ (r : Fin 512) (n : Fin 1920), y = (ix3 0 r n : S1x512x1920.Idx) :=
    ⟨y 1, y 2, by funext a; fin_cases a <;> first | rfl | exact Fin.ext (by have := (y 0).isLt; simp at this ⊢ <;> omega)⟩
  rw [emb6]
  exact point6 m c t r n

theorem final7 : (dats m 0 c).arrAt 7 (cfgs 0).N = G7 m c := by
  refine (dats m 0 c).arrAt_eq_of_covers 7 _ (by decide +kernel) fun t _ y => ?_
  blk_simp
  rw [after0_7]
  obtain ⟨r, n, rfl⟩ : ∃ (r : Fin 512) (n : Fin 512), y = (ix3 0 r n : S1x512x512.Idx) :=
    ⟨y 1, y 2, by funext a; fin_cases a <;> first | rfl | exact Fin.ext (by have := (y 0).isLt; simp at this ⊢ <;> omega)⟩
  rw [emb7]
  exact point7 m c t r n

theorem final8 : (dats m 0 c).arrAt 8 (cfgs 0).N = G8 m c := by
  refine (dats m 0 c).arrAt_eq_of_covers 8 _ (by decide +kernel) fun t _ y => ?_
  blk_simp
  rw [after0_8]
  obtain ⟨r, n, rfl⟩ : ∃ (r : Fin 512) (n : Fin 384), y = (ix3 0 r n : S1x512x384.Idx) :=
    ⟨y 1, y 2, by funext a; fin_cases a <;> first | rfl | exact Fin.ext (by have := (y 0).isLt; simp at this ⊢ <;> omega)⟩
  rw [emb8]
  exact point8 m c t r n

theorem final9 : (dats m 0 c).arrAt 9 (cfgs 0).N = G9 m c := by
  refine (dats m 0 c).arrAt_eq_of_covers 9 _ (by decide +kernel) fun t _ y => ?_
  blk_simp
  rw [after0_9]
  obtain ⟨r, n, rfl⟩ : ∃ (r : Fin 512) (n : Fin 2048), y = (ix3 0 r n : S1x512x2048.Idx) :=
    ⟨y 1, y 2, by funext a; fin_cases a <;> first | rfl | exact Fin.ext (by have := (y 0).isLt; simp at this ⊢ <;> omega)⟩
  rw [emb9]
  exact point9 m c t r n

end Cert.Kernel4Ideal.Inproj

end
-- ==== Proof.InprojClaims.lean ====
/- The claims about the input projection call. -/
module

public import proofs.«01_k».proof.Defs
public import proofs.«01_k».proof.Proof.Claims
public import proofs.«01_k».proof.Proof.Gen.Kernel4.Frame
public import proofs.«01_k».proof.Proof.Gen.Kernel4Ideal.Value
public import proofs.«01_k».proof.Proof.Gen.Reference4Ideal.Run
public import proofs.«01_k».proof.Proof.InprojRef
public import proofs.«01_k».proof.Proof.InprojOut
public import Idealize.ShloMosaic.Adequacy
public import Idealize.ShloMosaic.Init

@[expose] public section

set_option maxRecDepth 16384

noncomputable section

open Idealize.ShloMosaic Idealize.ShloMosaic.TcCoe Idealize.SL.Sem

namespace Cert.Proof.Inproj

/-- The side conditions of the precondition's slices and broadcasts. -/
theorem preFacts4 : Cert.Pre_finite4.Facts where
  bcast_S_S32x2048x1024 := by decide
  slices_S32x6144_S32x2048_0_0 := by decide
  bcast_S_S32x2048 := by decide
  slices_S1024x4640_S1024x16_0_2576 := by decide
  bcast_S_S1024x16 := by decide

theorem frame_Kernel4 : Cert.quiescent_Kernel4 (hKernel4 := Cert.Kernel4.Gen.facts) := fun m ρ _ => Cert.Kernel4.Gen.frame m ρ

theorem frame_Kernel4Ideal : Cert.quiescent_Kernel4Ideal (hKernel4Ideal := Cert.Kernel4Ideal.Gen.facts) := fun m ρ _ => Cert.Kernel4Ideal.Gen.frame m ρ

theorem frame_Kernel4Ideal_finite4 :
    Cert.quiescent_Kernel4Ideal_pre_finite4 (hKernel4Ideal := Cert.Kernel4Ideal.Gen.facts) (hPre_finite4 := preFacts4) :=
  fun m ρ _ => Cert.Kernel4Ideal.Gen.frame m ρ

theorem frame_Reference4Ideal : Cert.quiescent_Reference4Ideal (hReference4Ideal := Cert.Reference4Ideal.Gen.facts) := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

theorem frame_Reference4Ideal_finite4 :
    Cert.quiescent_Reference4Ideal_pre_finite4 (hReference4Ideal := Cert.Reference4Ideal.Gen.facts) (hPre_finite4 := preFacts4) :=
  fun m ρ _ => frame_Reference4Ideal m ρ trivial

theorem preserves4 : Cert.preserves_Kernel4_Kernel4Ideal := trivial

variable (m : (ℓ : Loc Cert.Kernel4Ideal.nD Cert.Kernel4Ideal.τ Cert.Kernel4Ideal.sig) → Buf (Elt Ideal) ℓ) (c : Dev Cert.Kernel4Ideal.nD)

/-- The kernel's argument arrays. -/
abbrev a0 := m ((c.tc : Thread Cert.Kernel4Ideal.nD Cert.Kernel4Ideal.τ).loc Cert.Kernel4Ideal.main_arg0)
abbrev a1 := m ((c.tc : Thread Cert.Kernel4Ideal.nD Cert.Kernel4Ideal.τ).loc Cert.Kernel4Ideal.main_arg1)
abbrev a2 := m ((c.tc : Thread Cert.Kernel4Ideal.nD Cert.Kernel4Ideal.τ).loc Cert.Kernel4Ideal.main_arg2)
abbrev a3 := m ((c.tc : Thread Cert.Kernel4Ideal.nD Cert.Kernel4Ideal.τ).loc Cert.Kernel4Ideal.main_arg3)

/-- The precondition read at an entry of each array: the rows, the shift, the scale and the negated columns are real. -/
theorem rows_real (hp : Cert.Pre_Kernel4Ideal_finite4 (hPre_finite4 := preFacts4) m) (b : Fin 32) (p : Fin 2048) (k : Fin 1024) :
    IsR (a0 m c (ix3 b p k) : EReal) := by
  obtain ⟨h0, h1, h2⟩ := hp c
  exact real_of_finite _ preFacts4.bcast_S_S32x2048x1024 h0 _

theorem mod_real (hp : Cert.Pre_Kernel4Ideal_finite4 (hPre_finite4 := preFacts4) m) (b : Fin 32) (k : Fin 2048) :
    IsR (a1 m c (ix2 b ⟨k.val, by omega⟩) : EReal) := by
  obtain ⟨h0, h1, h2⟩ := hp c
  have h := real_of_finite _ preFacts4.bcast_S_S32x2048 h1 (ix2 b k)
  have e : (extractStridedSlice Cert.Pre_finite4.S32x2048 ![0, 0] (a1 m c) preFacts4.slices_S32x6144_S32x2048_0_0) (ix2 b k)
      = a1 m c (ix2 b ⟨k.val, by omega⟩) := by pointwise
  rw [← e]
  exact h

theorem cols_real (hp : Cert.Pre_Kernel4Ideal_finite4 (hPre_finite4 := preFacts4) m) (k : Fin 1024) (j : Fin 16) :
    IsR (a2 m c (ix2 k ⟨2576 + j.val, by omega⟩) : EReal) := by
  obtain ⟨h0, h1, h2⟩ := hp c
  have h := real_of_finite _ preFacts4.bcast_S_S1024x16 h2 (ix2 k j)
  have e : (extractStridedSlice Cert.Pre_finite4.S1024x16 ![0, 2576] (a2 m c) preFacts4.slices_S1024x4640_S1024x16_0_2576) (ix2 k j)
      = a2 m c (ix2 k ⟨2576 + j.val, by omega⟩) := by pointwise
  rw [← e]
  exact h

/-- The reference's results on the kernel's arguments are the kernel's. -/
theorem value47 : Cert.Reference4Ideal.Read.val_main_v47 (F := Ideal) (a0 m c) (a1 m c) (a2 m c) (a3 m c) = Cert.Kernel4Ideal.Inproj.G6 m c := by
  funext i
  obtain ⟨b, p, n, rfl⟩ : ∃ (b : Fin 32) (p : Fin 2048) (n : Fin 1920), i = ix3 b p n := ⟨i 0, i 1, i 2, by funext a; fin_cases a <;> rfl⟩
  exact Cert.Reference4Ideal.Inproj.v47_at _ _ _ _ b p n

theorem value48 (hp : Cert.Pre_Kernel4Ideal_finite4 (hPre_finite4 := preFacts4) m) :
    Cert.Reference4Ideal.Read.val_main_v48 (F := Ideal) (a0 m c) (a1 m c) (a2 m c) = Cert.Kernel4Ideal.Inproj.G7 m c := by
  funext i
  obtain ⟨b, p, n, rfl⟩ : ∃ (b : Fin 32) (p : Fin 2048) (n : Fin 512), i = ix3 b p n := ⟨i 0, i 1, i 2, by funext a; fin_cases a <;> rfl⟩
  refine (Cert.Reference4Ideal.Inproj.v48_at _ _ _ b p n).trans ?_
  exact (Cert.Layer.modDot_kv _ _ _ _ n (fun k => rows_real m c hp b p k) (fun k => mod_real m c hp b ⟨k.val, by omega⟩)
    (fun k => mod_real m c hp b ⟨1024 + k.val, by omega⟩) (fun k j => cols_real m c hp k j)).symm

theorem value49 : Cert.Reference4Ideal.Read.val_main_v49 (F := Ideal) (a0 m c) (a1 m c) (a2 m c) = Cert.Kernel4Ideal.Inproj.G8 m c := by
  funext i
  obtain ⟨b, p, n, rfl⟩ : ∃ (b : Fin 32) (p : Fin 2048) (n : Fin 384), i = ix3 b p n := ⟨i 0, i 1, i 2, by funext a; fin_cases a <;> rfl⟩
  exact Cert.Reference4Ideal.Inproj.v49_at _ _ _ b p n

theorem value50 : Cert.Reference4Ideal.Read.val_main_v50 (F := Ideal) (a0 m c) (a1 m c) (a2 m c) = Cert.Kernel4Ideal.Inproj.G9 m c := by
  funext i
  obtain ⟨b, p, n, rfl⟩ : ∃ (b : Fin 32) (p : Fin 2048) (n : Fin 2048), i = ix3 b p n := ⟨i 0, i 1, i 2, by funext a; fin_cases a <;> rfl⟩
  exact Cert.Reference4Ideal.Inproj.v50_at _ _ _ b p n

/-- The two programs' results are equal. -/
theorem algebraic4 : Cert.algebraic_Kernel4Ideal_Reference4Ideal_pre_finite4 (hKernel4Ideal := Cert.Kernel4Ideal.Gen.facts)
    (hReference4Ideal := Cert.Reference4Ideal.Gen.facts) (hPre_finite4 := preFacts4) := by
  intro m g m' g' hp ha
  refine ⟨fun c => Cert.Kernel4Ideal.Inproj.G6 m c, fun c => Cert.Kernel4Ideal.Inproj.G7 m c, fun c => Cert.Kernel4Ideal.Inproj.G8 m c,
    fun c => Cert.Kernel4Ideal.Inproj.G9 m c, ?_, ?_⟩
  · refine (θ_run Cert.Kernel4Ideal.defs _ _).mono (fun r h c => ?_) (Cert.Kernel4Ideal.Value.run_blocks (F := Ideal) m g)
    obtain ⟨h6, h7, h8, h9, h⟩ := h c
    exact ⟨h6.trans (Cert.Kernel4Ideal.Inproj.final6 m c), h7.trans (Cert.Kernel4Ideal.Inproj.final7 m c),
      h8.trans (Cert.Kernel4Ideal.Inproj.final8 m c), h9.trans (Cert.Kernel4Ideal.Inproj.final9 m c), h⟩
  · refine (θ_run Cert.Reference4Ideal.defs _ _).mono (fun r h c => ?_) (Cert.Reference4Ideal.Value.run (F := Ideal) m' g')
    obtain ⟨h6, h7, h8, h9, h⟩ := h c
    obtain ⟨e0, e1, e2, e3⟩ := ha c
    refine ⟨h6.trans ?_, h7.trans ?_, h8.trans ?_, h9.trans ?_, h⟩
    · rw [Cert.Reference4Ideal.Read.val_main_v47_eq, e0, e1, e2, e3]
      exact value47 m c
    · rw [Cert.Reference4Ideal.Read.val_main_v48_eq, e0, e1, e2]
      exact value48 m c hp
    · rw [e0, e1, e2]
      exact (Cert.Reference4Ideal.Read.val_main_v49_eq _ _ _).trans (value49 m c)
    · rw [e0, e1, e2]
      exact (Cert.Reference4Ideal.Read.val_main_v50_eq _ _ _).trans (value50 m c)

end Cert.Proof.Inproj

end
-- ==== Proof.AdaOut.lean ====
/- The modulation call: the kernel's block and whole result, entry by entry. -/
module

public import proofs.«01_k».proof.Proof.Gen.Kernel5Ideal.Frame
public import Idealize.ShloMosaic.Lib.Pipeline.ValueKit
public import proofs.«01_k».proof.Proof.Layer
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Layer

/-- One entry of the modulation: the conditioning row through its sigmoid-weighted unit, times a column, plus the bias. -/
def ada (c w : Fin 1024 → EReal) (b : EReal) : EReal := (∑ k : Fin 1024, c k * Ideal.logistic (c k) * w k) + b

end Cert.Layer

namespace Cert.Kernel5Ideal.Ada

open Cert.Kernel5Ideal Cert.Kernel5Ideal.Gen Cert.Layer

theorem pay1_at (v0 : Vec Ideal S32x1024 .f32) (v4 : Vec Ideal S1024x1536 .f32) (v7 : Vec Ideal S1x1536 .f32) (b : Fin 32) (j : Fin 1536) :
    k0_pay1 v0 v4 v7 (ix2 b j) = ada (fun k => v0 (ix2 b k)) (fun k => v4 (ix2 k j)) (v7 (ix2 0 j)) := by
  pointwise [k0_pay1, ada] <;> rfl

variable (m : (ℓ : Loc nD τ sig) → Buf (Elt Ideal) ℓ) (c : Dev nD)

/-- The call's result over the arguments. -/
def G (i : S32x6144.Idx) : EReal :=
  ada (fun k => m ((c : Thread nD τ).loc main_arg0) (ix2 (i 0) k)) (fun k => m ((c : Thread nD τ).loc main_arg1) (ix2 k (i 1)))
    (m ((c : Thread nD τ).loc main_arg2) (ix1 (i 1)))

theorem v0_at (j : Fin 6144) : V m c main_v0 (ix2 0 j) = m ((c : Thread nD τ).loc main_arg2) (ix1 j) := by
  entry_read
  pointwise

/-- The printed index maps over the grid. -/
theorem idx : ∀ t : Fin cfg0.N,
    win0_0.index t = ![0, 0] ∧ win0_1.index t = ![0, t.val] ∧ win0_2.index t = ![0, t.val] ∧ win0_3.index t = ![0, t.val] :=
  (by decide +kernel : ∀ t : Fin grid0.N, _)

theorem lt (t : Fin cfg0.N) : t.val < 4 := t.isLt

theorem blk0 (t : Fin cfg0.N) (b : Fin 32) (k : Fin 1024) : iblk m c 0 t (ix2 b k) = V m c main_arg0 (ix2 b k) := by
  have h := lt t
  blk_ext [iblk, idx t]

theorem blk1 (t : Fin cfg0.N) (k : Fin 1024) (j : Fin 1536) :
    iblk m c 1 t (ix2 k j) = V m c main_arg1 (ix2 k ⟨1536 * t.val + j.val, by have := lt t; omega⟩) := by
  have h := lt t
  blk_ext [iblk, idx t]

theorem blk2 (t : Fin cfg0.N) (j : Fin 1536) :
    iblk m c 2 t (ix2 0 j) = V m c main_v0 (ix2 0 ⟨1536 * t.val + j.val, by have := lt t; omega⟩) := by
  have h := lt t
  blk_ext [iblk, idx t]

/-- The array index under a block index of the result. -/
theorem emb3 (t : Fin cfg0.N) (b : Fin 32) (j : Fin 1536) :
    ((cfg0.win 3).blk t).view.emb (ix2 b j) = (ix2 b ⟨1536 * t.val + j.val, by have := lt t; omega⟩ : S32x6144.Idx) := by
  have h := lt t
  blk_ext [idx t]

/-- What a grid point stores. -/
theorem point (t : Fin cfg0.N) (b : Fin 32) (j : Fin 1536) :
    out0_3 (iblk m c 0 t) (iblk m c 1 t) (iblk m c 2 t) (ix2 b j) = G m c (ix2 b ⟨1536 * t.val + j.val, by have := lt t; omega⟩) := by
  unfold out0_3
  rw [View.canon_unit_zero (S := S32x1536) (by funext a; fin_cases a <;> rfl)]
  refine (pay1_at _ _ _ b j).trans ?_
  have e0 : ∀ k : Fin 1024, View.ld (iblk m c 0 t) r0_0 (ix2 b k) = m ((c : Thread nD τ).loc main_arg0) (ix2 b k) := by
    intro k
    pointwise
    exact (congrArg _ (by blk_ext)).trans ((blk0 m c t b k).trans (congrFun (V_main_arg0 m c) _))
  have e1 : ∀ k : Fin 1024, View.ld (iblk m c 1 t) r0_1 (ix2 k j) = m ((c : Thread nD τ).loc main_arg1) (ix2 k ⟨1536 * t.val + j.val, by have := lt t; omega⟩) := by
    intro k
    pointwise
    exact (congrArg _ (by blk_ext)).trans ((blk1 m c t k j).trans (congrFun (V_main_arg1 m c) _))
  have e2 : View.ld (iblk m c 2 t) r0_2 (ix2 0 j) = m ((c : Thread nD τ).loc main_arg2) (ix1 ⟨1536 * t.val + j.val, by have := lt t; omega⟩) := by
    pointwise
    exact (congrArg _ (by blk_ext)).trans ((blk2 m c t j).trans (v0_at m c _))
  unfold ada
  simp only [e0, e1, e2]
  rfl

/-- The result array after the run. -/
theorem final : (dats m 0 c).arrAt 3 (cfgs 0).N = G m c := by
  refine (dats m 0 c).arrAt_eq_of_covers 3 _ (by decide +kernel) fun t _ y => ?_
  blk_simp
  rw [after0_3]
  obtain ⟨b, j, rfl⟩ : ∃ (b : Fin 32) (j : Fin 1536), y = (ix2 b j : S32x1536.Idx) := ⟨y 0, y 1, by funext a; fin_cases a <;> rfl⟩
  rw [emb3]
  exact point m c t b j

end Cert.Kernel5Ideal.Ada

end
-- ==== Proof.AdaClaims.lean ====
/- The claims about the modulation call. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.AdaOut
public import Idealize.ShloMosaic.Adequacy
public import Idealize.ShloMosaic.Init

@[expose] public section

set_option maxRecDepth 16384

noncomputable section

open Idealize.ShloMosaic Idealize.ShloMosaic.TcCoe Idealize.SL.Sem

namespace Cert.Reference5Ideal.Ada

open Cert.Reference5Ideal Cert.Reference5Ideal.Read

/-- The reference's result, entry by entry. -/
theorem v4_at (x0 : FVec Ideal S32x1024 .f32) (x1 : FVec Ideal S1024x6144 .f32) (x2 : FVec Ideal S6144 .f32) (b : Fin 32) (j : Fin 6144) :
    val_main_v4 (F := Ideal) x0 x1 x2 (ix2 b j) = Cert.Layer.ada (fun k => x0 (ix2 b k)) (fun k => x1 (ix2 k j)) (x2 (ix1 j)) := by
  unfold val_main_v4 val_main_v3 val_main_v2 val_main_v1 val_main_v0 val_main_call0_v5 val_main_call0_v4 val_main_call0_cst_0 val_main_call0_v3 val_main_call0_v2
    val_main_call0_cst val_main_call0_v1 val_main_call0_v0
  pointwise [Cert.Layer.ada, Ideal.logistic] <;> rfl

end Cert.Reference5Ideal.Ada

namespace Cert.Proof.Ada

theorem frame_Kernel5 : Cert.quiescent_Kernel5 (hKernel5 := Cert.Kernel5.Gen.facts) := fun m ρ _ => Cert.Kernel5.Gen.frame m ρ

theorem frame_Kernel5Ideal : Cert.quiescent_Kernel5Ideal (hKernel5Ideal := Cert.Kernel5Ideal.Gen.facts) := fun m ρ _ => Cert.Kernel5Ideal.Gen.frame m ρ

theorem frame_Reference5Ideal : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves5 : Cert.preserves_Kernel5_Kernel5Ideal := trivial

/-- The reference's result on the kernel's arguments is the kernel's. -/
theorem value_eq (m : (ℓ : Loc Cert.Kernel5Ideal.nD Cert.Kernel5Ideal.τ Cert.Kernel5Ideal.sig) → Buf (Elt Ideal) ℓ) (c : Dev Cert.Kernel5Ideal.nD) :
    Cert.Reference5Ideal.Read.val_main_v4 (F := Ideal)
        (m ((c.tc : Thread Cert.Kernel5Ideal.nD Cert.Kernel5Ideal.τ).loc Cert.Kernel5Ideal.main_arg0))
        (m ((c.tc : Thread Cert.Kernel5Ideal.nD Cert.Kernel5Ideal.τ).loc Cert.Kernel5Ideal.main_arg1))
        (m ((c.tc : Thread Cert.Kernel5Ideal.nD Cert.Kernel5Ideal.τ).loc Cert.Kernel5Ideal.main_arg2))
      = Cert.Kernel5Ideal.Ada.G m c := by
  funext i
  obtain ⟨b, j, rfl⟩ : ∃ (b : Fin 32) (j : Fin 6144), i = ix2 b j := ⟨i 0, i 1, by funext a; fin_cases a <;> rfl⟩
  exact Cert.Reference5Ideal.Ada.v4_at _ _ _ b j

/-- The two programs' results are equal. -/
theorem algebraic5 : Cert.algebraic_Kernel5Ideal_Reference5Ideal (hKernel5Ideal := Cert.Kernel5Ideal.Gen.facts)
    (hReference5Ideal := Cert.Reference5Ideal.Gen.facts) := by
  intro m g m' g' _ ha
  refine ⟨fun c => Cert.Kernel5Ideal.Ada.G m c, ?_, ?_⟩
  · exact (θ_run Cert.Kernel5Ideal.defs _ _).mono (fun r h c => ⟨(h c).1.trans (Cert.Kernel5Ideal.Ada.final m c), (h c).2⟩)
      (Cert.Kernel5Ideal.Value.run_blocks (F := Ideal) m g)
  · refine (θ_run Cert.Reference5Ideal.defs _ _).mono (fun r h c => ⟨(h c).1.trans ?_, (h c).2⟩) (Cert.Reference5Ideal.Value.run (F := Ideal) m' g')
    obtain ⟨e0, e1, e2⟩ := ha c
    rw [e0, e1, e2]
    exact (Cert.Reference5Ideal.Read.val_main_v4_eq _ _ _).trans (value_eq m c)

end Cert.Proof.Ada

end
-- ==== Proof.lean ====
/- The proof of the certificate's claim; its parts are in the modules under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Claims
public import proofs.«01_k».proof.Proof.FfnClaims
public import proofs.«01_k».proof.Proof.MixClaims
public import proofs.«01_k».proof.Proof.InprojClaims
public import proofs.«01_k».proof.Proof.AdaClaims
public import Idealize.ShloMosaic.Adequacy
public import Idealize.ShloMosaic.Init

@[expose] public section

noncomputable section

-- The frames of the programs also say that every semaphore counter ends at zero; the proofs show that too.

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, preFacts, Inproj.preFacts4,
    frame_Kernel, frame_KernelIdeal, frame_KernelIdeal_finite, frame_ReferenceIdeal, frame_ReferenceIdeal_finite,
    Ffn.frame_Kernel2, Ffn.frame_Kernel2Ideal, Ffn.frame_Reference2Ideal,
    Mix.frame_Kernel3, Mix.frame_Kernel3Ideal, Mix.frame_Reference3Ideal,
    Inproj.frame_Kernel4, Inproj.frame_Kernel4Ideal, Inproj.frame_Kernel4Ideal_finite4, Inproj.frame_Reference4Ideal, Inproj.frame_Reference4Ideal_finite4,
    Ada.frame_Kernel5, Ada.frame_Kernel5Ideal, Ada.frame_Reference5Ideal,
    preserves, algebraic, Ffn.preserves2, Ffn.algebraic2, Mix.preserves3, Mix.algebraic3, Inproj.preserves4, Inproj.algebraic4,
    Ada.preserves5, Ada.algebraic5⟩

end Cert.Proof

end
